-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tiles_in_range : Cert.Pre_tiles_in_range.Facts] (m : (ℓ : Loc Cert.Kernel2.nD Cert.Kernel2.τ Cert.Kernel2.sig) → Buf (Elt Bits) ℓ) : Prop :=
  ∀ c : Dev Cert.Kernel2.nD,
    (Cert.Pre_tiles_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tiles_in_range : Cert.Pre_tiles_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_in_range [hPre_tiles_in_range : Cert.Pre_tiles_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_tiles_in_range : Cert.Pre_tiles_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tiles_in_range : Cert.Pre_tiles_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tiles_in_range [hReference2Ideal : Cert.Reference2Ideal.Facts] [hPre_tiles_in_range : Cert.Pre_tiles_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] [hPre_tiles_in_range : Cert.Pre_tiles_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v131) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v9)) (v1 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_v11) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)) (v1 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_v5) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)) (v1 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_v6) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v249) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_tiles_in_range : Cert.Pre_tiles_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tiles_in_range := hPre_tiles_in_range)
    ∧ quiescent_Kernel2Ideal (hKernel2Ideal := hKernel2Ideal) (hPre_tiles_in_range := hPre_tiles_in_range)
    ∧ quiescent_Reference2Ideal (hReference2Ideal := hReference2Ideal)
    ∧ quiescent_Reference2Ideal_pre_tiles_in_range (hReference2Ideal := hReference2Ideal) (hPre_tiles_in_range := hPre_tiles_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ preserves_Kernel2_Kernel2Ideal
    ∧ algebraic_Kernel2Ideal_Reference2Ideal (hKernel2Ideal := hKernel2Ideal) (hReference2Ideal := hReference2Ideal) (hPre_tiles_in_range := hPre_tiles_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_tiles_in_range.lean ====
abbrev S72 : Shape := ⟨1, ![72]⟩
abbrev S36864x1024 : Shape := ⟨2, ![36864, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S72 32) (main_arg2 : FVec F S36864x1024 .f32) (main_arg3 : FVec F S8x1024x2816 .f32) (main_arg4 : FVec F S8x1024x2816 .f32) (main_arg5 : FVec F S8x2816x1024 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Kernel.lean ====
abbrev S32x16 : Shape := ⟨2, ![32, 16]⟩
abbrev S32x8x1152 : Shape := ⟨3, ![32, 8, 1152]⟩
abbrev S32x256x512 : Shape := ⟨3, ![32, 256, 512]⟩
abbrev S32x512x640 : Shape := ⟨3, ![32, 512, 640]⟩
abbrev S32x8x1024 : Shape := ⟨3, ![32, 8, 1024]⟩
abbrev S1x8x1152 : Shape := ⟨3, ![1, 8, 1152]⟩
abbrev S1x256x512 : Shape := ⟨3, ![1, 256, 512]⟩
abbrev S1x512x640 : Shape := ⟨3, ![1, 512, 640]⟩
abbrev S1x8x1024 : Shape := ⟨3, ![1, 8, 1024]⟩
abbrev S1x256 : Shape := ⟨2, ![1, 256]⟩
abbrev S1x8x128 : Shape := ⟨3, ![1, 8, 128]⟩
abbrev S8x128 : Shape := ⟨2, ![8, 128]⟩
abbrev S1x8x256 : Shape := ⟨3, ![1, 8, 256]⟩
abbrev S8x256 : Shape := ⟨2, ![8, 256]⟩
abbrev S128x256 : Shape := ⟨2, ![128, 256]⟩
abbrev S8x1 : Shape := ⟨2, ![8, 1]⟩
abbrev S1x256x256 : Shape := ⟨3, ![1, 256, 256]⟩
abbrev S256x256 : Shape := ⟨2, ![256, 256]⟩
abbrev S1x1 : Shape := ⟨2, ![1, 1]⟩
abbrev S128 : Shape := ⟨1, ![128]⟩
abbrev S128x1 : Shape := ⟨2, ![128, 1]⟩
abbrev S32x256 : Shape := ⟨2, ![32, 256]⟩
abbrev S32x1 : Shape := ⟨2, ![32, 1]⟩
abbrev S32 : Shape := ⟨1, ![32]⟩
abbrev S1x640 : Shape := ⟨2, ![1, 640]⟩
abbrev S8x640 : Shape := ⟨2, ![8, 640]⟩
abbrev S1x256x640 : Shape := ⟨3, ![1, 256, 640]⟩
abbrev S256x640 : Shape := ⟨2, ![256, 640]⟩
abbrev S128x640 : Shape := ⟨2, ![128, 640]⟩

abbrev nBuf : Space → Nat
  | .hbm => 6
  | .vmem => 10
  | .smem => 1
  | _ => 0

abbrev bufTy : (tb : Table) → Fin (tcTables nBuf tb) → BufTy
  | .hbm, ⟨0, _⟩ => ⟨S32x16, .f32⟩
  | .hbm, ⟨1, _⟩ => ⟨S32x8x1152, .f32⟩
  | .hbm, ⟨2, _⟩ => ⟨S32x256x512, .f32⟩
  | .hbm, ⟨3, _⟩ => ⟨S32x512x640, .f32⟩
  | .hbm, ⟨4, _⟩ => ⟨S32x8x1024, .f32⟩
  | .hbm, ⟨5, _⟩ => ⟨S32x8x1024, .f32⟩
  | .local _ .vmem, ⟨0, _⟩ => ⟨S1x8x1152, .f32⟩
  | .local _ .vmem, ⟨1, _⟩ => ⟨S1x8x1152, .f32⟩
  | .local _ .vmem, ⟨2, _⟩ => ⟨S1x256x512, .f32⟩
  | .local _ .vmem, ⟨3, _⟩ => ⟨S1x256x512, .f32⟩
  | .local _ .vmem, ⟨4, _⟩ => ⟨S1x512x640, .f32⟩
  | .local _ .vmem, ⟨5, _⟩ => ⟨S1x512x640, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x16 : Shape := ⟨2, ![32, 16]⟩
abbrev S32x8x1152 : Shape := ⟨3, ![32, 8, 1152]⟩
abbrev S32x256x512 : Shape := ⟨3, ![32, 256, 512]⟩
abbrev S32x512x640 : Shape := ⟨3, ![32, 512, 640]⟩
abbrev S32x8x1024 : Shape := ⟨3, ![32, 8, 1024]⟩
abbrev S32x8x4x4x64 : Shape := ⟨5, ![32, 8, 4, 4, 64]⟩
abbrev S_ : Shape := ⟨0, ![]⟩
abbrev S32x8x48 : Shape := ⟨3, ![32, 8, 48]⟩
abbrev S32x8x4x3x4 : Shape := ⟨5, ![32, 8, 4, 3, 4]⟩
abbrev S32x8x4x4x3 : Shape := ⟨5, ![32, 8, 4, 4, 3]⟩
abbrev S32x256x2x4x64 : Shape := ⟨5, ![32, 256, 2, 4, 64]⟩
abbrev S32x256x1x4x64 : Shape := ⟨5, ![32, 256, 1, 4, 64]⟩
abbrev S32x256x4x64 : Shape := ⟨4, ![32, 256, 4, 64]⟩
abbrev S32x512x516 : Shape := ⟨3, ![32, 512, 516]⟩
abbrev S32x2x4x64x516 : Shape := ⟨5, ![32, 2, 4, 64, 516]⟩
abbrev S32x516x2x4x64 : Shape := ⟨5, ![32, 516, 2, 4, 64]⟩
abbrev S32x516x1x4x64 : Shape := ⟨5, ![32, 516, 1, 4, 64]⟩
abbrev S32x516x4x64 : Shape := ⟨4, ![32, 516, 4, 64]⟩
abbrev S8 : Shape := ⟨1, ![8]⟩
abbrev S516 : Shape := ⟨1, ![516]⟩
abbrev S256 : Shape := ⟨1, ![256]⟩
abbrev S32x4x256x8x4 : Shape := ⟨5, ![32, 4, 256, 8, 4]⟩
abbrev S32x4x4x8x256 : Shape := ⟨5, ![32, 4, 4, 8, 256]⟩
abbrev S8x1 : Shape := ⟨2, ![8, 1]⟩
abbrev S1x256 : Shape := ⟨2, ![1, 256]⟩
abbrev S8x256 : Shape := ⟨2, ![8, 256]⟩
abbrev S8x256x1 : Shape := ⟨3, ![8, 256, 1]⟩
abbrev S8x256x16 : Shape := ⟨3, ![8, 256, 16]⟩
abbrev S16x8x256 : Shape := ⟨3, ![16, 8, 256]⟩
abbrev S4x4x8x256 : Shape := ⟨4, ![4, 4, 8, 256]⟩
abbrev S1x4x4x8x256 : Shape := ⟨5, ![1, 4, 4, 8, 256]⟩
abbrev S32x4x4x8 : Shape := ⟨4, ![32, 4, 4, 8]⟩
abbrev S32x4x4x8x1 : Shape := ⟨5, ![32, 4, 4, 8, 1]⟩
abbrev S32x4x64x4x8 : Shape := ⟨5, ![32, 4, 64, 4, 8]⟩
abbrev S1x516 : Shape := ⟨2, ![1, 516]⟩
abbrev S8x516 : Shape := ⟨2, ![8, 516]⟩
abbrev S32x4x516x8x4 : Shape := ⟨5, ![32, 4, 516, 8, 4]⟩
abbrev S32x4x4x8x516 : Shape := ⟨5, ![32, 4, 4, 8, 516]⟩
abbrev S8x516x1 : Shape := ⟨3, ![8, 516, 1]⟩
abbrev S8x516x16 : Shape := ⟨3, ![8, 516, 16]⟩
abbrev S16x8x516 : Shape := ⟨3, ![16, 8, 516]⟩
abbrev S4x4x8x516 : Shape := ⟨4, ![4, 4, 8, 516]⟩
abbrev S1x4x4x8x516 : Shape := ⟨5, ![1, 4, 4, 8, 516]⟩
abbrev S32x8x4x4x1 : Shape := ⟨5, ![32, 8, 4, 4, 1]⟩

abbrev nBuf : Space → Nat
  | .hbm => 230
  | .vmem => 0
  | .smem => 0
  | _ => 0

abbrev hbmTy0_0 (i : Nat) : BufTy := match i % 128 with
  | 0 => ⟨S32x16, .f32⟩
  | 1 => ⟨S32x8x1152, .f32⟩
  | 2 => ⟨S32x256x512, .f32⟩
  | 3 => ⟨S32x512x640, .f32⟩
  | 4 => ⟨S32x8x1024, .f32⟩
  | 5 => ⟨S32x8x4x4x64, .f32⟩
  | 6 => ⟨S32x8x4x4x64, .f32⟩
  | 7 => ⟨S_, .f32⟩
  | 8 => ⟨S32x8x4x4x64, .f32⟩
  | 9 => ⟨S32x8x4x4x64, .f32⟩
  | 10 => ⟨S32x8x48, .f32⟩
  | 11 => ⟨S32x8x48, .f32⟩
  | 12 => ⟨S32x8x48, .f32⟩
  | 13 => ⟨S_, .f32⟩
  | 14 => ⟨S32x8x48, .f32⟩
  | 15 => ⟨S32x8x48, .f32⟩
  | 16 => ⟨S_, .f32⟩
  | 17 => ⟨S32x8x48, .f32⟩
  | 18 => ⟨S32x8x48, .f32⟩
  | 19 => ⟨S32x8x4x3x4, .f32⟩
  | 20 => ⟨S32x8x4x4x3, .f32⟩
  | 21 => ⟨S32x256x2x4x64, .f32⟩
  | 22 => ⟨S32x256x1x4x64, .f32⟩
  | 23 => ⟨S32x256x4x64, .f32⟩
  | 24 => ⟨S32x256x1x4x64, .f32⟩
  | 25 => ⟨S32x256x4x64, .f32⟩
  | 26 => ⟨S32x512x516, .f32⟩
  | 27 => ⟨S32x2x4x64x516, .f32⟩
  | 28 => ⟨S32x516x2x4x64, .f32⟩
  | 29 => ⟨S32x516x1x4x64, .f32⟩
  | 30 => ⟨S32x516x4x64, .f32⟩
  | 31 => ⟨S32x516x1x4x64, .f32⟩
  | 32 => ⟨S32x516x4x64, .f32⟩
  | 33 => ⟨S8, .i32⟩
  | 34 => ⟨S_, .i32⟩
  | 35 => ⟨S8, .i32⟩
  | 36 => ⟨S8, .i32⟩
  | 37 => ⟨S516, .i32⟩
  | 38 => ⟨S_, .i32⟩
  | 39 => ⟨S516, .i32⟩
  | 40 => ⟨S516, .i32⟩
  | 41 => ⟨S256, .i32⟩
  | 42 => ⟨S_, .i32⟩
  | 43 => ⟨S256, .i32⟩
  | 44 => ⟨S256, .i32⟩
  | 45 => ⟨S_, .i32⟩
  | 46 => ⟨S256, .i32⟩
  | 47 => ⟨S256, .i32⟩
  | 48 => ⟨S32x4x256x8x4, .f32⟩
  | 49 => ⟨S32x4x4x8x256, .f32⟩
  | 50 => ⟨S8x1, .i32⟩
  | 51 => ⟨S1x256, .i32⟩
  | 52 => ⟨S8x256, .i32⟩
  | 53 => ⟨S8x256, .i32⟩
  | 54 => ⟨S8x256, .i32⟩
  | 55 => ⟨S_, .i32⟩
  | 56 => ⟨S8x256, .i32⟩
  | 57 => ⟨S8x256, .i32⟩
  | 58 => ⟨S_, .i32⟩
  | 59 => ⟨S8x256, .i32⟩
  | 60 => ⟨S8x256, .i32⟩
  | 61 => ⟨S8x256, .f32⟩
  | 62 => ⟨S_, .f32⟩
  | 63 => ⟨S8x256, .f32⟩
  | 64 => ⟨S8x256, .f32⟩
  | 65 => ⟨S8x256, .f32⟩
  | 66 => ⟨S_, .f32⟩
  | 67 => ⟨S8x256, .f32⟩
  | 68 => ⟨S8x256, .f32⟩
  | 69 => ⟨S_, .f32⟩
  | 70 => ⟨S8x256, .f32⟩
  | 71 => ⟨S8x256, .f32⟩
  | 72 => ⟨S8x256, .i32⟩
  | 73 => ⟨S_, .i32⟩
  | 74 => ⟨S8x256, .i32⟩
  | 75 => ⟨S8x256, .i32⟩
  | 76 => ⟨S_, .i32⟩
  | 77 => ⟨S8x256, .i32⟩
  | 78 => ⟨S8x256, .i1⟩
  | 79 => ⟨S_, .i32⟩
  | 80 => ⟨S8x256, .i32⟩
  | 81 => ⟨S8x256, .i32⟩
  | 82 => ⟨S8x256, .i32⟩
  | 83 => ⟨S_, .i32⟩
  | 84 => ⟨S8x256, .i32⟩
  | 85 => ⟨S8x256, .i1⟩
  | 86 => ⟨S_, .i32⟩
  | 87 => ⟨S8x256, .i32⟩
  | 88 => ⟨S8x256, .i32⟩
  | 89 => ⟨S8x256, .i32⟩
  | 90 => ⟨S8x256x1, .i32⟩
  | 91 => ⟨S8x256x16, .f32⟩
  | 92 => ⟨S16x8x256, .f32⟩
  | 93 => ⟨S4x4x8x256, .f32⟩
  | 94 => ⟨S1x4x4x8x256, .f32⟩
  | 95 => ⟨S32x4x4x8x256, .f32⟩
  | 96 => ⟨S32x4x4x8x256, .f32⟩
  | 97 => ⟨S1x256, .i32⟩
  | 98 => ⟨S8x1, .i32⟩
  | 99 => ⟨S8x256, .i32⟩
  | 100 => ⟨S8x256, .i32⟩
  | 101 => ⟨S8x256, .i1⟩
  | 102 => ⟨S_, .f32⟩
  | 103 => ⟨S_, .f32⟩
  | 104 => ⟨S32x4x4x8x256, .i1⟩
  | 105 => ⟨S32x4x4x8x256, .f32⟩
  | 106 => ⟨S32x4x4x8x256, .f32⟩
  | 107 => ⟨S_, .f32⟩
  | 108 => ⟨S32x4x4x8, .f32⟩
  | 109 => ⟨S32x4x4x8x1, .f32⟩
  | 110 => ⟨S32x4x4x8x256, .f32⟩
  | 111 => ⟨S32x4x4x8x256, .f32⟩
  | 112 => ⟨S32x4x4x8x256, .f32⟩
  | 113 => ⟨S_, .f32⟩
  | 114 => ⟨S_, .f32⟩
  | 115 => ⟨S32x4x4x8x256, .i1⟩
  | 116 => ⟨S32x4x4x8x256, .f32⟩
  | 117 => ⟨S32x4x4x8x256, .f32⟩
  | 118 => ⟨S_, .f32⟩
  | 119 => ⟨S32x4x4x8, .f32⟩
  | 120 => ⟨S32x4x4x8x1, .f32⟩
  | 121 => ⟨S_, .f32⟩
  | 122 => ⟨S32x4x4x8x1, .f32⟩
  | 123 => ⟨S32x4x4x8x1, .f32⟩
  | 124 => ⟨S32x4x4x8x256, .f32⟩
  | 125 => ⟨S32x4x4x8x256, .f32⟩
  | 126 => ⟨S32x4x64x4x8, .f32⟩
  | 127 => ⟨S32x8x4x4x64, .f32⟩
  | _ => ⟨S32x16, .f32⟩

abbrev hbmTy0_1 (i : Nat) : BufTy := match i % 128 with
  | 0 => ⟨S8x1, .i32⟩
  | 1 => ⟨S1x516, .i32⟩
  | 2 => ⟨S8x516, .i32⟩
  | 3 => ⟨S8x516, .i32⟩
  | 4 => ⟨S8x516, .i32⟩
  | 5 => ⟨S_, .i32⟩
  | 6 => ⟨S8x516, .i32⟩
  | 7 => ⟨S8x516, .i1⟩
  | 8 => ⟨S_, .i32⟩
  | 9 => ⟨S8x516, .i32⟩
  | 10 => ⟨S8x516, .i1⟩
  | 11 => ⟨S8x516, .i1⟩
  | 12 => ⟨S1x516, .i32⟩
  | 13 => ⟨S_, .i32⟩
  | 14 => ⟨S1x516, .i32⟩
  | 15 => ⟨S1x516, .i1⟩
  | 16 => ⟨S8x516, .i1⟩
  | 17 => ⟨S8x516, .i1⟩
  | 18 => ⟨S32x4x516x8x4, .f32⟩
  | 19 => ⟨S32x4x4x8x516, .f32⟩
  | 20 => ⟨S8x1, .i32⟩
  | 21 => ⟨S1x516, .i32⟩
  | 22 => ⟨S8x516, .i32⟩
  | 23 => ⟨S8x516, .i32⟩
  | 24 => ⟨S8x516, .i32⟩
  | 25 => ⟨S_, .i32⟩
  | 26 => ⟨S8x516, .i32⟩
  | 27 => ⟨S8x516, .i32⟩
  | 28 => ⟨S_, .i32⟩
  | 29 => ⟨S8x516, .i32⟩
  | 30 => ⟨S8x516, .i32⟩
  | 31 => ⟨S8x516, .f32⟩
  | 32 => ⟨S_, .f32⟩
  | 33 => ⟨S8x516, .f32⟩
  | 34 => ⟨S8x516, .f32⟩
  | 35 => ⟨S8x516, .f32⟩
  | 36 => ⟨S_, .f32⟩
  | 37 => ⟨S8x516, .f32⟩
  | 38 => ⟨S8x516, .f32⟩
  | 39 => ⟨S_, .f32⟩
  | 40 => ⟨S8x516, .f32⟩
  | 41 => ⟨S8x516, .f32⟩
  | 42 => ⟨S8x516, .i32⟩
  | 43 => ⟨S_, .i32⟩
  | 44 => ⟨S8x516, .i32⟩
  | 45 => ⟨S8x516, .i32⟩
  | 46 => ⟨S_, .i32⟩
  | 47 => ⟨S8x516, .i32⟩
  | 48 => ⟨S8x516, .i1⟩
  | 49 => ⟨S_, .i32⟩
  | 50 => ⟨S8x516, .i32⟩
  | 51 => ⟨S8x516, .i32⟩
  | 52 => ⟨S8x516, .i32⟩
  | 53 => ⟨S_, .i32⟩
  | 54 => ⟨S8x516, .i32⟩
  | 55 => ⟨S8x516, .i1⟩
  | 56 => ⟨S_, .i32⟩
  | 57 => ⟨S8x516, .i32⟩
  | 58 => ⟨S8x516, .i32⟩
  | 59 => ⟨S8x516, .i32⟩
  | 60 => ⟨S8x516x1, .i32⟩
  | 61 => ⟨S8x516x16, .f32⟩
  | 62 => ⟨S16x8x516, .f32⟩
  | 63 => ⟨S4x4x8x516, .f32⟩
  | 64 => ⟨S1x4x4x8x516, .f32⟩
  | 65 => ⟨S32x4x4x8x516, .f32⟩
  | 66 => ⟨S32x4x4x8x516, .f32⟩
  | 67 => ⟨S_, .f32⟩
  | 68 => ⟨S_, .f32⟩
  | 69 => ⟨S32x4x4x8x516, .i1⟩
  | 70 => ⟨S32x4x4x8x516, .f32⟩
  | 71 => ⟨S32x4x4x8x516, .f32⟩
  | 72 => ⟨S_, .f32⟩
  | 73 => ⟨S32x4x4x8, .f32⟩
  | 74 => ⟨S32x4x4x8x1, .f32⟩
  | 75 => ⟨S32x4x4x8x516, .f32⟩
  | 76 => ⟨S32x4x4x8x516, .f32⟩
  | 77 => ⟨S32x4x4x8x516, .f32⟩
  | 78 => ⟨S_, .f32⟩
  | 79 => ⟨S_, .f32⟩
  | 80 => ⟨S32x4x4x8x516, .i1⟩
  | 81 => ⟨S32x4x4x8x516, .f32⟩
  | 82 => ⟨S32x4x4x8x516, .f32⟩
  | 83 => ⟨S_, .f32⟩
  | 84 => ⟨S32x4x4x8, .f32⟩
  | 85 => ⟨S32x4x4x8x1, .f32⟩
  | 86 => ⟨S_, .f32⟩
  | 87 => ⟨S32x4x4x8x1, .f32⟩
  | 88 => ⟨S32x4x4x8x1, .f32⟩
  | 89 => ⟨S32x4x4x8x516, .f32⟩
  | 90 => ⟨S32x4x4x8x516, .f32⟩
  | 91 => ⟨S32x4x64x4x8, .f32⟩
  | 92 => ⟨S32x8x4x4x64, .f32⟩
  | 93 => ⟨S32x8x4x4x1, .f32⟩
  | 94 => ⟨S32x8x4x4x64, .f32⟩
  | 95 => ⟨S32x8x4x4x64, .f32⟩
  | 96 => ⟨S32x8x4x4x1, .f32⟩
  | 97 => ⟨S32x8x4x4x64, .f32⟩
  | 98 => ⟨S32x8x4x4x64, .f32⟩
  | 99 => ⟨S32x8x4x4x64, .f32⟩
  | 100 => ⟨S32x8x4x4x64, .f32⟩
  | 101 => ⟨S32x8x1024, .f32⟩
  | _ => ⟨S32x16, .f32⟩

abbrev hbmTy (i : Nat) : BufTy := match i / 128 with
  | 0 => hbmTy0_0 i
  | 1 => hbmTy0_1 i
  | _ => ⟨S32x16, .f32⟩

abbrev bufTy : (tb : Table) → Fin (tcTables nBuf tb) → BufTy
  | .hbm, ⟨i, _⟩ => hbmTy i
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_10 : Ref sig .tc := ⟨.hbm, 73, rfl⟩
abbrev main_v57 : Ref sig .tc := ⟨.hbm, 74, rfl⟩
abbrev main_v58 : Ref sig .tc := ⟨.hbm, 75, rfl⟩
abbrev main_c_11 : Ref sig .tc := ⟨.hbm, 76, rfl⟩
abbrev main_v59 : Ref sig .tc := ⟨.hbm, 77, rfl⟩
abbrev main_v60 : Ref sig .tc := ⟨.hbm, 78, rfl⟩
abbrev main_c_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_13 : Ref sig .tc := ⟨.hbm, 83, rfl⟩
abbrev main_v64 : Ref sig .tc := ⟨.hbm, 84, rfl⟩
abbrev main_v65 : Ref sig .tc := ⟨.hbm, 85, rfl⟩
abbrev main_c_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_15 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_17 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_20 : Ref sig .tc := ⟨.hbm, 133, rfl⟩
abbrev main_v101 : Ref sig .tc := ⟨.hbm, 134, rfl⟩
abbrev main_v102 : Ref sig .tc := ⟨.hbm, 135, rfl⟩
abbrev main_c_21 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_c_22 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_c_23 : Ref sig .tc := ⟨.hbm, 153, rfl⟩
abbrev main_v118 : Ref sig .tc := ⟨.hbm, 154, rfl⟩
abbrev main_v119 : Ref sig .tc := ⟨.hbm, 155, rfl⟩
abbrev main_c_24 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_25 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_26 : Ref sig .tc := ⟨.hbm, 164, rfl⟩
abbrev main_v126 : Ref sig .tc := ⟨.hbm, 165, rfl⟩
abbrev main_v127 : Ref sig .tc := ⟨.hbm, 166, rfl⟩
abbrev main_cst_27 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_c_28 : Ref sig .tc := ⟨.hbm, 171, rfl⟩
abbrev main_v131 : Ref sig .tc := ⟨.hbm, 172, rfl⟩
abbrev main_v132 : Ref sig .tc := ⟨.hbm, 173, rfl⟩
abbrev main_c_29 : Ref sig .tc := ⟨.hbm, 174, rfl⟩
abbrev main_v133 : Ref sig .tc := ⟨.hbm, 175, rfl⟩
abbrev main_v134 : Ref sig .tc := ⟨.hbm, 176, rfl⟩
abbrev main_c_30 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_c_31 : Ref sig .tc := ⟨.hbm, 181, rfl⟩
abbrev main_v138 : Ref sig .tc := ⟨.hbm, 182, rfl⟩
abbrev main_v139 : Ref sig .tc := ⟨.hbm, 183, rfl⟩
abbrev main_c_32 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_33 : Ref sig .tc := ⟨.hbm, 195, rfl⟩
abbrev main_call4_v0 : Ref sig .tc := ⟨.hbm, 196, rfl⟩
abbrev main_call4_v1 : Ref sig .tc := ⟨.hbm, 197, rfl⟩
abbrev main_call4_v2 : Ref sig .tc := ⟨.hbm, 198, rfl⟩
abbrev main_v150 : Ref sig .tc := ⟨.hbm, 199, rfl⟩
abbrev main_cst_34 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_35 : Ref sig .tc := ⟨.hbm, 206, rfl⟩
abbrev main_call5_v0 : Ref sig .tc := ⟨.hbm, 207, rfl⟩
abbrev main_call5_v1 : Ref sig .tc := ⟨.hbm, 208, rfl⟩
abbrev main_call5_v2 : Ref sig .tc := ⟨.hbm, 209, rfl⟩
abbrev main_v156 : Ref sig .tc := ⟨.hbm, 210, rfl⟩
abbrev main_cst_36 : Ref sig .tc := ⟨.hbm, 211, rfl⟩
abbrev main_v157 : Ref sig .tc := ⟨.hbm, 212, rfl⟩
abbrev main_v158 : Ref sig .tc := ⟨.hbm, 213, rfl⟩
abbrev main_cst_37 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩

abbrev nD : Nat := 1
abbrev τ : Topo := Topo.v7x

variable {F : FTy → Type} [FloatOps F]
-- ==== Kernel2.lean ====
abbrev S72 : Shape := ⟨1, ![72]⟩
abbrev S36864x1024 : Shape := ⟨2, ![36864, 1024]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x2816 : Shape := ⟨3, ![1, 1024, 2816]⟩
abbrev S1 : Shape := ⟨1, ![1]⟩
abbrev S1x2816x1024 : Shape := ⟨3, ![1, 2816, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 5
  | .vmem => 7
  | .smem => 2
  | _ => 0

abbrev bufTy : (tb : Table) → Fin (tcTables nBuf tb) → BufTy
  | .hbm, ⟨0, _⟩ => ⟨S36864x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .f32⟩
  | .local _ .vmem, ⟨3, _⟩ => ⟨S1x1024x2816, .f32⟩
  | .local _ .vmem, ⟨4, _⟩ => ⟨S1x2816x1024, .f32⟩
  | .local _ .vmem, ⟨5, _⟩ => ⟨S512x1024, .f32⟩
  | .local _ .vmem, ⟨6, _⟩ => ⟨S512x1024, .f32⟩
  | .local _ .smem, ⟨0, _⟩ => ⟨S72, .i32⟩
  | .local _ .smem, ⟨1, _⟩ => ⟨S72, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![72], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S72 : Shape := ⟨1, ![72]⟩
abbrev S36864x1024 : Shape := ⟨2, ![36864, 1024]⟩
abbrev S8x1024x2816 : Shape := ⟨3, ![8, 1024, 2816]⟩
abbrev S8x2816x1024 : Shape := ⟨3, ![8, 2816, 1024]⟩
abbrev S72x512 : Shape := ⟨2, ![72, 512]⟩
abbrev S36864 : Shape := ⟨1, ![36864]⟩
abbrev S_ : Shape := ⟨0, ![]⟩
abbrev S36864x1 : Shape := ⟨2, ![36864, 1]⟩
abbrev S1x8 : Shape := ⟨2, ![1, 8]⟩
abbrev S36864x8 : Shape := ⟨2, ![36864, 8]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S36864x2816 : Shape := ⟨2, ![36864, 2816]⟩

abbrev nBuf : Space → Nat
  | .hbm => 209
  | .vmem => 0
  | .smem => 0
  | _ => 0

abbrev hbmTy0_0 (i : Nat) : BufTy := match i % 128 with
  | 0 => ⟨S72, .i32⟩
  | 1 => ⟨S72, .i32⟩
  | 2 => ⟨S36864x1024, .f32⟩
  | 3 => ⟨S8x1024x2816, .f32⟩
  | 4 => ⟨S8x1024x2816, .f32⟩
  | 5 => ⟨S8x2816x1024, .f32⟩
  | 6 => ⟨S72x512, .i32⟩
  | 7 => ⟨S36864, .i32⟩
  | 8 => ⟨S72x512, .i32⟩
  | 9 => ⟨S36864, .i32⟩
  | 10 => ⟨S_, .i32⟩
  | 11 => ⟨S36864, .i32⟩
  | 12 => ⟨S36864, .i1⟩
  | 13 => ⟨S36864x1, .i32⟩
  | 14 => ⟨S1x8, .i32⟩
  | 15 => ⟨S36864x8, .i32⟩
  | 16 => ⟨S36864x8, .i32⟩
  | 17 => ⟨S36864x8, .i1⟩
  | 18 => ⟨S36864x8, .f32⟩
  | 19 => ⟨S36864x1, .i1⟩
  | 20 => ⟨S36864x1, .f32⟩
  | 21 => ⟨S36864x8, .f32⟩
  | 22 => ⟨S36864x8, .f32⟩
  | 23 => ⟨S_, .f32⟩
  | 24 => ⟨S36864x1024, .f32⟩
  | 25 => ⟨S36864x1, .f32⟩
  | 26 => ⟨S1x1024x2816, .f32⟩
  | 27 => ⟨S1024x2816, .f32⟩
  | 28 => ⟨S1x1024x2816, .f32⟩
  | 29 => ⟨S1024x2816, .f32⟩
  | 30 => ⟨S1x2816x1024, .f32⟩
  | 31 => ⟨S2816x1024, .f32⟩
  | 32 => ⟨S36864x2816, .f32⟩
  | 33 => ⟨S36864x2816, .f32⟩
  | 34 => ⟨S36864x2816, .f32⟩
  | 35 => ⟨S_, .f32⟩
  | 36 => ⟨S36864x2816, .f32⟩
  | 37 => ⟨S36864x2816, .f32⟩
  | 38 => ⟨S_, .f32⟩
  | 39 => ⟨S36864x2816, .f32⟩
  | 40 => ⟨S36864x2816, .f32⟩
  | 41 => ⟨S36864x2816, .f32⟩
  | 42 => ⟨S36864x2816, .f32⟩
  | 43 => ⟨S36864x2816, .f32⟩
  | 44 => ⟨S36864x1024, .f32⟩
  | 45 => ⟨S36864x1024, .f32⟩
  | 46 => ⟨S36864x1024, .f32⟩
  | 47 => ⟨S36864x1024, .f32⟩
  | 48 => ⟨S36864x1, .f32⟩
  | 49 => ⟨S1x1024x2816, .f32⟩
  | 50 => ⟨S1024x2816, .f32⟩
  | 51 => ⟨S1x1024x2816, .f32⟩
  | 52 => ⟨S1024x2816, .f32⟩
  | 53 => ⟨S1x2816x1024, .f32⟩
  | 54 => ⟨S2816x1024, .f32⟩
  | 55 => ⟨S36864x2816, .f32⟩
  | 56 => ⟨S36864x2816, .f32⟩
  | 57 => ⟨S36864x2816, .f32⟩
  | 58 => ⟨S_, .f32⟩
  | 59 => ⟨S36864x2816, .f32⟩
  | 60 => ⟨S36864x2816, .f32⟩
  | 61 => ⟨S_, .f32⟩
  | 62 => ⟨S36864x2816, .f32⟩
  | 63 => ⟨S36864x2816, .f32⟩
  | 64 => ⟨S36864x2816, .f32⟩
  | 65 => ⟨S36864x2816, .f32⟩
  | 66 => ⟨S36864x2816, .f32⟩
  | 67 => ⟨S36864x1024, .f32⟩
  | 68 => ⟨S36864x1024, .f32⟩
  | 69 => ⟨S36864x1024, .f32⟩
  | 70 => ⟨S36864x1024, .f32⟩
  | 71 => ⟨S36864x1, .f32⟩
  | 72 => ⟨S1x1024x2816, .f32⟩
  | 73 => ⟨S1024x2816, .f32⟩
  | 74 => ⟨S1x1024x2816, .f32⟩
  | 75 => ⟨S1024x2816, .f32⟩
  | 76 => ⟨S1x2816x1024, .f32⟩
  | 77 => ⟨S2816x1024, .f32⟩
  | 78 => ⟨S36864x2816, .f32⟩
  | 79 => ⟨S36864x2816, .f32⟩
  | 80 => ⟨S36864x2816, .f32⟩
  | 81 => ⟨S_, .f32⟩
  | 82 => ⟨S36864x2816, .f32⟩
  | 83 => ⟨S36864x2816, .f32⟩
  | 84 => ⟨S_, .f32⟩
  | 85 => ⟨S36864x2816, .f32⟩
  | 86 => ⟨S36864x2816, .f32⟩
  | 87 => ⟨S36864x2816, .f32⟩
  | 88 => ⟨S36864x2816, .f32⟩
  | 89 => ⟨S36864x2816, .f32⟩
  | 90 => ⟨S36864x1024, .f32⟩
  | 91 => ⟨S36864x1024, .f32⟩
  | 92 => ⟨S36864x1024, .f32⟩
  | 93 => ⟨S36864x1024, .f32⟩
  | 94 => ⟨S36864x1, .f32⟩
  | 95 => ⟨S1x1024x2816, .f32⟩
  | 96 => ⟨S1024x2816, .f32⟩
  | 97 => ⟨S1x1024x2816, .f32⟩
  | 98 => ⟨S1024x2816, .f32⟩
  | 99 => ⟨S1x2816x1024, .f32⟩
  | 100 => ⟨S2816x1024, .f32⟩
  | 101 => ⟨S36864x2816, .f32⟩
  | 102 => ⟨S36864x2816, .f32⟩
  | 103 => ⟨S36864x2816, .f32⟩
  | 104 => ⟨S_, .f32⟩
  | 105 => ⟨S36864x2816, .f32⟩
  | 106 => ⟨S36864x2816, .f32⟩
  | 107 => ⟨S_, .f32⟩
  | 108 => ⟨S36864x2816, .f32⟩
  | 109 => ⟨S36864x2816, .f32⟩
  | 110 => ⟨S36864x2816, .f32⟩
  | 111 => ⟨S36864x2816, .f32⟩
  | 112 => ⟨S36864x2816, .f32⟩
  | 113 => ⟨S36864x1024, .f32⟩
  | 114 => ⟨S36864x1024, .f32⟩
  | 115 => ⟨S36864x1024, .f32⟩
  | 116 => ⟨S36864x1024, .f32⟩
  | 117 => ⟨S36864x1, .f32⟩
  | 118 => ⟨S1x1024x2816, .f32⟩
  | 119 => ⟨S1024x2816, .f32⟩
  | 120 => ⟨S1x1024x2816, .f32⟩
  | 121 => ⟨S1024x2816, .f32⟩
  | 122 => ⟨S1x2816x1024, .f32⟩
  | 123 => ⟨S2816x1024, .f32⟩
  | 124 => ⟨S36864x2816, .f32⟩
  | 125 => ⟨S36864x2816, .f32⟩
  | 126 => ⟨S36864x2816, .f32⟩
  | 127 => ⟨S_, .f32⟩
  | _ => ⟨S72, .i32⟩

abbrev hbmTy0_1 (i : Nat) : BufTy := match i % 128 with
  | 0 => ⟨S36864x2816, .f32⟩
  | 1 => ⟨S36864x2816, .f32⟩
  | 2 => ⟨S_, .f32⟩
  | 3 => ⟨S36864x2816, .f32⟩
  | 4 => ⟨S36864x2816, .f32⟩
  | 5 => ⟨S36864x2816, .f32⟩
  | 6 => ⟨S36864x2816, .f32⟩
  | 7 => ⟨S36864x2816, .f32⟩
  | 8 => ⟨S36864x1024, .f32⟩
  | 9 => ⟨S36864x1024, .f32⟩
  | 10 => ⟨S36864x1024, .f32⟩
  | 11 => ⟨S36864x1024, .f32⟩
  | 12 => ⟨S36864x1, .f32⟩
  | 13 => ⟨S1x1024x2816, .f32⟩
  | 14 => ⟨S1024x2816, .f32⟩
  | 15 => ⟨S1x1024x2816, .f32⟩
  | 16 => ⟨S1024x2816, .f32⟩
  | 17 => ⟨S1x2816x1024, .f32⟩
  | 18 => ⟨S2816x1024, .f32⟩
  | 19 => ⟨S36864x2816, .f32⟩
  | 20 => ⟨S36864x2816, .f32⟩
  | 21 => ⟨S36864x2816, .f32⟩
  | 22 => ⟨S_, .f32⟩
  | 23 => ⟨S36864x2816, .f32⟩
  | 24 => ⟨S36864x2816, .f32⟩
  | 25 => ⟨S_, .f32⟩
  | 26 => ⟨S36864x2816, .f32⟩
  | 27 => ⟨S36864x2816, .f32⟩
  | 28 => ⟨S36864x2816, .f32⟩
  | 29 => ⟨S36864x2816, .f32⟩
  | 30 => ⟨S36864x2816, .f32⟩
  | 31 => ⟨S36864x1024, .f32⟩
  | 32 => ⟨S36864x1024, .f32⟩
  | 33 => ⟨S36864x1024, .f32⟩
  | 34 => ⟨S36864x1024, .f32⟩
  | 35 => ⟨S36864x1, .f32⟩
  | 36 => ⟨S1x1024x2816, .f32⟩
  | 37 => ⟨S1024x2816, .f32⟩
  | 38 => ⟨S1x1024x2816, .f32⟩
  | 39 => ⟨S1024x2816, .f32⟩
  | 40 => ⟨S1x2816x1024, .f32⟩
  | 41 => ⟨S2816x1024, .f32⟩
  | 42 => ⟨S36864x2816, .f32⟩
  | 43 => ⟨S36864x2816, .f32⟩
  | 44 => ⟨S36864x2816, .f32⟩
  | 45 => ⟨S_, .f32⟩
  | 46 => ⟨S36864x2816, .f32⟩
  | 47 => ⟨S36864x2816, .f32⟩
  | 48 => ⟨S_, .f32⟩
  | 49 => ⟨S36864x2816, .f32⟩
  | 50 => ⟨S36864x2816, .f32⟩
  | 51 => ⟨S36864x2816, .f32⟩
  | 52 => ⟨S36864x2816, .f32⟩
  | 53 => ⟨S36864x2816, .f32⟩
  | 54 => ⟨S36864x1024, .f32⟩
  | 55 => ⟨S36864x1024, .f32⟩
  | 56 => ⟨S36864x1024, .f32⟩
  | 57 => ⟨S36864x1024, .f32⟩
  | 58 => ⟨S36864x1, .f32⟩
  | 59 => ⟨S1x1024x2816, .f32⟩
  | 60 => ⟨S1024x2816, .f32⟩
  | 61 => ⟨S1x1024x2816, .f32⟩
  | 62 => ⟨S1024x2816, .f32⟩
  | 63 => ⟨S1x2816x1024, .f32⟩
  | 64 => ⟨S2816x1024, .f32⟩
  | 65 => ⟨S36864x2816, .f32⟩
  | 66 => ⟨S36864x2816, .f32⟩
  | 67 => ⟨S36864x2816, .f32⟩
  | 68 => ⟨S_, .f32⟩
  | 69 => ⟨S36864x2816, .f32⟩
  | 70 => ⟨S36864x2816, .f32⟩
  | 71 => ⟨S_, .f32⟩
  | 72 => ⟨S36864x2816, .f32⟩
  | 73 => ⟨S36864x2816, .f32⟩
  | 74 => ⟨S36864x2816, .f32⟩
  | 75 => ⟨S36864x2816, .f32⟩
  | 76 => ⟨S36864x2816, .f32⟩
  | 77 => ⟨S36864x1024, .f32⟩
  | 78 => ⟨S36864x1024, .f32⟩
  | 79 => ⟨S36864x1024, .f32⟩
  | 80 => ⟨S36864x1024, .f32⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call4_v0 : Ref sig .tc := ⟨.hbm, 102, rfl⟩
abbrev main_call4_v1 : Ref sig .tc := ⟨.hbm, 103, rfl⟩
abbrev main_call4_cst : Ref sig .tc := ⟨.hbm, 104, rfl⟩
abbrev main_call4_v2 : Ref sig .tc := ⟨.hbm, 105, rfl⟩
abbrev main_call4_v3 : Ref sig .tc := ⟨.hbm, 106, rfl⟩
abbrev main_call4_cst_0 : Ref sig .tc := ⟨.hbm, 107, rfl⟩
abbrev main_call4_v4 : Ref sig .tc := ⟨.hbm, 108, rfl⟩
abbrev main_call4_v5 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_call5_v0 : Ref sig .tc := ⟨.hbm, 125, rfl⟩
abbrev main_call5_v1 : Ref sig .tc := ⟨.hbm, 126, rfl⟩
abbrev main_call5_cst : Ref sig .tc := ⟨.hbm, 127, rfl⟩
abbrev main_call5_v2 : Ref sig .tc := ⟨.hbm, 128, rfl⟩
abbrev main_call5_v3 : Ref sig .tc := ⟨.hbm, 129, rfl⟩
abbrev main_call5_cst_0 : Ref sig .tc := ⟨.hbm, 130, rfl⟩
abbrev main_call5_v4 : Ref sig .tc := ⟨.hbm, 131, rfl⟩
abbrev main_call5_v5 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_call6_v0 : Ref sig .tc := ⟨.hbm, 148, rfl⟩
abbrev main_call6_v1 : Ref sig .tc := ⟨.hbm, 149, rfl⟩
abbrev main_call6_cst : Ref sig .tc := ⟨.hbm, 150, rfl⟩
abbrev main_call6_v2 : Ref sig .tc := ⟨.hbm, 151, rfl⟩
abbrev main_call6_v3 : Ref sig .tc := ⟨.hbm, 152, rfl⟩
abbrev main_call6_cst_0 : Ref sig .tc := ⟨.hbm, 153, rfl⟩
abbrev main_call6_v4 : Ref sig .tc := ⟨.hbm, 154, rfl⟩
abbrev main_call6_v5 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_call7_v0 : Ref sig .tc := ⟨.hbm, 171, rfl⟩
abbrev main_call7_v1 : Ref sig .tc := ⟨.hbm, 172, rfl⟩
abbrev main_call7_cst : Ref sig .tc := ⟨.hbm, 173, rfl⟩
abbrev main_call7_v2 : Ref sig .tc := ⟨.hbm, 174, rfl⟩
abbrev main_call7_v3 : Ref sig .tc := ⟨.hbm, 175, rfl⟩
abbrev main_call7_cst_0 : Ref sig .tc := ⟨.hbm, 176, rfl⟩
abbrev main_call7_v4 : Ref sig .tc := ⟨.hbm, 177, rfl⟩
abbrev main_call7_v5 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_call8_v0 : Ref sig .tc := ⟨.hbm, 194, rfl⟩
abbrev main_call8_v1 : Ref sig .tc := ⟨.hbm, 195, rfl⟩
abbrev main_call8_cst : Ref sig .tc := ⟨.hbm, 196, rfl⟩
abbrev main_call8_v2 : Ref sig .tc := ⟨.hbm, 197, rfl⟩
abbrev main_call8_v3 : Ref sig .tc := ⟨.hbm, 198, rfl⟩
abbrev main_call8_cst_0 : Ref sig .tc := ⟨.hbm, 199, rfl⟩
abbrev main_call8_v4 : Ref sig .tc := ⟨.hbm, 200, rfl⟩
abbrev main_call8_v5 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024 : Shape := ⟨2, ![2, 1024]⟩
abbrev S1x1024x2048 : Shape := ⟨3, ![1, 1024, 2048]⟩
abbrev S1x2048 : Shape := ⟨2, ![1, 2048]⟩
abbrev S16384x1024 : Shape := ⟨2, ![16384, 1024]⟩
abbrev S1024x2048 : Shape := ⟨2, ![1024, 2048]⟩
abbrev S2048 : Shape := ⟨1, ![2048]⟩
abbrev S1x1024 : Shape := ⟨2, ![1, 1024]⟩
abbrev S1024 : Shape := ⟨1, ![1024]⟩
abbrev S1024x1024 : Shape := ⟨2, ![1024, 1024]⟩
abbrev S1024x512 : Shape := ⟨2, ![1024, 512]⟩
abbrev S1x512 : Shape := ⟨2, ![1, 512]⟩
abbrev S1024x1 : Shape := ⟨2, ![1024, 1]⟩
abbrev S8x30x1024 : Shape := ⟨3, ![8, 30, 1024]⟩
abbrev S1x8x30x1024 : Shape := ⟨4, ![1, 8, 30, 1024]⟩

abbrev nBuf : Space → Nat
  | .hbm => 16
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S16384x1024, .f32⟩
  | .hbm, ⟨5, _⟩ => ⟨S1024x2048, .f32⟩
  | .hbm, ⟨6, _⟩ => ⟨S2048, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x2048, .f32⟩
  | .hbm, ⟨11, _⟩ => ⟨S1x2048, .f32⟩
  | .hbm, ⟨12, _⟩ => ⟨S16384x1024, .f32⟩
  | .hbm, ⟨13, _⟩ => ⟨S8x2048x1024, .f32⟩
  | .hbm, ⟨14, _⟩ => ⟨S8x30x1024, .f32⟩
  | .hbm, ⟨15, _⟩ => ⟨S1x8x30x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x2048x1024 : Shape := ⟨3, ![8, 2048, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2048 : Shape := ⟨2, ![1024, 2048]⟩
abbrev S2048 : Shape := ⟨1, ![2048]⟩
abbrev S8x2048x2048 : Shape := ⟨3, ![8, 2048, 2048]⟩
abbrev S1x1x2048 : Shape := ⟨3, ![1, 1, 2048]⟩
abbrev S8x30x1024 : Shape := ⟨3, ![8, 30, 1024]⟩
abbrev S1x8x30x1024 : Shape := ⟨4, ![1, 8, 30, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x2048, .f32⟩
  | .hbm, ⟨23, _⟩ => ⟨S2048, .f32⟩
  | .hbm, ⟨24, _⟩ => ⟨S8x2048x2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x30x1024, .f32⟩
  | .hbm, ⟨40, _⟩ => ⟨S1x8x30x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel4.lean ====
abbrev S32x4x1024 : Shape := ⟨3, ![32, 4, 1024]⟩
abbrev S2x1024 : Shape := ⟨2, ![2, 1024]⟩
abbrev S1x1024x2048 : Shape := ⟨3, ![1, 1024, 2048]⟩
abbrev S1x2048 : Shape := ⟨2, ![1, 2048]⟩
abbrev S1x32x30x1024 : Shape := ⟨4, ![1, 32, 30, 1024]⟩
abbrev S128x1024 : Shape := ⟨2, ![128, 1024]⟩
abbrev S1024x2048 : Shape := ⟨2, ![1024, 2048]⟩
abbrev S2048 : Shape := ⟨1, ![2048]⟩
abbrev S1x1024 : Shape := ⟨2, ![1, 1024]⟩
abbrev S1024 : Shape := ⟨1, ![1024]⟩
abbrev S1024x512 : Shape := ⟨2, ![1024, 512]⟩
abbrev S1x512 : Shape := ⟨2, ![1, 512]⟩
abbrev S128x512 : Shape := ⟨2, ![128, 512]⟩
abbrev S128 : Shape := ⟨1, ![128]⟩
abbrev S128x1 : Shape := ⟨2, ![128, 1]⟩
abbrev S32x30x1024 : Shape := ⟨3, ![32, 30, 1024]⟩
abbrev S32x34x1024 : Shape := ⟨3, ![32, 34, 1024]⟩

abbrev nBuf : Space → Nat
  | .hbm => 19
  | .vmem => 13
  | .smem => 0
  | _ => 0

abbrev bufTy : (tb : Table) → Fin (tcTables nBuf tb) → BufTy
  | .hbm, ⟨0, _⟩ => ⟨S32x4x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x32x30x1024, .f32⟩
  | .hbm, ⟨5, _⟩ => ⟨S128x1024, .f32⟩
  | .hbm, ⟨6, _⟩ => ⟨S1024x2048, .f32⟩
  | .hbm, ⟨7, _⟩ => ⟨S2048, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x2048, .f32⟩
  | .hbm, ⟨12, _⟩ => ⟨S1x2048, .f32⟩
  | .hbm, ⟨13, _⟩ => ⟨S128x1024, .f32⟩
  | .hbm, ⟨14, _⟩ => ⟨S32x4x1024, .f32⟩
  | .hbm, ⟨15, _⟩ => ⟨S32x30x1024, .f32⟩
  | .hbm, ⟨16, _⟩ => ⟨S32x34x1024, .f32⟩
  | .hbm, ⟨17, _⟩ => ⟨S32x30x1024, .f32⟩
  | .hbm, ⟨18, _⟩ => ⟨S1x32x30x1024, .f32⟩
  | .local _ .vmem, ⟨0, _⟩ => ⟨S128x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x512, .f32⟩
  | .local _ .vmem, ⟨11, _⟩ => ⟨S128x512, .f32⟩
  | .local _ .vmem, ⟨12, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S32x4x1024 : Shape := ⟨3, ![32, 4, 1024]⟩
abbrev S2x1024 : Shape := ⟨2, ![2, 1024]⟩
abbrev S1x1024x2048 : Shape := ⟨3, ![1, 1024, 2048]⟩
abbrev S1x2048 : Shape := ⟨2, ![1, 2048]⟩
abbrev S1x32x30x1024 : Shape := ⟨4, ![1, 32, 30, 1024]⟩
abbrev S1x1024 : Shape := ⟨2, ![1, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x2048 : Shape := ⟨2, ![1024, 2048]⟩
abbrev S2048 : Shape := ⟨1, ![2048]⟩
abbrev S32x4x2048 : Shape := ⟨3, ![32, 4, 2048]⟩
abbrev S1x1x2048 : Shape := ⟨3, ![1, 1, 2048]⟩
abbrev S32x30x1024 : Shape := ⟨3, ![32, 30, 1024]⟩
abbrev S32x34x1024 : Shape := ⟨3, ![32, 34, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x32x30x1024, .f32⟩
  | .hbm, ⟨5, _⟩ => ⟨S1x1024, .f32⟩
  | .hbm, ⟨6, _⟩ => ⟨S1024, .f32⟩
  | .hbm, ⟨7, _⟩ => ⟨S32x4x1024, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x1024, .f32⟩
  | .hbm, ⟨19, _⟩ => ⟨S32x4x1024, .f32⟩
  | .hbm, ⟨20, _⟩ => ⟨S1x1x1024, .f32⟩
  | .hbm, ⟨21, _⟩ => ⟨S32x4x1024, .f32⟩
  | .hbm, ⟨22, _⟩ => ⟨S32x4x1024, .f32⟩
  | .hbm, ⟨23, _⟩ => ⟨S1024x2048, .f32⟩
  | .hbm, ⟨24, _⟩ => ⟨S2048, .f32⟩
  | .hbm, ⟨25, _⟩ => ⟨S32x4x2048, .f32⟩
  | .hbm, ⟨26, _⟩ => ⟨S1x1x2048, .f32⟩
  | .hbm, ⟨27, _⟩ => ⟨S32x4x2048, .f32⟩
  | .hbm, ⟨28, _⟩ => ⟨S32x4x2048, .f32⟩
  | .hbm, ⟨29, _⟩ => ⟨S32x4x1024, .f32⟩
  | .hbm, ⟨30, _⟩ => ⟨S32x4x1024, .f32⟩
  | .hbm, ⟨31, _⟩ => ⟨S32x4x1024, .f32⟩
  | .hbm, ⟨32, _⟩ => ⟨S32x4x1024, .f32⟩
  | .hbm, ⟨33, _⟩ => ⟨S_, .f32⟩
  | .hbm, ⟨34, _⟩ => ⟨S32x4x1024, .f32⟩
  | .hbm, ⟨35, _⟩ => ⟨S32x4x1024, .f32⟩
  | .hbm, ⟨36, _⟩ => ⟨S_, .f32⟩
  | .hbm, ⟨37, _⟩ => ⟨S32x4x1024, .f32⟩
  | .hbm, ⟨38, _⟩ => ⟨S32x4x1024, .f32⟩
  | .hbm, ⟨39, _⟩ => ⟨S32x4x1024, .f32⟩
  | .hbm, ⟨40, _⟩ => ⟨S32x30x1024, .f32⟩
  | .hbm, ⟨41, _⟩ => ⟨S32x34x1024, .f32⟩
  | .hbm, ⟨42, _⟩ => ⟨S32x30x1024, .f32⟩
  | .hbm, ⟨43, _⟩ => ⟨S1x32x30x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel5.lean ====
abbrev S16384x1024 : Shape := ⟨2, ![16384, 1024]⟩
abbrev S2x1024 : Shape := ⟨2, ![2, 1024]⟩
abbrev S1x1024x2816 : Shape := ⟨3, ![1, 1024, 2816]⟩
abbrev S1024x2816 : Shape := ⟨2, ![1024, 2816]⟩
abbrev S1x1024 : Shape := ⟨2, ![1, 1024]⟩
abbrev S1024 : Shape := ⟨1, ![1024]⟩
abbrev S16384x2816 : Shape := ⟨2, ![16384, 2816]⟩
abbrev S1024x1024 : Shape := ⟨2, ![1024, 1024]⟩
abbrev S1024x256 : Shape := ⟨2, ![1024, 256]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1024x2816, .f32⟩
  | .hbm, ⟨5, _⟩ => ⟨S1024x2816, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S16384x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .bf16⟩
  | .local _ .vmem, ⟨8, _⟩ => ⟨S1024x256, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x1024 : Shape := ⟨2, ![16384, 1024]⟩
abbrev S2x1024 : Shape := ⟨2, ![2, 1024]⟩
abbrev S1x1024x2816 : Shape := ⟨3, ![1, 1024, 2816]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S1024x2816, .f32⟩
  | .hbm, ⟨34, _⟩ => ⟨S16384x2816, .f32⟩
  | .hbm, ⟨35, _⟩ => ⟨S16384x2816, .f32⟩
  | .hbm, ⟨36, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel6.lean ====
abbrev S16384x2816 : Shape := ⟨2, ![16384, 2816]⟩
abbrev S1x2816x1024 : Shape := ⟨3, ![1, 2816, 1024]⟩
abbrev S16384x1024 : Shape := ⟨2, ![16384, 1024]⟩
abbrev S2816x1024 : Shape := ⟨2, ![2816, 1024]⟩
abbrev S512x2816 : Shape := ⟨2, ![512, 2816]⟩
abbrev S2816x512 : Shape := ⟨2, ![2816, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S1x2816x1024, .f32⟩
  | .hbm, ⟨2, _⟩ => ⟨S16384x1024, .f32⟩
  | .hbm, ⟨3, _⟩ => ⟨S2816x1024, .f32⟩
  | .hbm, ⟨4, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x512, .f32⟩
  | .local _ .vmem, ⟨3, _⟩ => ⟨S2816x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x2816 : Shape := ⟨2, ![16384, 2816]⟩
abbrev S1x2816x1024 : Shape := ⟨3, ![1, 2816, 1024]⟩
abbrev S16384x1024 : Shape := ⟨2, ![16384, 1024]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S1x2816x1024, .f32⟩
  | .hbm, ⟨2, _⟩ => ⟨S16384x1024, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S16384x1024 : Shape := ⟨2, ![16384, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x512 : Shape := ⟨2, ![1024, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S1x1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S16384x1024 : Shape := ⟨2, ![16384, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S1x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S16384x1024 : Shape := ⟨2, ![16384, 1024]⟩
abbrev S2x1024 : Shape := ⟨2, ![2, 1024]⟩
abbrev S1024x1152 : Shape := ⟨2, ![1024, 1152]⟩
abbrev S1x1024 : Shape := ⟨2, ![1, 1024]⟩
abbrev S1024 : Shape := ⟨1, ![1024]⟩
abbrev S16384x1152 : Shape := ⟨2, ![16384, 1152]⟩
abbrev S1024x1024 : Shape := ⟨2, ![1024, 1024]⟩
abbrev S1024x384 : Shape := ⟨2, ![1024, 384]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1024x1152, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S16384x1152, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S16384x1024 : Shape := ⟨2, ![16384, 1024]⟩
abbrev S2x1024 : Shape := ⟨2, ![2, 1024]⟩
abbrev S1024x1152 : Shape := ⟨2, ![1024, 1152]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x1152 : Shape := ⟨2, ![16384, 1152]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1024x1152, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1152, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S16384x1024 : Shape := ⟨2, ![16384, 1024]⟩
abbrev S1x1024x1024 : Shape := ⟨3, ![1, 1024, 1024]⟩
abbrev S1024x1024 : Shape := ⟨2, ![1024, 1024]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S16384x1024, .f32⟩
  | .hbm, ⟨3, _⟩ => ⟨S1024x1024, .f32⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16384x1024 : Shape := ⟨2, ![16384, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S16384x1024 : Shape := ⟨2, ![16384, 1024]⟩
abbrev S1024 : Shape := ⟨1, ![1024]⟩
abbrev S1024x1536 : Shape := ⟨2, ![1024, 1536]⟩
abbrev S1536x1024 : Shape := ⟨2, ![1536, 1024]⟩
abbrev S1024x1024 : Shape := ⟨2, ![1024, 1024]⟩
abbrev S1x1024 : Shape := ⟨2, ![1, 1024]⟩
abbrev S8x1024x2048 : Shape := ⟨3, ![8, 1024, 2048]⟩
abbrev S512x1024 : Shape := ⟨2, ![512, 1024]⟩
abbrev S1x512x1024 : Shape := ⟨3, ![1, 512, 1024]⟩
abbrev S1024x1 : Shape := ⟨2, ![1024, 1]⟩
abbrev S8x4x4x64x2048 : Shape := ⟨5, ![8, 4, 4, 64, 2048]⟩
abbrev S8x2048x4x4x64 : Shape := ⟨5, ![8, 2048, 4, 4, 64]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S1536x1024, .f32⟩
  | .hbm, ⟨4, _⟩ => ⟨S1024x1024, .f32⟩
  | .hbm, ⟨5, _⟩ => ⟨S1x1024, .f32⟩
  | .hbm, ⟨6, _⟩ => ⟨S8x1024x2048, .f32⟩
  | .hbm, ⟨7, _⟩ => ⟨S8x4x4x64x2048, .f32⟩
  | .hbm, ⟨8, _⟩ => ⟨S8x2048x4x4x64, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S16384x1024 : Shape := ⟨2, ![16384, 1024]⟩
abbrev S1024 : Shape := ⟨1, ![1024]⟩
abbrev S1024x1536 : Shape := ⟨2, ![1024, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩
abbrev S8x2048x1024 : Shape := ⟨3, ![8, 2048, 1024]⟩
abbrev S8x1024x2048 : Shape := ⟨3, ![8, 1024, 2048]⟩
abbrev S8x2048x4x4x64 : Shape := ⟨5, ![8, 2048, 4, 4, 64]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1536, .f32⟩
  | .hbm, ⟨20, _⟩ => ⟨S16384x1024, .f32⟩
  | .hbm, ⟨21, _⟩ => ⟨S8x2048x1024, .f32⟩
  | .hbm, ⟨22, _⟩ => ⟨S8x1024x2048, .f32⟩
  | .hbm, ⟨23, _⟩ => ⟨S8x2048x4x4x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel11.lean ====
abbrev S16384x1024 : Shape := ⟨2, ![16384, 1024]⟩
abbrev S1024 : Shape := ⟨1, ![1024]⟩
abbrev S1024x1536 : Shape := ⟨2, ![1024, 1536]⟩
abbrev S1536x1024 : Shape := ⟨2, ![1536, 1024]⟩
abbrev S512x1024 : Shape := ⟨2, ![512, 1024]⟩
abbrev S1x1024 : Shape := ⟨2, ![1, 1024]⟩
abbrev S8x512x2048 : Shape := ⟨3, ![8, 512, 2048]⟩
abbrev S1024x1024 : Shape := ⟨2, ![1024, 1024]⟩
abbrev S1x512x1024 : Shape := ⟨3, ![1, 512, 1024]⟩
abbrev S1024x1 : Shape := ⟨2, ![1024, 1]⟩
abbrev S8x512x512 : Shape := ⟨3, ![8, 512, 512]⟩
abbrev S8x2x4x64x512 : Shape := ⟨5, ![8, 2, 4, 64, 512]⟩
abbrev S8x512x2x4x64 : Shape := ⟨5, ![8, 512, 2, 4, 64]⟩

abbrev nBuf : Space → Nat
  | .hbm => 10
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S1536x1024, .f32⟩
  | .hbm, ⟨4, _⟩ => ⟨S512x1024, .f32⟩
  | .hbm, ⟨5, _⟩ => ⟨S1x1024, .f32⟩
  | .hbm, ⟨6, _⟩ => ⟨S8x512x2048, .f32⟩
  | .hbm, ⟨7, _⟩ => ⟨S8x512x512, .f32⟩
  | .hbm, ⟨8, _⟩ => ⟨S8x2x4x64x512, .f32⟩
  | .hbm, ⟨9, _⟩ => ⟨S8x512x2x4x64, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S16384x1024 : Shape := ⟨2, ![16384, 1024]⟩
abbrev S1024 : Shape := ⟨1, ![1024]⟩
abbrev S1024x1536 : Shape := ⟨2, ![1024, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩
abbrev S16384x512 : Shape := ⟨2, ![16384, 512]⟩
abbrev S8x2048x512 : Shape := ⟨3, ![8, 2048, 512]⟩
abbrev S8x512x2048 : Shape := ⟨3, ![8, 512, 2048]⟩
abbrev S8x512x512 : Shape := ⟨3, ![8, 512, 512]⟩
abbrev S8x512x2x4x64 : Shape := ⟨5, ![8, 512, 2, 4, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1536, .f32⟩
  | .hbm, ⟨20, _⟩ => ⟨S16384x512, .f32⟩
  | .hbm, ⟨21, _⟩ => ⟨S8x2048x512, .f32⟩
  | .hbm, ⟨22, _⟩ => ⟨S8x512x2048, .f32⟩
  | .hbm, ⟨23, _⟩ => ⟨S8x512x512, .f32⟩
  | .hbm, ⟨24, _⟩ => ⟨S8x512x2x4x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel12.lean ====
abbrev S8x2048x1024 : Shape := ⟨3, ![8, 2048, 1024]⟩
abbrev S1x31x1024 : Shape := ⟨3, ![1, 31, 1024]⟩
abbrev S1x1024 : Shape := ⟨2, ![1, 1024]⟩
abbrev S_ : Shape := ⟨0, ![]⟩
abbrev S1x32x1024 : Shape := ⟨3, ![1, 32, 1024]⟩
abbrev S31x1024 : Shape := ⟨2, ![31, 1024]⟩
abbrev S1024 : Shape := ⟨1, ![1024]⟩
abbrev S1x256x1024 : Shape := ⟨3, ![1, 256, 1024]⟩
abbrev S8x288x128 : Shape := ⟨3, ![8, 288, 128]⟩
abbrev S256x1024 : Shape := ⟨2, ![256, 1024]⟩
abbrev S1x32x128 : Shape := ⟨3, ![1, 32, 128]⟩
abbrev S32x128 : Shape := ⟨2, ![32, 128]⟩
abbrev S1x256x128 : Shape := ⟨3, ![1, 256, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x32x1024, .f32⟩
  | .hbm, ⟨7, _⟩ => ⟨S31x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x256x1024, .bf16⟩
  | .local _ .vmem, ⟨10, _⟩ => ⟨S1x256x1024, .bf16⟩
  | .local _ .vmem, ⟨11, _⟩ => ⟨S8x288x128, .f32⟩
  | .local _ .vmem, ⟨12, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_104 : BitVec 32 := 0#32
  let c8_i32 : BitVec 32 := 8#32
  let v105 : BitVec 32 := Scalar.addi c0_i32_104 c8_i32
  let c1_i32 : BitVec 32 := 1#32
  ⟨c0_i32_104, v105, c1_i32⟩
def k0_mult1 (k0_t1 : Fin k0_t1_loop.trips) : BitVec 32 :=
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  v143
def k0_off1 (k0_t1 : Fin k0_t1_loop.trips) (c0_i32_123 : BitVec 32) : Fin 3 → Nat :=
  let c0_124 : Index := 0#32
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let c2_i32 : BitVec 32 := 2#32
  let v146 : BitVec 32 := Scalar.addi v144 c2_i32
  let v147 : BitVec 32 := Scalar.addi v146 c0_i32_123
  let v148 : Index := Scalar.indexCast v147
  let c0_125 : Index := 0#32
  ![0, v148.toNat, 0]
def k0_off2 (k0_t1 : Fin k0_t1_loop.trips) : Fin 2 → Nat :=
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let v460 : Index := Scalar.indexCast v144
  let c0_260 : Index := 0#32
  ![v460.toNat, 0]
def k0_off3 (k0_t1 : Fin k0_t1_loop.trips) (c0_i32_263 : BitVec 32) : Fin 3 → Nat :=
  let c1_264 : Index := 1#32
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let c2_i32_262 : BitVec 32 := 2#32
  let v465 : BitVec 32 := Scalar.addi v144 c2_i32_262
  let v466 : BitVec 32 := Scalar.addi v465 c0_i32_263
  let v467 : Index := Scalar.indexCast v466
  let c0_265 : Index := 0#32
  ![1, v467.toNat, 0]
def k0_off4 (k0_t1 : Fin k0_t1_loop.trips) : Fin 2 → Nat :=
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let v779 : Index := Scalar.indexCast v144
  let c128_450 : Index := 128#32
  ![v779.toNat, 128]
def k0_off5 (k0_t1 : Fin k0_t1_loop.trips) (c0_i32_453 : BitVec 32) : Fin 3 → Nat :=
  let c2_454 : Index := 2#32
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let c2_i32_452 : BitVec 32 := 2#32
  let v784 : BitVec 32 := Scalar.addi v144 c2_i32_452
  let v785 : BitVec 32 := Scalar.addi v784 c0_i32_453
  let v786 : Index := Scalar.indexCast v785
  let c0_455 : Index := 0#32
  ![2, v786.toNat, 0]
def k0_off6 (k0_t1 : Fin k0_t1_loop.trips) : Fin 2 → Nat :=
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let v1098 : Index := Scalar.indexCast v144
  let c256_640 : Index := 256#32
  ![v1098.toNat, 256]
def k0_off7 (k0_t1 : Fin k0_t1_loop.trips) (c0_i32_643 : BitVec 32) : Fin 3 → Nat :=
  let c3_644 : Index := 3#32
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let c2_i32_642 : BitVec 32 := 2#32
  let v1103 : BitVec 32 := Scalar.addi v144 c2_i32_642
  let v1104 : BitVec 32 := Scalar.addi v1103 c0_i32_643
  let v1105 : Index := Scalar.indexCast v1104
  let c0_645 : Index := 0#32
  ![3, v1105.toNat, 0]
def k0_off8 (k0_t1 : Fin k0_t1_loop.trips) : Fin 2 → Nat :=
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let v1417 : Index := Scalar.indexCast v144
  let c384_830 : Index := 384#32
  ![v1417.toNat, 384]
def k0_off9 (k0_t1 : Fin k0_t1_loop.trips) (c0_i32_833 : BitVec 32) : Fin 3 → Nat :=
  let c4_834 : Index := 4#32
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let c2_i32_832 : BitVec 32 := 2#32
  let v1422 : BitVec 32 := Scalar.addi v144 c2_i32_832
  let v1423 : BitVec 32 := Scalar.addi v1422 c0_i32_833
  let v1424 : Index := Scalar.indexCast v1423
  let c0_835 : Index := 0#32
  ![4, v1424.toNat, 0]
def k0_off10 (k0_t1 : Fin k0_t1_loop.trips) : Fin 2 → Nat :=
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let v1736 : Index := Scalar.indexCast v144
  let c512_1020 : Index := 512#32
  ![v1736.toNat, 512]
def k0_off11 (k0_t1 : Fin k0_t1_loop.trips) (c0_i32_1023 : BitVec 32) : Fin 3 → Nat :=
  let c5_1024 : Index := 5#32
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let c2_i32_1022 : BitVec 32 := 2#32
  let v1741 : BitVec 32 := Scalar.addi v144 c2_i32_1022
  let v1742 : BitVec 32 := Scalar.addi v1741 c0_i32_1023
  let v1743 : Index := Scalar.indexCast v1742
  let c0_1025 : Index := 0#32
  ![5, v1743.toNat, 0]
def k0_off12 (k0_t1 : Fin k0_t1_loop.trips) : Fin 2 → Nat :=
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let v2055 : Index := Scalar.indexCast v144
  let c640_1210 : Index := 640#32
  ![v2055.toNat, 640]
def k0_off13 (k0_t1 : Fin k0_t1_loop.trips) (c0_i32_1213 : BitVec 32) : Fin 3 → Nat :=
  let c6_1214 : Index := 6#32
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let c2_i32_1212 : BitVec 32 := 2#32
  let v2060 : BitVec 32 := Scalar.addi v144 c2_i32_1212
  let v2061 : BitVec 32 := Scalar.addi v2060 c0_i32_1213
  let v2062 : Index := Scalar.indexCast v2061
  let c0_1215 : Index := 0#32
  ![6, v2062.toNat, 0]
def k0_off14 (k0_t1 : Fin k0_t1_loop.trips) : Fin 2 → Nat :=
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let v2374 : Index := Scalar.indexCast v144
  let c768_1400 : Index := 768#32
  ![v2374.toNat, 768]
def k0_off15 (k0_t1 : Fin k0_t1_loop.trips) (c0_i32_1403 : BitVec 32) : Fin 3 → Nat :=
  let c7_1404 : Index := 7#32
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let c2_i32_1402 : BitVec 32 := 2#32
  let v2379 : BitVec 32 := Scalar.addi v144 c2_i32_1402
  let v2380 : BitVec 32 := Scalar.addi v2379 c0_i32_1403
  let v2381 : Index := Scalar.indexCast v2380
  let c0_1405 : Index := 0#32
  ![7, v2381.toNat, 0]
def k0_off16 (k0_t1 : Fin k0_t1_loop.trips) : Fin 2 → Nat :=
  let c0_i32_104 : BitVec 32 := 0#32
  let c1_i32 : BitVec 32 := 1#32
  let arg12 : BitVec 32 := Scf.iv c0_i32_104 c1_i32 k0_t1
  let c32_i32 : BitVec 32 := 32#32
  let v143 : BitVec 32 := Scalar.muli arg12 c32_i32
  let v144 : BitVec 32 := v143
  let v2693 : Index := Scalar.indexCast v144
  let c896_1590 : Index := 896#32
  ![v2693.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S8x2048x1024 : Shape := ⟨3, ![8, 2048, 1024]⟩
abbrev S1x31x1024 : Shape := ⟨3, ![1, 31, 1024]⟩
abbrev S1x1024 : Shape := ⟨2, ![1, 1024]⟩
abbrev S_ : Shape := ⟨0, ![]⟩
abbrev S8x30x1024 : Shape := ⟨3, ![8, 30, 1024]⟩
abbrev S8x2078x1024 : Shape := ⟨3, ![8, 2078, 1024]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩

abbrev nBuf : Space → Nat
  | .hbm => 270
  | .vmem => 0
  | .smem => 0
  | _ => 0

abbrev hbmTy0_0 (i : Nat) : BufTy := match i % 128 with
  | 0 => ⟨S8x2048x1024, .f32⟩
  | 1 => ⟨S1x31x1024, .f32⟩
  | 2 => ⟨S1x1024, .f32⟩
  | 3 => ⟨S1x1024, .f32⟩
  | 4 => ⟨S1x1024, .f32⟩
  | 5 => ⟨S_, .f32⟩
  | 6 => ⟨S8x30x1024, .f32⟩
  | 7 => ⟨S8x2078x1024, .f32⟩
  | 8 => ⟨S8x2048x1024, .f32⟩
  | 9 => ⟨S1x1x1024, .f32⟩
  | 10 => ⟨S1024, .f32⟩
  | 11 => ⟨S1x1x1024, .f32⟩
  | 12 => ⟨S8x2048x1024, .f32⟩
  | 13 => ⟨S8x2048x1024, .f32⟩
  | 14 => ⟨S_, .f32⟩
  | 15 => ⟨S8x2048x1024, .f32⟩
  | 16 => ⟨S8x2048x1024, .f32⟩
  | 17 => ⟨S8x2048x1024, .f32⟩
  | 18 => ⟨S1x1x1024, .f32⟩
  | 19 => ⟨S1024, .f32⟩
  | 20 => ⟨S1x1x1024, .f32⟩
  | 21 => ⟨S8x2048x1024, .f32⟩
  | 22 => ⟨S8x2048x1024, .f32⟩
  | 23 => ⟨S8x2048x1024, .f32⟩
  | 24 => ⟨S8x2048x1024, .f32⟩
  | 25 => ⟨S1x1x1024, .f32⟩
  | 26 => ⟨S1024, .f32⟩
  | 27 => ⟨S1x1x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S1x1x1024, .f32⟩
  | 33 => ⟨S1024, .f32⟩
  | 34 => ⟨S1x1x1024, .f32⟩
  | 35 => ⟨S8x2048x1024, .f32⟩
  | 36 => ⟨S8x2048x1024, .f32⟩
  | 37 => ⟨S8x2048x1024, .f32⟩
  | 38 => ⟨S8x2048x1024, .f32⟩
  | 39 => ⟨S1x1x1024, .f32⟩
  | 40 => ⟨S1024, .f32⟩
  | 41 => ⟨S1x1x1024, .f32⟩
  | 42 => ⟨S8x2048x1024, .f32⟩
  | 43 => ⟨S8x2048x1024, .f32⟩
  | 44 => ⟨S8x2048x1024, .f32⟩
  | 45 => ⟨S8x2048x1024, .f32⟩
  | 46 => ⟨S1x1x1024, .f32⟩
  | 47 => ⟨S1024, .f32⟩
  | 48 => ⟨S1x1x1024, .f32⟩
  | 49 => ⟨S8x2048x1024, .f32⟩
  | 50 => ⟨S8x2048x1024, .f32⟩
  | 51 => ⟨S8x2048x1024, .f32⟩
  | 52 => ⟨S8x2048x1024, .f32⟩
  | 53 => ⟨S1x1x1024, .f32⟩
  | 54 => ⟨S1024, .f32⟩
  | 55 => ⟨S1x1x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S1x1x1024, .f32⟩
  | 61 => ⟨S1024, .f32⟩
  | 62 => ⟨S1x1x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S1x1x1024, .f32⟩
  | 68 => ⟨S1024, .f32⟩
  | 69 => ⟨S1x1x1024, .f32⟩
  | 70 => ⟨S8x2048x1024, .f32⟩
  | 71 => ⟨S8x2048x1024, .f32⟩
  | 72 => ⟨S8x2048x1024, .f32⟩
  | 73 => ⟨S8x2048x1024, .f32⟩
  | 74 => ⟨S1x1x1024, .f32⟩
  | 75 => ⟨S1024, .f32⟩
  | 76 => ⟨S1x1x1024, .f32⟩
  | 77 => ⟨S8x2048x1024, .f32⟩
  | 78 => ⟨S8x2048x1024, .f32⟩
  | 79 => ⟨S8x2048x1024, .f32⟩
  | 80 => ⟨S8x2048x1024, .f32⟩
  | 81 => ⟨S1x1x1024, .f32⟩
  | 82 => ⟨S1024, .f32⟩
  | 83 => ⟨S1x1x1024, .f32⟩
  | 84 => ⟨S8x2048x1024, .f32⟩
  | 85 => ⟨S8x2048x1024, .f32⟩
  | 86 => ⟨S8x2048x1024, .f32⟩
  | 87 => ⟨S8x2048x1024, .f32⟩
  | 88 => ⟨S1x1x1024, .f32⟩
  | 89 => ⟨S1024, .f32⟩
  | 90 => ⟨S1x1x1024, .f32⟩
  | 91 => ⟨S8x2048x1024, .f32⟩
  | 92 => ⟨S8x2048x1024, .f32⟩
  | 93 => ⟨S8x2048x1024, .f32⟩
  | 94 => ⟨S8x2048x1024, .f32⟩
  | 95 => ⟨S1x1x1024, .f32⟩
  | 96 => ⟨S1024, .f32⟩
  | 97 => ⟨S1x1x1024, .f32⟩
  | 98 => ⟨S8x2048x1024, .f32⟩
  | 99 => ⟨S8x2048x1024, .f32⟩
  | 100 => ⟨S8x2048x1024, .f32⟩
  | 101 => ⟨S8x2048x1024, .f32⟩
  | 102 => ⟨S1x1x1024, .f32⟩
  | 103 => ⟨S1024, .f32⟩
  | 104 => ⟨S1x1x1024, .f32⟩
  | 105 => ⟨S8x2048x1024, .f32⟩
  | 106 => ⟨S8x2048x1024, .f32⟩
  | 107 => ⟨S8x2048x1024, .f32⟩
  | 108 => ⟨S8x2048x1024, .f32⟩
  | 109 => ⟨S1x1x1024, .f32⟩
  | 110 => ⟨S1024, .f32⟩
  | 111 => ⟨S1x1x1024, .f32⟩
  | 112 => ⟨S8x2048x1024, .f32⟩
  | 113 => ⟨S8x2048x1024, .f32⟩
  | 114 => ⟨S8x2048x1024, .f32⟩
  | 115 => ⟨S8x2048x1024, .f32⟩
  | 116 => ⟨S1x1x1024, .f32⟩
  | 117 => ⟨S1024, .f32⟩
  | 118 => ⟨S1x1x1024, .f32⟩
  | 119 => ⟨S8x2048x1024, .f32⟩
  | 120 => ⟨S8x2048x1024, .f32⟩
  | 121 => ⟨S8x2048x1024, .f32⟩
  | 122 => ⟨S8x2048x1024, .f32⟩
  | 123 => ⟨S1x1x1024, .f32⟩
  | 124 => ⟨S1024, .f32⟩
  | 125 => ⟨S1x1x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S1x1x1024, .f32⟩
  | 3 => ⟨S1024, .f32⟩
  | 4 => ⟨S1x1x1024, .f32⟩
  | 5 => ⟨S8x2048x1024, .f32⟩
  | 6 => ⟨S8x2048x1024, .f32⟩
  | 7 => ⟨S8x2048x1024, .f32⟩
  | 8 => ⟨S8x2048x1024, .f32⟩
  | 9 => ⟨S1x1x1024, .f32⟩
  | 10 => ⟨S1024, .f32⟩
  | 11 => ⟨S1x1x1024, .f32⟩
  | 12 => ⟨S8x2048x1024, .f32⟩
  | 13 => ⟨S8x2048x1024, .f32⟩
  | 14 => ⟨S8x2048x1024, .f32⟩
  | 15 => ⟨S8x2048x1024, .f32⟩
  | 16 => ⟨S1x1x1024, .f32⟩
  | 17 => ⟨S1024, .f32⟩
  | 18 => ⟨S1x1x1024, .f32⟩
  | 19 => ⟨S8x2048x1024, .f32⟩
  | 20 => ⟨S8x2048x1024, .f32⟩
  | 21 => ⟨S8x2048x1024, .f32⟩
  | 22 => ⟨S8x2048x1024, .f32⟩
  | 23 => ⟨S1x1x1024, .f32⟩
  | 24 => ⟨S1024, .f32⟩
  | 25 => ⟨S1x1x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S1x1x1024, .f32⟩
  | 31 => ⟨S1024, .f32⟩
  | 32 => ⟨S1x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S1x1x1024, .f32⟩
  | 38 => ⟨S1024, .f32⟩
  | 39 => ⟨S1x1x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S1x1x1024, .f32⟩
  | 45 => ⟨S1024, .f32⟩
  | 46 => ⟨S1x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S1x1x1024, .f32⟩
  | 52 => ⟨S1024, .f32⟩
  | 53 => ⟨S1x1x1024, .f32⟩
  | 54 => ⟨S8x2048x1024, .f32⟩
  | 55 => ⟨S8x2048x1024, .f32⟩
  | 56 => ⟨S8x2048x1024, .f32⟩
  | 57 => ⟨S8x2048x1024, .f32⟩
  | 58 => ⟨S1x1x1024, .f32⟩
  | 59 => ⟨S1024, .f32⟩
  | 60 => ⟨S1x1x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S1x1x1024, .f32⟩
  | 66 => ⟨S1024, .f32⟩
  | 67 => ⟨S1x1x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S1x1x1024, .f32⟩
  | 73 => ⟨S1024, .f32⟩
  | 74 => ⟨S1x1x1024, .f32⟩
  | 75 => ⟨S8x2048x1024, .f32⟩
  | 76 => ⟨S8x2048x1024, .f32⟩
  | 77 => ⟨S8x2048x1024, .f32⟩
  | 78 => ⟨S8x2048x1024, .f32⟩
  | 79 => ⟨S1x1x1024, .f32⟩
  | 80 => ⟨S1024, .f32⟩
  | 81 => ⟨S1x1x1024, .f32⟩
  | 82 => ⟨S8x2048x1024, .f32⟩
  | 83 => ⟨S8x2048x1024, .f32⟩
  | 84 => ⟨S8x2048x1024, .f32⟩
  | 85 => ⟨S8x2048x1024, .f32⟩
  | 86 => ⟨S1x1x1024, .f32⟩
  | 87 => ⟨S1024, .f32⟩
  | 88 => ⟨S1x1x1024, .f32⟩
  | 89 => ⟨S8x2048x1024, .f32⟩
  | 90 => ⟨S8x2048x1024, .f32⟩
  | 91 => ⟨S8x2048x1024, .f32⟩
  | 92 => ⟨S8x2048x1024, .f32⟩
  | 93 => ⟨S1x1x1024, .f32⟩
  | 94 => ⟨S1024, .f32⟩
  | 95 => ⟨S1x1x1024, .f32⟩
  | 96 => ⟨S8x2048x1024, .f32⟩
  | 97 => ⟨S8x2048x1024, .f32⟩
  | 98 => ⟨S8x2048x1024, .f32⟩
  | 99 => ⟨S1024, .f32⟩
  | 100 => ⟨S1x1x1024, .f32⟩
  | 101 => ⟨S8x2048x1024, .f32⟩
  | 102 => ⟨S8x2048x1024, .f32⟩
  | 103 => ⟨S1024, .f32⟩
  | 104 => ⟨S1024, .f32⟩
  | 105 => ⟨S_, .f32⟩
  | 106 => ⟨S8x2048, .f32⟩
  | 107 => ⟨S8x2048x1, .f32⟩
  | 108 => ⟨S_, .f32⟩
  | 109 => ⟨S8x2048x1, .f32⟩
  | 110 => ⟨S8x2048x1, .f32⟩
  | 111 => ⟨S8x2048x1024, .f32⟩
  | 112 => ⟨S8x2048x1024, .f32⟩
  | 113 => ⟨S8x2048x1024, .f32⟩
  | 114 => ⟨S_, .f32⟩
  | 115 => ⟨S8x2048, .f32⟩
  | 116 => ⟨S8x2048x1, .f32⟩
  | 117 => ⟨S_, .f32⟩
  | 118 => ⟨S8x2048x1, .f32⟩
  | 119 => ⟨S8x2048x1, .f32⟩
  | 120 => ⟨S_, .f32⟩
  | 121 => ⟨S8x2048x1, .f32⟩
  | 122 => ⟨S8x2048x1, .f32⟩
  | 123 => ⟨S8x2048x1, .f32⟩
  | 124 => ⟨S8x2048x1024, .f32⟩
  | 125 => ⟨S8x2048x1024, .f32⟩
  | 126 => ⟨S1x1x1024, .f32⟩
  | 127 => ⟨S8x2048x1024, .f32⟩
  | _ => ⟨S8x2048x1024, .f32⟩

abbrev hbmTy0_2 (i : Nat) : BufTy := match i % 128 with
  | 0 => ⟨S8x2048x1024, .f32⟩
  | 1 => ⟨S1x1x1024, .f32⟩
  | 2 => ⟨S8x2048x1024, .f32⟩
  | 3 => ⟨S8x2048x1024, .f32⟩
  | 4 => ⟨S8x2048x1024, .f32⟩
  | 5 => ⟨S8x2048x1024, .f32⟩
  | 6 => ⟨S_, .f32⟩
  | 7 => ⟨S8x2048x1024, .f32⟩
  | 8 => ⟨S8x2048x1024, .f32⟩
  | 9 => ⟨S_, .f32⟩
  | 10 => ⟨S8x2048x1024, .f32⟩
  | 11 => ⟨S8x2048x1024, .f32⟩
  | 12 => ⟨S8x2048x1024, .f32⟩
  | 13 => ⟨S8x2048x1024, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_cst_1 : Ref sig .tc := ⟨.hbm, 233, rfl⟩
abbrev main_v226 : Ref sig .tc := ⟨.hbm, 234, rfl⟩
abbrev main_v227 : Ref sig .tc := ⟨.hbm, 235, rfl⟩
abbrev main_cst_2 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_cst_4 : Ref sig .tc := ⟨.hbm, 245, rfl⟩
abbrev main_v235 : Ref sig .tc := ⟨.hbm, 246, rfl⟩
abbrev main_v236 : Ref sig .tc := ⟨.hbm, 247, rfl⟩
abbrev main_cst_5 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_call0_v0 : Ref sig .tc := ⟨.hbm, 260, rfl⟩
abbrev main_call0_v1 : Ref sig .tc := ⟨.hbm, 261, rfl⟩
abbrev main_call0_cst : Ref sig .tc := ⟨.hbm, 262, rfl⟩
abbrev main_call0_v2 : Ref sig .tc := ⟨.hbm, 263, rfl⟩
abbrev main_call0_v3 : Ref sig .tc := ⟨.hbm, 264, rfl⟩
abbrev main_call0_cst_0 : Ref sig .tc := ⟨.hbm, 265, rfl⟩
abbrev main_call0_v4 : Ref sig .tc := ⟨.hbm, 266, rfl⟩
abbrev main_call0_v5 : Ref sig .tc := ⟨.hbm, 267, rfl⟩
abbrev main_v248 : Ref sig .tc := ⟨.hbm, 268, rfl⟩
abbrev main_v249 : Ref sig .tc := ⟨.hbm, 269, rfl⟩

abbrev nD : Nat := 1
abbrev τ : Topo := Topo.v7x

variable {F : FTy → Type} [FloatOps F]
-- ==== Proof.TilesIdeal.lean ====
/- The expert kernel run over its 72 row tiles, for any tile tables in range: the tables are read off the launch
   memory, each point takes one of two paths (the tile is marked valid or it is not), and the run leaves every array at what
   the pipeline writes back. -/
module

public import proofs.«01_k».proof.Proof.Gen.Kernel2Ideal.Skeleton
public import proofs.«01_k».proof.Proof.Gen.Kernel2Ideal.Launch
public import proofs.«01_k».proof.Proof.Gen.Kernel2Ideal.Flash.Runs
public import proofs.«01_k».proof.Proof.Gen.Pre_tiles_in_range
public import proofs.«01_k».proof.Defs
public import Idealize.ShloMosaic.Lib.Claim

@[expose] public section

set_option maxRecDepth 16384

noncomputable section

namespace Cert.Kernel2Ideal.Tiles

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The tables, read off the launch memory -/

/-- The expert of each tile, and whether the tile holds rows, as the one core's memory has them. -/
def tabE (m : (ℓ : Loc nD τ sig) → Buf (Elt Ideal) ℓ) : S72.Idx → BitVec 32 := m (((0 : Dev nD) : Thread nD τ).loc main_arg0)
def tabV (m : (ℓ : Loc nD τ sig) → Buf (Elt Ideal) ℓ) : S72.Idx → BitVec 32 := m (((0 : Dev nD) : Thread nD τ).loc main_arg1)

set_option backward.proofsInPublic true in
/-- Both, as the pipeline's prefetched contents. -/
def tabs (m : (ℓ : Loc nD τ sig) → Buf (Elt Ideal) ℓ) : pre0.Contents (Elt Ideal) :=
  fun | ⟨0, _⟩ => tabE m | ⟨1, _⟩ => tabV m | ⟨_ + 2, h⟩ => absurd h (by simp)

/-- Every tile names one of the eight experts. -/
def InRange (m : (ℓ : Loc nD τ sig) → Buf (Elt Ideal) ℓ) : Prop := ∀ x : S72.Idx, (tabE m x).toNat < 8

/-- The precondition read word by word. -/
theorem inRange_of_pre (m : (ℓ : Loc nD τ sig) → Buf (Elt Ideal) ℓ) (h : Cert.Pre_Kernel2Ideal m) : InRange m := by
  intro x
  have e := congrFun (h 0) x
  simp only [Cert.Pre_tiles_in_range.fn, andi, cmpi, Scalar.andi, Scalar.cmpi, broadcastInDim, constantI] at e
  unfold tabE
  generalize hw : m (((0 : Dev nD) : Thread nD τ).loc main_arg0) x = w at *
  clear hw
  have key : ∀ w : BitVec 32, (0#32).sle w = true → w.slt 8#32 = true → w.toNat < 8 := by
    intro w h0 h1
    simp only [BitVec.sle, BitVec.slt, BitVec.toInt, decide_eq_true_eq] at h0 h1
    simp at h0 h1
    omega
  have e' : BitVec.ofBool ((0#32).sle w) &&& BitVec.ofBool (w.slt 8#32) = 1#1 := e
  refine key w ?_ ?_
  · cases h0 : (0#32).sle w
    · rw [h0] at e'; cases h1 : w.slt 8#32 <;> rw [h1] at e' <;> revert e' <;> decide
    · rfl
  · cases h1 : w.slt 8#32
    · rw [h1] at e'; cases h0 : (0#32).sle w <;> rw [h0] at e' <;> revert e' <;> decide
    · rfl

variable (m : (ℓ : Loc nD τ sig) → Buf (Elt Ideal) ℓ) (ρ : Dev nD → PrngReg)

/-- With every expert in range each weight block lies inside its array. -/
theorem ok_tabs (h : InRange m) : ok0 (F := Ideal) (tabs m) := by
  have hr : ∀ x : S72.Idx, (tabs m 0 x).toNat < 8 := h
  refine ⟨fun i => ⟨fun a => ?_, .inl rfl⟩, fun i => ⟨fun a => ?_, .inl rfl⟩, fun i => ⟨fun a => ?_, .inl rfl⟩⟩
  all_goals
    fin_cases a
    · have := hr ((Rect.unit (s := S72) ![(Scalar.indexCast (BitVec.ofNat 32 (i 0).val)).toNat] S1.size (k0_off1_inb i)).idx (Shape.Idx.first (numel1_S1.symm ▸ Nat.one_pos)))
      change (_ + 1) * 1 ≤ 8
      rw [Nat.mul_one]; exact this
    · exact le_of_eq (Nat.one_mul _)
    · exact le_of_eq (Nat.one_mul _)

def adm (h : InRange m) : (pcfg0 (F := Ideal)).Adm := ⟨tabs m, ok_tabs m h⟩
abbrev cfgT (h : InRange m) : Pipeline.Cfg sig Λ₀ := cfg0 (F := Ideal) (adm m h)
abbrev pcs (h : InRange m) : Fin 1 → Pipeline.Cfg sig Λ₀ := Pipeline.pin (pcfgs (F := Ideal)) fun _ => adm m h

/-! ## One point -/

/-- Point `t`'s coordinate. -/
abbrev crd (h : InRange m) (t : Fin (cfgT m h).N) : grid0.Coords := (cfgT m h).grid.coords t

abbrev st0 (h : InRange m) (t : Fin (cfgT m h).N) : Memref sig .tc .vmem S512x1024 .f32 := spec0_0.stage ((cfgT m h).slots t (0 : Fin 5))
abbrev sh0 (h : InRange m) (t : Fin (cfgT m h).N) : (st0 m h t).IsWhole := hstage0_0 (((cfgT m h).slots t (0 : Fin 5)).cast nbuf0_0)
abbrev st1 (h : InRange m) (t : Fin (cfgT m h).N) : Memref sig .tc .vmem S1x1024x2816 .f32 := spec0_1.stage ((cfgT m h).slots t (1 : Fin 5))
abbrev sh1 (h : InRange m) (t : Fin (cfgT m h).N) : (st1 m h t).IsWhole := hstage0_1 (((cfgT m h).slots t (1 : Fin 5)).cast nbuf0_1)
abbrev st2 (h : InRange m) (t : Fin (cfgT m h).N) : Memref sig .tc .vmem S1x1024x2816 .f32 := spec0_2.stage ((cfgT m h).slots t (2 : Fin 5))
abbrev sh2 (h : InRange m) (t : Fin (cfgT m h).N) : (st2 m h t).IsWhole := hstage0_2 (((cfgT m h).slots t (2 : Fin 5)).cast nbuf0_2)
abbrev st3 (h : InRange m) (t : Fin (cfgT m h).N) : Memref sig .tc .vmem S1x2816x1024 .f32 := spec0_3.stage ((cfgT m h).slots t (3 : Fin 5))
abbrev sh3 (h : InRange m) (t : Fin (cfgT m h).N) : (st3 m h t).IsWhole := hstage0_3 (((cfgT m h).slots t (3 : Fin 5)).cast nbuf0_3)
abbrev st4 (h : InRange m) (t : Fin (cfgT m h).N) : Memref sig .tc .vmem S512x1024 .f32 := spec0_4.stage ((cfgT m h).slots t (4 : Fin 5))
abbrev sh4 (h : InRange m) (t : Fin (cfgT m h).N) : (st4 m h t).IsWhole := hstage0_4 (((cfgT m h).slots t (4 : Fin 5)).cast nbuf0_4)

/-- Window `w`'s block at point `t`, read off its array at launch. -/
def blockAt (h : InRange m) (c : Dev nD) (w : Fin (cfgT m h).W) (t : Fin (cfgT m h).N) :
    (((cfgT m h).win w).xblock (crd m h t)).Idx → Elt Ideal ((cfgT m h).win w).elt :=
  (((cfgT m h).win w).blk t).view.read (Elt Ideal) ((s₀ m ρ).mem (((cfgT m h).win w).arr.view.loc (c : Thread nD τ)))

/-- The validity word the body reads at a point. -/
def word (T : S72.Idx → BitVec 32) (i : grid0.Coords) : BitVec 32 :=
  View.readAt (Elt Ideal) (tbM0_1).view (Rect.unit (s := S72) (k0_off1 i) S1.size (k0_off1_inb i)).toLoadRect T (Shape.Idx.first (numel1_S1.symm ▸ Nat.one_pos))

/-- The word is either zero or not: exactly one of the body's two conditions holds. -/
theorem cond2_of (v : BitVec 32) (h : ¬ k0_cond1 v = 1#1) : k0_cond2 v = 1#1 := by
  revert h; unfold k0_cond1 k0_cond2
  simp only [Scalar.cmpi, IntOp.cmpi, Scalar.extui]
  by_cases hv : v = 0#32
  · subst hv; decide
  · have hb : (v == 0#32) = false := beq_eq_false_iff_ne.mpr hv
    intro _
    show BitVec.ofBool (BitVec.setWidth 32 (BitVec.ofBool (!(v == 0#32))) != 0#32) = 1#1
    rw [hb]; decide
theorem not_cond2_of (v : BitVec 32) (h : k0_cond1 v = 1#1) : ¬ k0_cond2 v = 1#1 := by
  revert h; unfold k0_cond1 k0_cond2
  simp only [Scalar.cmpi, IntOp.cmpi, Scalar.extui]
  by_cases hv : v = 0#32
  · subst hv; decide
  · have hb : (v == 0#32) = false := beq_eq_false_iff_ne.mpr hv
    show BitVec.ofBool (BitVec.setWidth 32 (BitVec.ofBool (v == 0#32)) != 0#32) = 1#1 → _
    rw [hb]; intro hf; exact absurd hf (by decide)

/-- What the body leaves in the output block at point `t`: one path's contents or the other's. -/
def left (h : InRange m) (c : Dev nD) (t : Fin (cfgT m h).N) : S512x1024.Idx → Elt Ideal .f32 :=
  if hc : k0_cond1 (word (tabV m) (crd m h t)) = 1#1 then
    out0_B_4 c (crd m h t) (st0 m h t) (sh0 m h t) (st1 m h t) (sh1 m h t) (st2 m h t) (sh2 m h t) (st3 m h t) (sh3 m h t) (st4 m h t) (sh4 m h t) (tabE m) (tabV m)
      (blockAt m ρ h c (0 : Fin 5) t) (blockAt m ρ h c (1 : Fin 5) t) (blockAt m ρ h c (2 : Fin 5) t) (blockAt m ρ h c (3 : Fin 5) t) hc (not_cond2_of _ hc)
  else
    out0_A_4 c (crd m h t) (st0 m h t) (sh0 m h t) (st1 m h t) (sh1 m h t) (st2 m h t) (sh2 m h t) (st3 m h t) (sh3 m h t) (st4 m h t) (sh4 m h t) (tabE m) (tabV m)
      (blockAt m ρ h c (0 : Fin 5) t) (blockAt m ρ h c (1 : Fin 5) t) (blockAt m ρ h c (2 : Fin 5) t) (blockAt m ρ h c (3 : Fin 5) t) hc (cond2_of _ hc)

/-- The two tables' halves the body holds throughout. -/
def held (c : Dev nD) : sProp 𝕄 :=
  iprop((tbM0_0.view.loc (c : Thread nD τ) ↦{fullShare.right} tabE m) ∗ (tbM0_1.view.loc (c : Thread nD τ) ↦{fullShare.right} tabV m))

/-- The pipeline's proof data. -/
def dats (h : InRange m) (_ : Fin 1) (c : Dev nD) : Dat τ (Elt Ideal) Unit ℕ (UR sig nD τ) ℕ (cfgT m h) c where
  A w := (s₀ m ρ).mem (((cfgT m h).win w).arr.view.loc (c : Thread nD τ))
  after w t := match w with
    | ⟨0, _⟩ => blockAt m ρ h c (0 : Fin 5) t
    | ⟨1, _⟩ => blockAt m ρ h c (1 : Fin 5) t
    | ⟨2, _⟩ => blockAt m ρ h c (2 : Fin 5) t
    | ⟨3, _⟩ => blockAt m ρ h c (3 : Fin 5) t
    | ⟨4, _⟩ => left m ρ h c t
  Φ _ := held m c
  q _ := fullShare
  owed _ := 0

/-- An input window finds its block whether it was fetched at the point or before. -/
theorem before_in (h : InRange m) (c : Dev nD) (t : Fin (cfgT m h).N) :
    (∀ d, (dats m ρ h 0 c).before (0 : Fin 5) t d = blockAt m ρ h c (0 : Fin 5) t)
    ∧ (∀ d, (dats m ρ h 0 c).before (1 : Fin 5) t d = blockAt m ρ h c (1 : Fin 5) t)
    ∧ (∀ d, (dats m ρ h 0 c).before (2 : Fin 5) t d = blockAt m ρ h c (2 : Fin 5) t)
    ∧ (∀ d, (dats m ρ h 0 c).before (3 : Fin 5) t d = blockAt m ρ h c (3 : Fin 5) t) := by
  refine ⟨fun d => ?_, fun d => ?_, fun d => ?_, fun d => ?_⟩
  · exact ((dats m ρ h 0 c).before_in_eq_fetched (0 : Fin 5) rfl (fun _ => rfl) (fun _ _ _ => rfl) (fun t => by show blockAt m ρ h c (0 : Fin 5) t = _; unfold Dat.blockOf blockAt; rfl) t d).trans
      (by unfold Dat.fetched Dat.blockOf blockAt; rfl)
  · exact ((dats m ρ h 0 c).before_in_eq_fetched (1 : Fin 5) rfl (fun _ => rfl) (fun _ _ _ => rfl) (fun t => by show blockAt m ρ h c (1 : Fin 5) t = _; unfold Dat.blockOf blockAt; rfl) t d).trans
      (by unfold Dat.fetched Dat.blockOf blockAt; rfl)
  · exact ((dats m ρ h 0 c).before_in_eq_fetched (2 : Fin 5) rfl (fun _ => rfl) (fun _ _ _ => rfl) (fun t => by show blockAt m ρ h c (2 : Fin 5) t = _; unfold Dat.blockOf blockAt; rfl) t d).trans
      (by unfold Dat.fetched Dat.blockOf blockAt; rfl)
  · exact ((dats m ρ h 0 c).before_in_eq_fetched (3 : Fin 5) rfl (fun _ => rfl) (fun _ _ _ => rfl) (fun t => by show blockAt m ρ h c (3 : Fin 5) t = _; unfold Dat.blockOf blockAt; rfl) t d).trans
      (by unfold Dat.fetched Dat.blockOf blockAt; rfl)

/-- The output is stored at every point, whichever path runs. -/
theorem stored (h : InRange m) (t : Fin (cfgT m h).N) : (cfgT m h).idle (4 : Fin 5) ((cfgT m h).grid.coords t) = false := by
  show (!(k0_cond1 ((tabs m).atD 1 (k0_off1 (crd m h t))) == 1#1) && !(k0_cond2 ((tabs m).atD 1 (k0_off1 (crd m h t))) == 1#1)) = false
  generalize (tabs m).atD 1 (k0_off1 (crd m h t)) = v
  by_cases hv : k0_cond1 v = 1#1
  · rw [hv]; rfl
  · rw [cond2_of v hv]; simp

/-- The body at point `t`, as the pipeline calls it. -/
abbrev bodyAt (h : InRange m) (t : Fin (cfgT m h).N) : Prog (TpuEff nD τ sig (Elt Ideal) Λ₀ .tc) PUnit :=
  cc0_moe_experts_p (crd m h t) (Memref.whole main_arg0) (Memref.isWhole_whole _) (Memref.whole main_arg1) (Memref.isWhole_whole _) (st0 m h t) (sh0 m h t) (st1 m h t) (sh1 m h t) (st2 m h t) (sh2 m h t) (st3 m h t) (sh3 m h t) (st4 m h t) (sh4 m h t)

/-- What a point's body finds, and what it leaves. -/
def found (h : InRange m) (c : Dev nD) (t : Fin (cfgT m h).N) : sProp 𝕄 :=
  iprop(held m c ∗ (dats m ρ h 0 c).owesAt () t.castSucc
    ∗ owns (c : Thread nD τ) (st0 m h t) fullShare (blockAt m ρ h c (0 : Fin 5) t)
    ∗ owns (c : Thread nD τ) (st1 m h t) fullShare (blockAt m ρ h c (1 : Fin 5) t)
    ∗ owns (c : Thread nD τ) (st2 m h t) fullShare (blockAt m ρ h c (2 : Fin 5) t)
    ∗ owns (c : Thread nD τ) (st3 m h t) fullShare (blockAt m ρ h c (3 : Fin 5) t)
    ∗ (∃ d, owns (c : Thread nD τ) (st4 m h t) fullShare d))
def done (h : InRange m) (c : Dev nD) (t : Fin (cfgT m h).N) : sProp 𝕄 :=
  iprop(held m c ∗ (dats m ρ h 0 c).owesAt () t.castSucc
    ∗ owns (c : Thread nD τ) (st0 m h t) fullShare (blockAt m ρ h c (0 : Fin 5) t)
    ∗ owns (c : Thread nD τ) (st1 m h t) fullShare (blockAt m ρ h c (1 : Fin 5) t)
    ∗ owns (c : Thread nD τ) (st2 m h t) fullShare (blockAt m ρ h c (2 : Fin 5) t)
    ∗ owns (c : Thread nD τ) (st3 m h t) fullShare (blockAt m ρ h c (3 : Fin 5) t)
    ∗ owns (c : Thread nD τ) (st4 m h t) fullShare (left m ρ h c t))

set_option maxHeartbeats 4000000 in
/-- Whichever path the validity word selects, its run goes from the one to the other. -/
theorem point (h : InRange m) (c : Dev nD) (t : Fin (cfgT m h).N) :
    found m ρ h c t ⊢ wp frame (wpE (defs₀ (F := Ideal)) Variants.none c none) Set.univ (bodyAt m h t) fun _ => done m ρ h c t := by
  unfold found done held
  by_cases hc : k0_cond1 (word (tabV m) (crd m h t)) = 1#1
  · have hl : left m ρ h c t = _ := dif_pos hc
    rw [hl]
    iintro ⟨⟨HT0, HT1⟩, Ho, H0, H1, H2, H3, ⟨%d4, H4⟩⟩
    iapply ((kernelRun0_B c (crd m h t) (st0 m h t) (sh0 m h t) (st1 m h t) (sh1 m h t) (st2 m h t) (sh2 m h t) (st3 m h t) (sh3 m h t) (st4 m h t) (sh4 m h t) (tabE m) (tabV m)
      (blockAt m ρ h c (0 : Fin 5) t) (blockAt m ρ h c (1 : Fin 5) t) (blockAt m ρ h c (2 : Fin 5) t) (blockAt m ρ h c (3 : Fin 5) t) hc (not_cond2_of _ hc)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)
  · have hl : left m ρ h c t = _ := dif_neg hc
    rw [hl]
    iintro ⟨⟨HT0, HT1⟩, Ho, H0, H1, H2, H3, ⟨%d4, H4⟩⟩
    iapply ((kernelRun0_A c (crd m h t) (st0 m h t) (sh0 m h t) (st1 m h t) (sh1 m h t) (st2 m h t) (sh2 m h t) (st3 m h t) (sh3 m h t) (st4 m h t) (sh4 m h t) (tabE m) (tabV m)
      (blockAt m ρ h c (0 : Fin 5) t) (blockAt m ρ h c (1 : Fin 5) t) (blockAt m ρ h c (2 : Fin 5) t) (blockAt m ρ h c (3 : Fin 5) t) hc (cond2_of _ hc)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)

/-- The pipeline's obligation at every point. -/
theorem obligation (h : InRange m) (c : Dev nD) : BodyObligation (dats m ρ h 0 c) (defs₀ (F := Ideal)) Variants.none () Set.univ := fun t => by
  rw [bigSep_W0, bigSep_W0]
  obtain ⟨b0, b1, b2, b3⟩ := before_in m ρ h c t
  rewrite [stored m h t]
  have hΦ : ∀ k, (dats m ρ h 0 c).Φ k = held m c := fun _ => rfl
  simp only [b0, b1, b2, b3, hΦ]
  refine BIBase.Entails.trans ?_ (point m ρ h c t)
  unfold found
  iintro ⟨HT, Ho, ⟨%d0, H0⟩, ⟨%d1, H1⟩, ⟨%d2, H2⟩, ⟨%d3, H3⟩, ⟨%d4, H4⟩⟩
  isplitl [HT]; · iexact HT
  isplitl [Ho]; · iexact Ho
  isplitl [H0]; · iexact H0
  isplitl [H1]; · iexact H1
  isplitl [H2]; · iexact H2
  isplitl [H3]; · iexact H3
  iexists _; iexact H4

/-! ## The launch -/

/-- The proof's resource algebra: the rounds library's, embedded whole. -/
abbrev EP : Emb (UR sig nD τ) 𝕄 := emb₁

/-- The launch element. -/
def u₀ (h : InRange m) : UR sig nD τ :=
  initOf (Pipeline.cells (pcs m h) ((launch0 (F := Ideal)).cellOf_inj fun _ => adm m h))
    (Pipeline.launchToks (pcs m h) ((launch0 (F := Ideal)).cellOf_inj fun _ => adm m h))

theorem full (h : InRange m) (c : Dev nD) (w : Fin (cfgT m h).W) : (dats m ρ h 0 c).share w = fullShare := by unfold Dat.share; split <;> rfl

/-- The tables as the launch hands them over, one by one. -/
theorem prefHeld_two (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- What the run leaves: every array at what the pipeline wrote, every table as it was. -/
def Left (h : InRange m) : PUnit × MemSt nD τ sig (Elt Ideal) → Prop := fun r =>
  ∀ c : Dev nD, (∀ w : Fin (cfgT m h).W, r.2.mem (((cfgT m h).win w).arr.view.loc (c : Thread nD τ)) = (dats m ρ h 0 c).arrAt w (cfgT m h).N)
    ∧ ∀ j, r.2.mem ((c : Thread nD τ).loc (pre0.ref j)) = (adm m h).1 j

theorem tabs_eq (h : InRange m) (c : Dev nD) (j : Fin 2) : m ((c : Thread nD τ).loc (pre0.ref j)) = (adm m h).1 j := by
  obtain rfl : c = 0 := Subsingleton.elim _ _
  fin_cases j <;> rfl

set_option backward.isDefEq.respectTransparency.types false in
set_option maxHeartbeats 4000000 in
/-- The launch: every fair execution ends with the arrays as the pipeline leaves them and every counter at zero. -/
theorem launched (h : InRange m) : θ_run (defs (F := Ideal)) (onTc (τ := τ) (main (F := Ideal))) (s₀ m ρ) (fun r => Left m ρ h r ∧ r.2.sem = fun _ => 0) :=
  Pipeline.θ_run_region_noSem_pf_quiescent pcfgs (fun _ => adm m h) (dats m ρ h) () ((launch0 (F := Ideal)).cellOf_inj fun _ => adm m h) (0 : Fin 1)
    (launch0 (F := Ideal)).win.to₀ (launch0 (F := Ideal)).pre EP defs₀ Variants.none m ρ main
    (hbody := fun c => (obligation m ρ h c).loose) (hne := (launch0 (F := Ideal)).block_pos)
    (harr := (launch0 (F := Ideal)).arr_whole) (hstage := (launch0 (F := Ideal)).stage_whole) (howed := fun _ _ => rfl)
    (u₀ := u₀ m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m h) (dats m ρ h) 0 (launch0 (F := Ideal)).win.arr_inj c (launch0 (F := Ideal)).arr_whole
      (full m ρ h c) _ _ fun _ => rfl)
    (hpf := tabs_eq m h)
    (X := fun _ => iprop(emp)) (Y := fun _ => iprop(emp)) (Z := fun _ => iprop(emp))
    (hX := fun c => by rw [unscopedRestP0_eq]; iintro -; isplitr <;> iempintro)
    (hin := fun c => by
      rw [prefHeld_two, scopedRest0_eq, show (dats m ρ h 0 c).Φ 0 = held m c from rfl]
      unfold held
      iintro ⟨-, ⟨HT0, HT1⟩, -⟩
      isplitl [HT0]
      · iexact HT0
      iexact HT1)
    (hout := fun c => by
      rw [scopedRest0_eq]
      iintro -
      isplitr; · iempintro
      iempintro)
    (QY := fun _ _ => True)
    (hY := fun c s' => by
      iintro ⟨-, -, HSI⟩; imodintro
      isplitr; · ipureintro; trivial
      iexact HSI)
    (hQ := fun _ hq hz => ⟨fun c => ⟨(hq c).1, (hq c).2.1⟩, hz⟩)

/-- After the run the six arguments are as launched. -/
theorem kept (h : InRange m) (r : PUnit × MemSt nD τ sig (Elt Ideal)) (hr : Left m ρ h r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((hr c).2 0).trans (tabs_eq m h c 0).symm, ((hr c).2 1).trans (tabs_eq m h c 1).symm,
    ((hr c).1 (0 : Fin 5)).trans ((dats m ρ h 0 c).arrAt_in (0 : Fin 5) rfl _),
    ((hr c).1 (1 : Fin 5)).trans ((dats m ρ h 0 c).arrAt_in (1 : Fin 5) rfl _),
    ((hr c).1 (2 : Fin 5)).trans ((dats m ρ h 0 c).arrAt_in (2 : Fin 5) rfl _),
    ((hr c).1 (3 : Fin 5)).trans ((dats m ρ h 0 c).arrAt_in (3 : Fin 5) rfl _)⟩

/-- The frame claim, under the precondition. -/
theorem frame_claim : Cert.quiescent_Kernel2Ideal := fun m ρ hpre =>
  (θ_run (defs (F := Ideal)) _ _).mono (fun r hr => ⟨kept m ρ (inRange_of_pre m hpre) r hr.1, hr.2⟩) (launched m ρ (inRange_of_pre m hpre))

end Cert.Kernel2Ideal.Tiles

end
-- ==== Proof.TilesMath.lean ====
/- The routed experts as a function of the gathered rows, the tiles' experts and the weights, element by element. -/
module

public import Idealize.ShloMosaic.Lib.Pointwise

@[expose] public section

noncomputable section

namespace Cert.Tiles

open Idealize.ShloMosaic

/-- The hidden unit: the gate times its logistic, times the up projection. -/
def unit (a b : EReal) : EReal := a * Ideal.div 1 (1 + Ideal.exp (-a)) * b

/-- One expert applied to one row, read at one output column: `x` the row, `g`, `u` the two projections, `d` the column of the
    down projection. -/
def expertAt (x : Fin 1024 → EReal) (g u : Fin 1024 → Fin 2816 → EReal) (d : Fin 2816 → EReal) : EReal :=
  ∑ h, unit (∑ k, x k * g k h) (∑ k, x k * u k h) * d h

/-- The tile of a row: 512 rows to a tile. -/
def tileOf (R : Fin 36864) : Fin 72 := ⟨R.val / 512, by have := R.isLt; omega⟩

/-- The result at row `R`, column `c`: the tile's expert on the row where the tile is marked, zero where it is not. -/
def resultAt (E V : Fin 72 → BitVec 32) (hE : ∀ t, (E t).toNat < 8) (x : Fin 36864 → Fin 1024 → EReal) (g u : Fin 8 → Fin 1024 → Fin 2816 → EReal)
    (d : Fin 8 → Fin 2816 → Fin 1024 → EReal) (R : Fin 36864) (c : Fin 1024) : EReal :=
  if V (tileOf R) = 0#32 then 0
  else expertAt (x R) (g ⟨_, hE (tileOf R)⟩) (u ⟨_, hE (tileOf R)⟩) (fun h => d ⟨_, hE (tileOf R)⟩ h c)

end Cert.Tiles

end
-- ==== Proof.TilesValue.lean ====
/- What the expert kernel leaves, element by element: row `R` of the result is its tile's expert applied to row `R` of the
   gathered rows — the down projection of the gate's activation times the up projection, the sum over the 2816 hidden
   columns taken in eleven blocks of 256 — where the tile is marked valid, and zero where it is not. -/
module

public import proofs.«01_k».proof.Proof.TilesIdeal
public import proofs.«01_k».proof.Proof.TilesMath
public import Idealize.ShloMosaic.Lib.Pipeline.Value
public import Idealize.ShloMosaic.Lib.Pipeline.ValueKit
public import Idealize.ShloMosaic.Lib.VecWindow
public import Idealize.ShloMosaic.Lib.Pointwise

@[expose] public section

set_option maxRecDepth 16384

noncomputable section

namespace Cert.Kernel2Ideal.Tiles

open Cert.Kernel2Ideal Cert.Kernel2Ideal.Gen Cert.Tiles
open Idealize.ShloMosaic Idealize.ShloMosaic.TcCoe Idealize.SL.Sem

/-! ## One block of hidden columns -/

/-- One block of 256 hidden columns, as the kernel computes it: both projections of the rows, the gate's activation times
    the other, and its product with the block's rows of the down projection. -/
def chunk (x : FVec Ideal S512x1024 .f32) (g u : FVec Ideal S1x1024x256 .f32) (d : FVec Ideal S1x256x1024 .f32) : FVec Ideal S512x1024 .f32 :=
  let xb := truncf .bf16 x bitsLt_bf16_f32
  let a := matmul dot_S512x1024_S1024x256_S512x256_1_0_0_1_n_n none xb (truncf .bf16 (shapeCast S1024x256 g shapeCasts_S1x1024x256_S1024x256) bitsLt_bf16_f32) (constant S512x256 .f32 0x00000000#32)
  let b := matmul dot_S512x1024_S1024x256_S512x256_1_0_0_1_n_n none xb (truncf .bf16 (shapeCast S1024x256 u shapeCasts_S1x1024x256_S1024x256) bitsLt_bf16_f32) (constant S512x256 .f32 0x00000000#32)
  let s := divf (broadcast S512x256 (Scalar.ofBits .f32 0x3F800000#32)) (addf (broadcast S512x256 (Scalar.ofBits .f32 0x3F800000#32)) (exp (subf (broadcast S512x256 (Scalar.ofBits .f32 0x00000000#32)) a)))
  matmul dot_S512x256_S256x1024_S512x1024_1_0_0_1_n_n none (truncf .bf16 (mulf (mulf a s) b) bitsLt_bf16_f32)
    (truncf .bf16 (shapeCast S256x1024 d shapeCasts_S1x256x1024_S256x1024) bitsLt_bf16_f32) (constant S512x1024 .f32 0x00000000#32)

theorem chunk_apply (x : FVec Ideal S512x1024 .f32) (g u : FVec Ideal S1x1024x256 .f32) (d : FVec Ideal S1x256x1024 .f32) (j : S512x1024.Idx) :
    chunk x g u d j = ∑ q : Fin 256, unit (∑ k, x (ix2 (j 0) k) * g (ix3 0 k q)) (∑ k, x (ix2 (j 0) k) * u (ix3 0 k q)) * d (ix3 0 q (j 1)) := by
  unfold chunk unit
  pointwise
  simp only [zero_sub]

/-- Block `b`'s columns of a projection, and its rows of the down projection, as the kernel loads them. -/
def colsOf (b : Fin 11) (w : FVec Ideal S1x1024x2816 .f32) : FVec Ideal S1x1024x256 .f32 :=
  View.ld (Val := Elt Ideal) (e' := .f32) w (Rect.unit (s := S1x1024x2816) ![0, 0, 256 * b.val] ![1, 1024, 256] (fun a => match a with
    | ⟨0, _⟩ => le_refl 1 | ⟨1, _⟩ => le_refl 1024 | ⟨2, _⟩ => (by have := b.isLt; show 256 * b.val + 256 ≤ 2816; omega)))
def rowsOf (b : Fin 11) (w : FVec Ideal S1x2816x1024 .f32) : FVec Ideal S1x256x1024 .f32 :=
  View.ld (Val := Elt Ideal) (e' := .f32) w (Rect.unit (s := S1x2816x1024) ![0, 256 * b.val, 0] ![1, 256, 1024] (fun a => match a with
    | ⟨0, _⟩ => le_refl 1 | ⟨1, _⟩ => (by have := b.isLt; show 256 * b.val + 256 ≤ 2816; omega) | ⟨2, _⟩ => le_refl 1024))

theorem colsOf_apply (b : Fin 11) (w : FVec Ideal S1x1024x2816 .f32) (k : Fin 1024) (q : Fin 256) :
    colsOf b w (ix3 0 k q) = w (ix3 0 k (finProdFinEquiv (b, q))) := by
  refine congrArg w (funext fun a => Fin.ext ?_)
  match a with
  | ⟨0, _⟩ => rfl
  | ⟨1, _⟩ => show 0 + 1 * k.val = k.val; omega
  | ⟨2, _⟩ => show 256 * b.val + 1 * q.val = q.val + 256 * b.val; omega
theorem rowsOf_apply (b : Fin 11) (w : FVec Ideal S1x2816x1024 .f32) (q : Fin 256) (c : Fin 1024) :
    rowsOf b w (ix3 0 q c) = w (ix3 0 (finProdFinEquiv (b, q)) c) := by
  refine congrArg w (funext fun a => Fin.ext ?_)
  match a with
  | ⟨0, _⟩ => rfl
  | ⟨1, _⟩ => show 256 * b.val + 1 * q.val = q.val + 256 * b.val; omega
  | ⟨2, _⟩ => show 0 + 1 * c.val = c.val; omega

/-- Block `b`'s contribution, and the blocks added in order. -/
def part (x : FVec Ideal S512x1024 .f32) (g u : FVec Ideal S1x1024x2816 .f32) (d : FVec Ideal S1x2816x1024 .f32) (b : Fin 11) : FVec Ideal S512x1024 .f32 :=
  chunk x (colsOf b g) (colsOf b u) (rowsOf b d)
def acc (x : FVec Ideal S512x1024 .f32) (g u : FVec Ideal S1x1024x2816 .f32) (d : FVec Ideal S1x2816x1024 .f32) : FVec Ideal S512x1024 .f32 :=
  let p := part x g u d
  addf (addf (addf (addf (addf (addf (addf (addf (addf (addf (addf (broadcast S512x1024 (Scalar.ofBits .f32 0x00000000#32)) (p 0)) (p 1)) (p 2)) (p 3)) (p 4)) (p 5)) (p 6)) (p 7)) (p 8)) (p 9)) (p 10)

/-- The eleven blocks together are the whole sum over the hidden columns. -/
theorem acc_apply (x : FVec Ideal S512x1024 .f32) (g u : FVec Ideal S1x1024x2816 .f32) (d : FVec Ideal S1x2816x1024 .f32) (j : S512x1024.Idx) :
    acc x g u d j = expertAt (fun k => x (ix2 (j 0) k)) (fun k h => g (ix3 0 k h)) (fun k h => u (ix3 0 k h)) (fun h => d (ix3 0 h (j 1))) := by
  have e : acc x g u d j = ∑ b : Fin 11, part x g u d b j := by
    unfold acc
    simp only [Fin.sum_univ_succ, Fin.sum_univ_zero]
    pointwise
    simp only [zero_add, add_zero, ← add_assoc]
    rfl
  rw [e]
  unfold expertAt part
  simp only [chunk_apply, colsOf_apply, rowsOf_apply]
  rw [← Fintype.sum_prod_type']
  exact Fintype.sum_equiv (finProdFinEquiv (m := 11) (n := 256)) _ (fun h : Fin 2816 => unit (∑ k, x (ix2 (j 0) k) * g (ix3 0 k h)) (∑ k, x (ix2 (j 0) k) * u (ix3 0 k h)) * d (ix3 0 h (j 1))) (fun p => congrArg (unit (∑ k, x (ix2 (j 0) k) * g (ix3 0 k (finProdFinEquiv p))) (∑ k, x (ix2 (j 0) k) * u (ix3 0 k (finProdFinEquiv p))) * ·) (rowsOf_apply p.1 d p.2 (j 1)))

/-! ## The two paths' contents -/

section Paths
variable (c : Dev nD) (i : grid0.Coords) (arg3 : Memref sig .tc .vmem S512x1024 .f32) (harg3 : arg3.IsWhole) (arg4 : Memref sig .tc .vmem S1x1024x2816 .f32) (harg4 : arg4.IsWhole) (arg5 : Memref sig .tc .vmem S1x1024x2816 .f32) (harg5 : arg5.IsWhole) (arg6 : Memref sig .tc .vmem S1x2816x1024 .f32) (harg6 : arg6.IsWhole) (arg7 : Memref sig .tc .vmem S512x1024 .f32) (harg7 : arg7.IsWhole) (T0 : (S72.Idx → Elt Ideal .i32)) (T1 : (S72.Idx → Elt Ideal .i32))
     (x0 : (S512x1024.Idx → Elt Ideal .f32)) (x1 : (S1x1024x2816.Idx → Elt Ideal .f32)) (x2 : (S1x1024x2816.Idx → Elt Ideal .f32)) (x3 : (S1x2816x1024.Idx → Elt Ideal .f32))

/-- A valid tile's block: the eleven blocks of hidden columns added up. -/
theorem out_A (h1) (h2) :
    out0_A_4 c i arg3 harg3 arg4 harg4 arg5 harg5 arg6 harg6 arg7 harg7 T0 T1 x0 x1 x2 x3 h1 h2 = acc x0 x1 x2 x3 := by
  unfold out0_A_4
  rw [View.read_writes_eq_canon _ _ _ (cover0_A_4 c i arg3 harg3 arg4 harg4 arg5 harg5 arg6 harg6 arg7 harg7 T0 T1 x0 x1 x2 x3 h1 h2)]
  unfold kernelRun0_A
  dsimp only
  frame_out
  simp only [View.read_rep]
  rfl

/-- An unmarked tile's block: zero. -/
theorem out_B (h1) (h2) :
    out0_B_4 c i arg3 harg3 arg4 harg4 arg5 harg5 arg6 harg6 arg7 harg7 T0 T1 x0 x1 x2 x3 h1 h2 = fun _ => (0 : EReal) := by
  funext j
  unfold out0_B_4
  rw [View.read_writes_eq_canon _ _ _ (cover0_B_4 c i arg3 harg3 arg4 harg4 arg5 harg5 arg6 harg6 arg7 harg7 T0 T1 x0 x1 x2 x3 h1 h2)]
  unfold kernelRun0_B
  dsimp only
  frame_out
  unfold k0_pay1
  pointwise

end Paths

/-! ## The blocks in the arrays -/

variable (m : (ℓ : Loc nD τ sig) → Buf (Elt Ideal) ℓ) (ρ : Dev nD → PrngReg)

/-- The point's number is its coordinate, and the rows' windows are at it. -/
theorem rows_at : ∀ t : Fin grid0.N, cc0_transform_0 (grid0.coords t) = ![t.val, 0] := by decide +kernel
theorem rows_at' : ∀ t : Fin grid0.N, cc0_transform_4 (grid0.coords t) = ![t.val, 0] := by decide +kernel
theorem off_at : ∀ t : Fin grid0.N, k0_off1 (grid0.coords t) = ![t.val] := by decide +kernel
theorem cast_at : ∀ t : Fin grid0.N, (Scalar.indexCast (BitVec.ofNat 32 (grid0.coords t 0).val)).toNat = t.val := by decide +kernel

/-- The validity word of point `t` is the table's entry `t`. -/
theorem word_at (T : S72.Idx → BitVec 32) (t : Fin grid0.N) : word T (grid0.coords t) = T (ix1 ⟨t.val, t.isLt⟩) := by
  refine congrArg T (funext fun a => Fin.ext ?_)
  refine match a with | ⟨0, _⟩ => ?_
  show k0_off1 (grid0.coords t) 0 + 1 * 0 = t.val
  rw [off_at]; rfl

theorem cond1_iff (v : BitVec 32) : k0_cond1 v = 1#1 ↔ v = 0#32 := by
  by_cases hv : v = 0#32
  · subst hv; exact iff_of_true (by decide) rfl
  · refine iff_of_false ?_ hv
    have hb : (v == 0#32) = false := beq_eq_false_iff_ne.mpr hv
    show ¬ BitVec.ofBool (BitVec.setWidth 32 (BitVec.ofBool (v == 0#32)) != 0#32) = 1#1
    rw [hb]; decide

/-- The weights' windows are at the tile's expert. -/
theorem expert_at (h : InRange m) (t : Fin grid0.N) :
    cc0_transform_1 k0_off1_inb numel1_S1 (adm m h).1 (grid0.coords t) = ![(tabE m (ix1 ⟨t.val, t.isLt⟩)).toNat, 0, 0] := by
  have e : (adm m h).1.at 0 (Rect.unit (s := S72) ![(Scalar.indexCast (BitVec.ofNat 32 (grid0.coords t 0).val)).toNat] S1.size (k0_off1_inb _)) numel1_S1 = tabE m (ix1 ⟨t.val, t.isLt⟩) := by
    refine congrArg (tabE m) (funext fun a => Fin.ext ?_)
    refine match a with | ⟨0, _⟩ => ?_
    show (Scalar.indexCast (BitVec.ofNat 32 (grid0.coords t 0).val)).toNat + 1 * 0 = t.val
    rw [cast_at]; rfl
  unfold cc0_transform_1
  dsimp only
  rw [e]
  rfl

theorem block0 (h : InRange m) (c : Dev nD) (t : Fin (cfgT m h).N) (r : Fin 512) (k : Fin 1024) (R : Fin 36864) (hR : R.val = 512 * t.val + r.val) :
    blockAt m ρ h c (0 : Fin 5) t (ix2 r k) = (m ((c : Thread nD τ).loc main_arg2) : S36864x1024.Idx → EReal) (ix2 R k) := by
  refine congrArg (m ((c : Thread nD τ).loc main_arg2) : S36864x1024.Idx → EReal) (funext fun a => Fin.ext ?_)
  refine (Pipeline.Window.rect_emb_val ((cfgT m h).win (0 : Fin 5)) t (ix2 r k) a rfl).trans ?_
  show cc0_transform_0 (grid0.coords t) a * _ + _ = _
  rw [rows_at]
  match a with
  | ⟨0, _⟩ => show t.val * 512 + r.val = R.val; omega
  | ⟨1, _⟩ => show 0 * 1024 + k.val = k.val; omega

theorem block1 (h : InRange m) (c : Dev nD) (t : Fin (cfgT m h).N) (k : Fin 1024) (q : Fin 2816) (e : Fin 8) (he : e.val = (tabE m (ix1 ⟨t.val, t.isLt⟩)).toNat) :
    blockAt m ρ h c (1 : Fin 5) t (ix3 0 k q) = (m ((c : Thread nD τ).loc main_arg3) : S8x1024x2816.Idx → EReal) (ix3 e k q) := by
  refine congrArg (m ((c : Thread nD τ).loc main_arg3) : S8x1024x2816.Idx → EReal) (funext fun a => Fin.ext ?_)
  refine (Pipeline.Window.rect_emb_val ((cfgT m h).win (1 : Fin 5)) t (ix3 0 k q) a rfl).trans ?_
  show cc0_transform_1 k0_off1_inb numel1_S1 (adm m h).1 (grid0.coords t) a * _ + _ = _
  rw [expert_at, ← he]
  match a with
  | ⟨0, _⟩ => show e.val * 1 + 0 = e.val; omega
  | ⟨1, _⟩ => show 0 * 1024 + k.val = k.val; omega
  | ⟨2, _⟩ => show 0 * 2816 + q.val = q.val; omega

theorem block2 (h : InRange m) (c : Dev nD) (t : Fin (cfgT m h).N) (k : Fin 1024) (q : Fin 2816) (e : Fin 8) (he : e.val = (tabE m (ix1 ⟨t.val, t.isLt⟩)).toNat) :
    blockAt m ρ h c (2 : Fin 5) t (ix3 0 k q) = (m ((c : Thread nD τ).loc main_arg4) : S8x1024x2816.Idx → EReal) (ix3 e k q) := by
  refine congrArg (m ((c : Thread nD τ).loc main_arg4) : S8x1024x2816.Idx → EReal) (funext fun a => Fin.ext ?_)
  refine (Pipeline.Window.rect_emb_val ((cfgT m h).win (2 : Fin 5)) t (ix3 0 k q) a rfl).trans ?_
  show cc0_transform_1 k0_off1_inb numel1_S1 (adm m h).1 (grid0.coords t) a * _ + _ = _
  rw [expert_at, ← he]
  match a with
  | ⟨0, _⟩ => show e.val * 1 + 0 = e.val; omega
  | ⟨1, _⟩ => show 0 * 1024 + k.val = k.val; omega
  | ⟨2, _⟩ => show 0 * 2816 + q.val = q.val; omega

theorem block3 (h : InRange m) (c : Dev nD) (t : Fin (cfgT m h).N) (q : Fin 2816) (k : Fin 1024) (e : Fin 8) (he : e.val = (tabE m (ix1 ⟨t.val, t.isLt⟩)).toNat) :
    blockAt m ρ h c (3 : Fin 5) t (ix3 0 q k) = (m ((c : Thread nD τ).loc main_arg5) : S8x2816x1024.Idx → EReal) (ix3 e q k) := by
  refine congrArg (m ((c : Thread nD τ).loc main_arg5) : S8x2816x1024.Idx → EReal) (funext fun a => Fin.ext ?_)
  refine (Pipeline.Window.rect_emb_val ((cfgT m h).win (3 : Fin 5)) t (ix3 0 q k) a rfl).trans ?_
  show cc0_transform_1 k0_off1_inb numel1_S1 (adm m h).1 (grid0.coords t) a * _ + _ = _
  rw [expert_at, ← he]
  match a with
  | ⟨0, _⟩ => show e.val * 1 + 0 = e.val; omega
  | ⟨1, _⟩ => show 0 * 2816 + q.val = q.val; omega
  | ⟨2, _⟩ => show 0 * 1024 + k.val = k.val; omega

/-! ## The whole result -/

/-- The result from a memory's six arguments. -/
def resultOf (h : InRange m) (c : Dev nD) : S36864x1024.Idx → EReal := fun j =>
  resultAt (fun t => tabE m (ix1 t)) (fun t => tabV m (ix1 t)) (fun t => h (ix1 t))
    (fun R k => (m ((c : Thread nD τ).loc main_arg2) : S36864x1024.Idx → EReal) (ix2 R k))
    (fun e k q => (m ((c : Thread nD τ).loc main_arg3) : S8x1024x2816.Idx → EReal) (ix3 e k q))
    (fun e k q => (m ((c : Thread nD τ).loc main_arg4) : S8x1024x2816.Idx → EReal) (ix3 e k q))
    (fun e q k => (m ((c : Thread nD τ).loc main_arg5) : S8x2816x1024.Idx → EReal) (ix3 e q k)) (j 0) (j 1)

/-- What the body leaves at point `t` is the result's rows there. -/
theorem left_apply (h : InRange m) (c : Dev nD) (t : Fin (cfgT m h).N) (r : Fin 512) (k : Fin 1024) (R : Fin 36864) (hR : R.val = 512 * t.val + r.val) :
    left m ρ h c t (ix2 r k) = resultOf m h c (ix2 R k) := by
  have ht : tileOf R = ⟨t.val, t.isLt⟩ := Fin.ext (by have := r.isLt; show R.val / 512 = t.val; omega)
  have hw : word (tabV m) (crd m h t) = tabV m (ix1 (tileOf R)) := by rw [ht]; exact word_at _ t
  have he : (tabE m (ix1 (tileOf R))).toNat = (tabE m (ix1 ⟨t.val, t.isLt⟩)).toNat := by rw [ht]
  show _ = resultAt _ _ _ _ _ _ _ R k
  unfold left resultAt
  by_cases hv : tabV m (ix1 (tileOf R)) = 0#32
  · rw [dif_pos ((cond1_iff _).mpr (hw.trans hv)), if_pos hv]
    exact congrFun (out_B _ _ _ _ _ _ _ _ _ _ _ _ _ _ _ _ _ _ _ _) _
  · rw [dif_neg (fun hc => hv (hw.symm.trans ((cond1_iff _).mp hc))), if_neg hv]
    refine (congrFun (out_A _ _ _ _ _ _ _ _ _ _ _ _ _ _ _ _ _ _ _ _) _).trans ((acc_apply _ _ _ _ _).trans ?_)
    have h0 := fun x => block0 m ρ h c t r x R hR
    have h1 := fun x y => block1 m ρ h c t x y ⟨_, h (ix1 (tileOf R))⟩ he
    have h2 := fun x y => block2 m ρ h c t x y ⟨_, h (ix1 (tileOf R))⟩ he
    have h3 := fun x => block3 m ρ h c t x k ⟨_, h (ix1 (tileOf R))⟩ he
    congr 1
    · exact funext h0
    · exact funext fun x => funext (h1 x)
    · exact funext fun x => funext (h2 x)
    · exact funext h3

/-- The output window is written back at every point. -/
theorem flushed (h : InRange m) : ∀ t : Fin (cfgT m h).N, ((cfgT m h).win (4 : Fin 5)).flush t = true := fun t =>
  (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _)

/-- After the run the result's array holds the result. -/
theorem final (h : InRange m) (c : Dev nD) : (dats m ρ h 0 c).arrAt (4 : Fin 5) (cfgT m h).N = resultOf m h c := by
  refine (dats m ρ h 0 c).arrAt_eq_of_emb (4 : Fin 5) (resultOf m h c) (fun t _ y => ?_) (fun i => ?_)
  · have hy0 : (y 0).val < 512 := (y 0).isLt
    have hy1 : (y 1).val < 1024 := (y 1).isLt
    have ht : t.val < 72 := t.isLt
    refine Eq.trans ?_ ((left_apply m ρ h c t ⟨(y 0).val, hy0⟩ ⟨(y 1).val, hy1⟩ ⟨512 * t.val + (y 0).val, by omega⟩ rfl).trans ?_)
    · refine congrArg (left m ρ h c t) (funext fun a => ?_)
      match a with | ⟨0, _⟩ => rfl | ⟨1, _⟩ => rfl
    · refine congrArg (resultOf m h c) (funext fun a => Fin.ext (Eq.symm ?_))
      refine (Pipeline.Window.rect_emb_val ((cfgT m h).win (4 : Fin 5)) t y a rfl).trans ?_
      show cc0_transform_4 (grid0.coords t) a * _ + _ = _
      rw [rows_at']
      match a with
      | ⟨0, _⟩ => show t.val * 512 + (y 0).val = 512 * t.val + (y 0).val; omega
      | ⟨1, _⟩ => show 0 * 1024 + (y 1).val = (y 1).val; omega
  · have hi0 : (i 0).val < 36864 := (i 0).isLt
    have hi1 : (i 1).val < 1024 := (i 1).isLt
    let t : Fin (cfgT m h).N := ⟨(i 0).val / 512, by show _ < 72; omega⟩
    refine ⟨t, flushed m h t, ?_⟩
    have hm : i = (((cfgT m h).win (4 : Fin 5)).blk t).view.emb (ix2 (⟨(i 0).val % 512, by omega⟩ : Fin 512) (⟨(i 1).val, hi1⟩ : Fin 1024)) := by
      refine funext fun a => Fin.ext (Eq.symm ?_)
      refine (Pipeline.Window.rect_emb_val ((cfgT m h).win (4 : Fin 5)) t (ix2 (⟨(i 0).val % 512, by omega⟩ : Fin 512) (⟨(i 1).val, hi1⟩ : Fin 1024)) a rfl).trans ?_
      show cc0_transform_4 (grid0.coords t) a * _ + _ = _
      rw [rows_at']
      match a with
      | ⟨0, _⟩ => show (i 0).val / 512 * 512 + (i 0).val % 512 = (i 0).val; omega
      | ⟨1, _⟩ => show 0 * 1024 + (i 1).val = (i 1).val; omega
    rw [hm]
    exact View.emb_mem_set _ _

end Cert.Kernel2Ideal.Tiles

end
-- ==== Proof.TilesRef.lean ====
/- The plain routed experts, element by element: the weighted sum over the eight experts has one term with weight one where
   the row's tile is marked, and none where it is not. -/
module

public import proofs.«01_k».proof.Proof.Gen.Reference2Ideal.Read
public import proofs.«01_k».proof.Proof.TilesMath

@[expose] public section

set_option maxRecDepth 16384

noncomputable section

namespace Cert.Reference2Ideal.Dense

open Cert.Reference2Ideal Cert.Reference2Ideal.Gen Cert.Reference2Ideal.Read Cert.Tiles
open Idealize.ShloMosaic Idealize.ShloMosaic.TcCoe

/-- A projection's slice at expert `e`, as a matrix, and the down projection's. -/
def mat (e : Fin 8) (w : FVec Ideal S8x1024x2816 .f32) : FVec Ideal S1024x2816 .f32 :=
  shapeCast S1024x2816 (extractStridedSlice S1x1024x2816 ![e.val, 0, 0] w (by revert e; decide)) shapeCasts_S1x1024x2816_S1024x2816
def matD (e : Fin 8) (w : FVec Ideal S8x2816x1024 .f32) : FVec Ideal S2816x1024 .f32 :=
  shapeCast S2816x1024 (extractStridedSlice S1x2816x1024 ![e.val, 0, 0] w (by revert e; decide)) shapeCasts_S1x2816x1024_S2816x1024

/-- The gate, activated. -/
def gated (a : FVec Ideal S36864x2816 .f32) : FVec Ideal S36864x2816 .f32 :=
  let one : FVec Ideal S36864x2816 .f32 := broadcastInDim S36864x2816 ![] bcast_S_S36864x2816 (constant S_ .f32 0x3F800000#32)
  mulf a (Host.divf one (addf one (Host.exp (Host.negf a))))

/-- Expert `e` on every row, and its weighted term. -/
def dense (e : Fin 8) (x : FVec Ideal S36864x1024 .f32) (g u : FVec Ideal S8x1024x2816 .f32) (d : FVec Ideal S8x2816x1024 .f32) : FVec Ideal S36864x1024 .f32 :=
  Host.dotGeneral dot_S36864x2816_S2816x1024_S36864x1024_1_0_0_1_n_n none
    (mulf (gated (Host.dotGeneral dot_S36864x1024_S1024x2816_S36864x2816_1_0_0_1_n_n none x (mat e g)))
      (Host.dotGeneral dot_S36864x1024_S1024x2816_S36864x2816_1_0_0_1_n_n none x (mat e u))) (matD e d)
def term (w : FVec Ideal S36864x8 .f32) (e : Fin 8) (x : FVec Ideal S36864x1024 .f32) (g u : FVec Ideal S8x1024x2816 .f32) (d : FVec Ideal S8x2816x1024 .f32) : FVec Ideal S36864x1024 .f32 :=
  mulf (broadcastInDim S36864x1024 ![0, 1] bcast_S36864x1_S36864x1024_0_1 (extractStridedSlice S36864x1 ![0, e.val] w (by revert e; decide))) (dense e x g u d)

theorem mat_apply (e : Fin 8) (w : FVec Ideal S8x1024x2816 .f32) (k : Fin 1024) (q : Fin 2816) : mat e w (ix2 k q) = w (ix3 e k q) := by
  unfold mat
  pointwise
theorem matD_apply (e : Fin 8) (w : FVec Ideal S8x2816x1024 .f32) (q : Fin 2816) (k : Fin 1024) : matD e w (ix2 q k) = w (ix3 e q k) := by
  unfold matD
  pointwise

theorem dense_apply (e : Fin 8) (x : FVec Ideal S36864x1024 .f32) (g u : FVec Ideal S8x1024x2816 .f32) (d : FVec Ideal S8x2816x1024 .f32) (R : Fin 36864) (c : Fin 1024) :
    dense e x g u d (ix2 R c) = expertAt (fun k => x (ix2 R k)) (fun k h => g (ix3 e k h)) (fun k h => u (ix3 e k h)) (fun h => d (ix3 e h c)) := by
  unfold dense gated expertAt unit
  pointwise
  simp only [mat_apply, matD_apply]

/-- The weight of expert `e` on row `R`: one where the row's tile is marked and is that expert's, zero elsewhere. -/
theorem weight_apply (x0 x1 : (⟨S72, .i32⟩ : BufTy).Contents (Elt Ideal)) (R : Fin 36864) (e : Fin 8) :
    (val_main_v10 (F := Ideal) x0 x1 (ix2 R e) : EReal) = (if x0 (ix1 (tileOf R)) = BitVec.ofNat 32 e.val then 1 else 0) * (if x1 (ix1 (tileOf R)) = 0#32 then 0 else 1) := by
  unfold val_main_v10 val_main_v6 val_main_v9 val_main_call0_v4 val_main_call0_v2 val_main_call0_v3 val_main_call0_v0 val_main_call0_v1 val_main_v8 val_main_v7 val_main_v5 val_main_v4 val_main_v3 val_main_v2 val_main_v1 val_main_v0 val_main_c
  pointwise
  have bit (b : Bool) : (FloatOps.uitofp (F := Ideal) FTy.f32 (BitVec.ofBool b) : EReal) = if b then 1 else 0 := by
    show (((BitVec.ofBool b).toNat : ℝ) : EReal) = _
    cases b <;> simp
  have h0 (a b : BitVec 32) : (FloatOps.uitofp (F := Ideal) FTy.f32 (IntOp.cmpi .eq a b) : EReal) = if a = b then 1 else 0 :=
    (bit _).trans (by simp)
  have h1 (a b : BitVec 32) : (FloatOps.uitofp (F := Ideal) FTy.f32 (IntOp.cmpi .ne a b) : EReal) = if a = b then 0 else 1 :=
    (bit _).trans (by by_cases hab : a = b <;> simp [hab])
  rw [h0, h1]
  rfl

theorem term_apply (w : FVec Ideal S36864x8 .f32) (e : Fin 8) (x : FVec Ideal S36864x1024 .f32) (g u : FVec Ideal S8x1024x2816 .f32) (d : FVec Ideal S8x2816x1024 .f32) (R : Fin 36864) (c : Fin 1024) :
    term w e x g u d (ix2 R c) = w (ix2 R e) * expertAt (fun k => x (ix2 R k)) (fun k h => g (ix3 e k h)) (fun k h => u (ix3 e k h)) (fun h => d (ix3 e h c)) := by
  unfold term
  pointwise
  rw [dense_apply]

/-- The reference's result is the eight terms added in order. -/
theorem sum_eq (x0 x1 : (⟨S72, .i32⟩ : BufTy).Contents (Elt Ideal)) (x2 : (⟨S36864x1024, .f32⟩ : BufTy).Contents (Elt Ideal)) (x3 x4 : (⟨S8x1024x2816, .f32⟩ : BufTy).Contents (Elt Ideal))
    (x5 : (⟨S8x2816x1024, .f32⟩ : BufTy).Contents (Elt Ideal)) :
    val_main_v131 (F := Ideal) x0 x1 x2 x3 x4 x5
      = (let p := fun e => term (val_main_v10 (F := Ideal) x0 x1) e x2 x3 x4 x5
         addf (addf (addf (addf (addf (addf (addf (addf (val_main_v11 (F := Ideal)) (p 0)) (p 1)) (p 2)) (p 3)) (p 4)) (p 5)) (p 6)) (p 7)) := rfl

/-- The reference's result, element by element. -/
theorem final (x0 x1 : (⟨S72, .i32⟩ : BufTy).Contents (Elt Ideal)) (x2 : (⟨S36864x1024, .f32⟩ : BufTy).Contents (Elt Ideal)) (x3 x4 : (⟨S8x1024x2816, .f32⟩ : BufTy).Contents (Elt Ideal))
    (x5 : (⟨S8x2816x1024, .f32⟩ : BufTy).Contents (Elt Ideal)) (hE : ∀ t : Fin 72, (x0 (ix1 t) : BitVec 32).toNat < 8) (R : Fin 36864) (c : Fin 1024) :
    val_main_v131 (F := Ideal) x0 x1 x2 x3 x4 x5 (ix2 R c)
      = resultAt (fun t => x0 (ix1 t)) (fun t => x1 (ix1 t)) hE (fun R k => x2 (ix2 R k)) (fun e k q => x3 (ix3 e k q)) (fun e k q => x4 (ix3 e k q))
          (fun e q k => x5 (ix3 e q k)) R c := by
  have hs : val_main_v131 (F := Ideal) x0 x1 x2 x3 x4 x5 (ix2 R c) = ∑ e : Fin 8, term (val_main_v10 (F := Ideal) x0 x1) e x2 x3 x4 x5 (ix2 R c) := by
    rw [sum_eq]
    simp only [Fin.sum_univ_succ, Fin.sum_univ_zero]
    unfold val_main_v11 val_main_cst
    pointwise
    simp only [zero_add, add_zero, ← add_assoc]
    rfl
  have he : ∀ e : Fin 8, x0 (ix1 (tileOf R)) = BitVec.ofNat 32 e.val ↔ (⟨_, hE (tileOf R)⟩ : Fin 8) = e := fun e => by
    rw [Fin.ext_iff, ← BitVec.toNat_inj, BitVec.toNat_ofNat, Nat.mod_eq_of_lt (by have := e.isLt; omega)]
  rw [hs]
  simp only [term_apply, weight_apply, he]
  unfold resultAt
  by_cases hv : x1 (ix1 (tileOf R)) = 0#32
  · simp [hv]
  · simp only [if_neg hv, mul_one, ite_mul, one_mul, zero_mul, Finset.sum_ite_eq, Finset.mem_univ, if_true]

end Cert.Reference2Ideal.Dense

end
-- ==== Proof.Tiles.lean ====
/- The expert kernel computes the plain routed experts: both runs end with the same result, element by element. -/
module

public import proofs.«01_k».proof.Proof.TilesValue
public import proofs.«01_k».proof.Proof.TilesRef
public import Idealize.ShloMosaic.Lib.Claim

@[expose] public section

set_option maxRecDepth 16384

noncomputable section

namespace Cert.Proof

open Idealize.ShloMosaic Idealize.ShloMosaic.TcCoe Idealize.SL.Sem Cert.Tiles

theorem tiles_algebraic : Cert.algebraic_Kernel2Ideal_Reference2Ideal := fun m g m' g' hpre hagree => by
  have h := Cert.Kernel2Ideal.Tiles.inRange_of_pre m hpre
  refine ⟨fun c => Cert.Kernel2Ideal.Tiles.resultOf m h c, ?_, ?_⟩
  · refine (θ_run _ _ _).mono (fun r hr c => ?_) (Cert.Kernel2Ideal.Tiles.launched m g h)
    exact ⟨((hr.1 c).1 (4 : Fin 5)).trans (Cert.Kernel2Ideal.Tiles.final m g h c), Cert.Kernel2Ideal.Tiles.kept m g h r hr.1 c⟩
  · refine (θ_run _ _ _).mono (fun r hr c => ?_) (Cert.Reference2Ideal.Value.run (F := Ideal) m' g')
    obtain ⟨h0, h1, h2, h3, h4, h5⟩ := hagree c
    obtain rfl : c = 0 := Subsingleton.elim _ _
    refine ⟨(hr 0).1.trans ((Cert.Reference2Ideal.Read.val_main_v131_eq _).trans ?_), (hr 0).2⟩
    funext j
    show Cert.Reference2Ideal.Read.val_main_v131 (F := Ideal) (m' (((0 : Dev 1) : Thread Cert.Reference2Ideal.nD Cert.Reference2Ideal.τ).loc Cert.Reference2Ideal.main_arg0))
      (m' (((0 : Dev 1) : Thread Cert.Reference2Ideal.nD Cert.Reference2Ideal.τ).loc Cert.Reference2Ideal.main_arg1))
      (m' (((0 : Dev 1) : Thread Cert.Reference2Ideal.nD Cert.Reference2Ideal.τ).loc Cert.Reference2Ideal.main_arg2))
      (m' (((0 : Dev 1) : Thread Cert.Reference2Ideal.nD Cert.Reference2Ideal.τ).loc Cert.Reference2Ideal.main_arg3))
      (m' (((0 : Dev 1) : Thread Cert.Reference2Ideal.nD Cert.Reference2Ideal.τ).loc Cert.Reference2Ideal.main_arg4))
      (m' (((0 : Dev 1) : Thread Cert.Reference2Ideal.nD Cert.Reference2Ideal.τ).loc Cert.Reference2Ideal.main_arg5)) j = _
    rw [h0, h1, h2, h3, h4, h5]
    have hj : j = ix2 (j 0 : Fin 36864) (j 1 : Fin 1024) := funext fun a => match a with | ⟨0, _⟩ => rfl | ⟨1, _⟩ => rfl
    rw [hj]
    exact Cert.Reference2Ideal.Dense.final _ _ _ _ _ _ (fun t => h (ix1 t)) (j 0) (j 1)

/-- The reference's frame: its run leaves the arguments, and it has no semaphore. -/
theorem tiles_ref_frame : Cert.quiescent_Reference2Ideal := fun m g _ =>
  (θ_run _ _ _).mono (fun r hr => ⟨fun c => (hr c).2, sem_eq_zero_of_no_sems (by decide) r.2⟩) (Cert.Reference2Ideal.Value.run (F := Ideal) m g)
theorem tiles_ref_frame_pre : Cert.quiescent_Reference2Ideal_pre_tiles_in_range := fun m g _ =>
  (θ_run _ _ _).mono (fun r hr => ⟨fun c => (hr c).2, sem_eq_zero_of_no_sems (by decide) r.2⟩) (Cert.Reference2Ideal.Value.run (F := Ideal) m g)

end Cert.Proof

end
-- ==== Proof.TilesBits.lean ====
/- The expert kernel run over its 72 row tiles, for any tile tables in range: the tables are read off the launch
   memory, each point takes one of two paths (the tile is marked valid or it is not), and the run leaves every array at what
   the pipeline writes back. -/
module

public import proofs.«01_k».proof.Proof.Gen.Kernel2.Skeleton
public import proofs.«01_k».proof.Proof.Gen.Kernel2.Launch
public import proofs.«01_k».proof.Proof.Gen.Kernel2.Flash.Runs
public import proofs.«01_k».proof.Proof.Gen.Pre_tiles_in_range
public import proofs.«01_k».proof.Defs
public import Idealize.ShloMosaic.Lib.Claim

@[expose] public section

set_option maxRecDepth 16384

noncomputable section

namespace Cert.Kernel2.Tiles

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The tables, read off the launch memory -/

/-- The expert of each tile, and whether the tile holds rows, as the one core's memory has them. -/
def tabE (m : (ℓ : Loc nD τ sig) → Buf (Elt Bits) ℓ) : S72.Idx → BitVec 32 := m (((0 : Dev nD) : Thread nD τ).loc main_arg0)
def tabV (m : (ℓ : Loc nD τ sig) → Buf (Elt Bits) ℓ) : S72.Idx → BitVec 32 := m (((0 : Dev nD) : Thread nD τ).loc main_arg1)

set_option backward.proofsInPublic true in
/-- Both, as the pipeline's prefetched contents. -/
def tabs (m : (ℓ : Loc nD τ sig) → Buf (Elt Bits) ℓ) : pre0.Contents (Elt Bits) :=
  fun | ⟨0, _⟩ => tabE m | ⟨1, _⟩ => tabV m | ⟨_ + 2, h⟩ => absurd h (by simp)

/-- Every tile names one of the eight experts. -/
def InRange (m : (ℓ : Loc nD τ sig) → Buf (Elt Bits) ℓ) : Prop := ∀ x : S72.Idx, (tabE m x).toNat < 8

/-- The precondition read word by word. -/
theorem inRange_of_pre (m : (ℓ : Loc nD τ sig) → Buf (Elt Bits) ℓ) (h : Cert.Pre_Kernel2 m) : InRange m := by
  intro x
  have e := congrFun (h 0) x
  simp only [Cert.Pre_tiles_in_range.fn, andi, cmpi, Scalar.andi, Scalar.cmpi, broadcastInDim, constantI] at e
  unfold tabE
  generalize hw : m (((0 : Dev nD) : Thread nD τ).loc main_arg0) x = w at *
  clear hw
  have key : ∀ w : BitVec 32, (0#32).sle w = true → w.slt 8#32 = true → w.toNat < 8 := by
    intro w h0 h1
    simp only [BitVec.sle, BitVec.slt, BitVec.toInt, decide_eq_true_eq] at h0 h1
    simp at h0 h1
    omega
  have e' : BitVec.ofBool ((0#32).sle w) &&& BitVec.ofBool (w.slt 8#32) = 1#1 := e
  refine key w ?_ ?_
  · cases h0 : (0#32).sle w
    · rw [h0] at e'; cases h1 : w.slt 8#32 <;> rw [h1] at e' <;> revert e' <;> decide
    · rfl
  · cases h1 : w.slt 8#32
    · rw [h1] at e'; cases h0 : (0#32).sle w <;> rw [h0] at e' <;> revert e' <;> decide
    · rfl

variable (m : (ℓ : Loc nD τ sig) → Buf (Elt Bits) ℓ) (ρ : Dev nD → PrngReg)

/-- With every expert in range each weight block lies inside its array. -/
theorem ok_tabs (h : InRange m) : ok0 (F := Bits) (tabs m) := by
  have hr : ∀ x : S72.Idx, (tabs m 0 x).toNat < 8 := h
  refine ⟨fun i => ⟨fun a => ?_, .inl rfl⟩, fun i => ⟨fun a => ?_, .inl rfl⟩, fun i => ⟨fun a => ?_, .inl rfl⟩⟩
  all_goals
    fin_cases a
    · have := hr ((Rect.unit (s := S72) ![(Scalar.indexCast (BitVec.ofNat 32 (i 0).val)).toNat] S1.size (k0_off1_inb i)).idx (Shape.Idx.first (numel1_S1.symm ▸ Nat.one_pos)))
      change (_ + 1) * 1 ≤ 8
      rw [Nat.mul_one]; exact this
    · exact le_of_eq (Nat.one_mul _)
    · exact le_of_eq (Nat.one_mul _)

def adm (h : InRange m) : (pcfg0 (F := Bits)).Adm := ⟨tabs m, ok_tabs m h⟩
abbrev cfgT (h : InRange m) : Pipeline.Cfg sig Λ₀ := cfg0 (F := Bits) (adm m h)
abbrev pcs (h : InRange m) : Fin 1 → Pipeline.Cfg sig Λ₀ := Pipeline.pin (pcfgs (F := Bits)) fun _ => adm m h

/-! ## One point -/

/-- Point `t`'s coordinate. -/
abbrev crd (h : InRange m) (t : Fin (cfgT m h).N) : grid0.Coords := (cfgT m h).grid.coords t

abbrev st0 (h : InRange m) (t : Fin (cfgT m h).N) : Memref sig .tc .vmem S512x1024 .f32 := spec0_0.stage ((cfgT m h).slots t (0 : Fin 5))
abbrev sh0 (h : InRange m) (t : Fin (cfgT m h).N) : (st0 m h t).IsWhole := hstage0_0 (((cfgT m h).slots t (0 : Fin 5)).cast nbuf0_0)
abbrev st1 (h : InRange m) (t : Fin (cfgT m h).N) : Memref sig .tc .vmem S1x1024x2816 .f32 := spec0_1.stage ((cfgT m h).slots t (1 : Fin 5))
abbrev sh1 (h : InRange m) (t : Fin (cfgT m h).N) : (st1 m h t).IsWhole := hstage0_1 (((cfgT m h).slots t (1 : Fin 5)).cast nbuf0_1)
abbrev st2 (h : InRange m) (t : Fin (cfgT m h).N) : Memref sig .tc .vmem S1x1024x2816 .f32 := spec0_2.stage ((cfgT m h).slots t (2 : Fin 5))
abbrev sh2 (h : InRange m) (t : Fin (cfgT m h).N) : (st2 m h t).IsWhole := hstage0_2 (((cfgT m h).slots t (2 : Fin 5)).cast nbuf0_2)
abbrev st3 (h : InRange m) (t : Fin (cfgT m h).N) : Memref sig .tc .vmem S1x2816x1024 .f32 := spec0_3.stage ((cfgT m h).slots t (3 : Fin 5))
abbrev sh3 (h : InRange m) (t : Fin (cfgT m h).N) : (st3 m h t).IsWhole := hstage0_3 (((cfgT m h).slots t (3 : Fin 5)).cast nbuf0_3)
abbrev st4 (h : InRange m) (t : Fin (cfgT m h).N) : Memref sig .tc .vmem S512x1024 .f32 := spec0_4.stage ((cfgT m h).slots t (4 : Fin 5))
abbrev sh4 (h : InRange m) (t : Fin (cfgT m h).N) : (st4 m h t).IsWhole := hstage0_4 (((cfgT m h).slots t (4 : Fin 5)).cast nbuf0_4)

/-- Window `w`'s block at point `t`, read off its array at launch. -/
def blockAt (h : InRange m) (c : Dev nD) (w : Fin (cfgT m h).W) (t : Fin (cfgT m h).N) :
    (((cfgT m h).win w).xblock (crd m h t)).Idx → Elt Bits ((cfgT m h).win w).elt :=
  (((cfgT m h).win w).blk t).view.read (Elt Bits) ((s₀ m ρ).mem (((cfgT m h).win w).arr.view.loc (c : Thread nD τ)))

/-- The validity word the body reads at a point. -/
def word (T : S72.Idx → BitVec 32) (i : grid0.Coords) : BitVec 32 :=
  View.readAt (Elt Bits) (tbM0_1).view (Rect.unit (s := S72) (k0_off1 i) S1.size (k0_off1_inb i)).toLoadRect T (Shape.Idx.first (numel1_S1.symm ▸ Nat.one_pos))

/-- The word is either zero or not: exactly one of the body's two conditions holds. -/
theorem cond2_of (v : BitVec 32) (h : ¬ k0_cond1 v = 1#1) : k0_cond2 v = 1#1 := by
  revert h; unfold k0_cond1 k0_cond2
  simp only [Scalar.cmpi, IntOp.cmpi, Scalar.extui]
  by_cases hv : v = 0#32
  · subst hv; decide
  · have hb : (v == 0#32) = false := beq_eq_false_iff_ne.mpr hv
    intro _
    show BitVec.ofBool (BitVec.setWidth 32 (BitVec.ofBool (!(v == 0#32))) != 0#32) = 1#1
    rw [hb]; decide
theorem not_cond2_of (v : BitVec 32) (h : k0_cond1 v = 1#1) : ¬ k0_cond2 v = 1#1 := by
  revert h; unfold k0_cond1 k0_cond2
  simp only [Scalar.cmpi, IntOp.cmpi, Scalar.extui]
  by_cases hv : v = 0#32
  · subst hv; decide
  · have hb : (v == 0#32) = false := beq_eq_false_iff_ne.mpr hv
    show BitVec.ofBool (BitVec.setWidth 32 (BitVec.ofBool (v == 0#32)) != 0#32) = 1#1 → _
    rw [hb]; intro hf; exact absurd hf (by decide)

/-- What the body leaves in the output block at point `t`: one path's contents or the other's. -/
def left (h : InRange m) (c : Dev nD) (t : Fin (cfgT m h).N) : S512x1024.Idx → Elt Bits .f32 :=
  if hc : k0_cond1 (word (tabV m) (crd m h t)) = 1#1 then
    out0_B_4 c (crd m h t) (st0 m h t) (sh0 m h t) (st1 m h t) (sh1 m h t) (st2 m h t) (sh2 m h t) (st3 m h t) (sh3 m h t) (st4 m h t) (sh4 m h t) (tabE m) (tabV m)
      (blockAt m ρ h c (0 : Fin 5) t) (blockAt m ρ h c (1 : Fin 5) t) (blockAt m ρ h c (2 : Fin 5) t) (blockAt m ρ h c (3 : Fin 5) t) hc (not_cond2_of _ hc)
  else
    out0_A_4 c (crd m h t) (st0 m h t) (sh0 m h t) (st1 m h t) (sh1 m h t) (st2 m h t) (sh2 m h t) (st3 m h t) (sh3 m h t) (st4 m h t) (sh4 m h t) (tabE m) (tabV m)
      (blockAt m ρ h c (0 : Fin 5) t) (blockAt m ρ h c (1 : Fin 5) t) (blockAt m ρ h c (2 : Fin 5) t) (blockAt m ρ h c (3 : Fin 5) t) hc (cond2_of _ hc)

/-- The two tables' halves the body holds throughout. -/
def held (c : Dev nD) : sProp 𝕄 :=
  iprop((tbM0_0.view.loc (c : Thread nD τ) ↦{fullShare.right} tabE m) ∗ (tbM0_1.view.loc (c : Thread nD τ) ↦{fullShare.right} tabV m))

/-- The pipeline's proof data. -/
def dats (h : InRange m) (_ : Fin 1) (c : Dev nD) : Dat τ (Elt Bits) Unit ℕ (UR sig nD τ) ℕ (cfgT m h) c where
  A w := (s₀ m ρ).mem (((cfgT m h).win w).arr.view.loc (c : Thread nD τ))
  after w t := match w with
    | ⟨0, _⟩ => blockAt m ρ h c (0 : Fin 5) t
    | ⟨1, _⟩ => blockAt m ρ h c (1 : Fin 5) t
    | ⟨2, _⟩ => blockAt m ρ h c (2 : Fin 5) t
    | ⟨3, _⟩ => blockAt m ρ h c (3 : Fin 5) t
    | ⟨4, _⟩ => left m ρ h c t
  Φ _ := held m c
  q _ := fullShare
  owed _ := 0

/-- An input window finds its block whether it was fetched at the point or before. -/
theorem before_in (h : InRange m) (c : Dev nD) (t : Fin (cfgT m h).N) :
    (∀ d, (dats m ρ h 0 c).before (0 : Fin 5) t d = blockAt m ρ h c (0 : Fin 5) t)
    ∧ (∀ d, (dats m ρ h 0 c).before (1 : Fin 5) t d = blockAt m ρ h c (1 : Fin 5) t)
    ∧ (∀ d, (dats m ρ h 0 c).before (2 : Fin 5) t d = blockAt m ρ h c (2 : Fin 5) t)
    ∧ (∀ d, (dats m ρ h 0 c).before (3 : Fin 5) t d = blockAt m ρ h c (3 : Fin 5) t) := by
  refine ⟨fun d => ?_, fun d => ?_, fun d => ?_, fun d => ?_⟩
  · exact ((dats m ρ h 0 c).before_in_eq_fetched (0 : Fin 5) rfl (fun _ => rfl) (fun _ _ _ => rfl) (fun t => by show blockAt m ρ h c (0 : Fin 5) t = _; unfold Dat.blockOf blockAt; rfl) t d).trans
      (by unfold Dat.fetched Dat.blockOf blockAt; rfl)
  · exact ((dats m ρ h 0 c).before_in_eq_fetched (1 : Fin 5) rfl (fun _ => rfl) (fun _ _ _ => rfl) (fun t => by show blockAt m ρ h c (1 : Fin 5) t = _; unfold Dat.blockOf blockAt; rfl) t d).trans
      (by unfold Dat.fetched Dat.blockOf blockAt; rfl)
  · exact ((dats m ρ h 0 c).before_in_eq_fetched (2 : Fin 5) rfl (fun _ => rfl) (fun _ _ _ => rfl) (fun t => by show blockAt m ρ h c (2 : Fin 5) t = _; unfold Dat.blockOf blockAt; rfl) t d).trans
      (by unfold Dat.fetched Dat.blockOf blockAt; rfl)
  · exact ((dats m ρ h 0 c).before_in_eq_fetched (3 : Fin 5) rfl (fun _ => rfl) (fun _ _ _ => rfl) (fun t => by show blockAt m ρ h c (3 : Fin 5) t = _; unfold Dat.blockOf blockAt; rfl) t d).trans
      (by unfold Dat.fetched Dat.blockOf blockAt; rfl)

/-- The output is stored at every point, whichever path runs. -/
theorem stored (h : InRange m) (t : Fin (cfgT m h).N) : (cfgT m h).idle (4 : Fin 5) ((cfgT m h).grid.coords t) = false := by
  show (!(k0_cond1 ((tabs m).atD 1 (k0_off1 (crd m h t))) == 1#1) && !(k0_cond2 ((tabs m).atD 1 (k0_off1 (crd m h t))) == 1#1)) = false
  generalize (tabs m).atD 1 (k0_off1 (crd m h t)) = v
  by_cases hv : k0_cond1 v = 1#1
  · rw [hv]; rfl
  · rw [cond2_of v hv]; simp

/-- The body at point `t`, as the pipeline calls it. -/
abbrev bodyAt (h : InRange m) (t : Fin (cfgT m h).N) : Prog (TpuEff nD τ sig (Elt Bits) Λ₀ .tc) PUnit :=
  cc0_moe_experts_p (crd m h t) (Memref.whole main_arg0) (Memref.isWhole_whole _) (Memref.whole main_arg1) (Memref.isWhole_whole _) (st0 m h t) (sh0 m h t) (st1 m h t) (sh1 m h t) (st2 m h t) (sh2 m h t) (st3 m h t) (sh3 m h t) (st4 m h t) (sh4 m h t)

/-- What a point's body finds, and what it leaves. -/
def found (h : InRange m) (c : Dev nD) (t : Fin (cfgT m h).N) : sProp 𝕄 :=
  iprop(held m c ∗ (dats m ρ h 0 c).owesAt () t.castSucc
    ∗ owns (c : Thread nD τ) (st0 m h t) fullShare (blockAt m ρ h c (0 : Fin 5) t)
    ∗ owns (c : Thread nD τ) (st1 m h t) fullShare (blockAt m ρ h c (1 : Fin 5) t)
    ∗ owns (c : Thread nD τ) (st2 m h t) fullShare (blockAt m ρ h c (2 : Fin 5) t)
    ∗ owns (c : Thread nD τ) (st3 m h t) fullShare (blockAt m ρ h c (3 : Fin 5) t)
    ∗ (∃ d, owns (c : Thread nD τ) (st4 m h t) fullShare d))
def done (h : InRange m) (c : Dev nD) (t : Fin (cfgT m h).N) : sProp 𝕄 :=
  iprop(held m c ∗ (dats m ρ h 0 c).owesAt () t.castSucc
    ∗ owns (c : Thread nD τ) (st0 m h t) fullShare (blockAt m ρ h c (0 : Fin 5) t)
    ∗ owns (c : Thread nD τ) (st1 m h t) fullShare (blockAt m ρ h c (1 : Fin 5) t)
    ∗ owns (c : Thread nD τ) (st2 m h t) fullShare (blockAt m ρ h c (2 : Fin 5) t)
    ∗ owns (c : Thread nD τ) (st3 m h t) fullShare (blockAt m ρ h c (3 : Fin 5) t)
    ∗ owns (c : Thread nD τ) (st4 m h t) fullShare (left m ρ h c t))

set_option maxHeartbeats 4000000 in
/-- Whichever path the validity word selects, its run goes from the one to the other. -/
theorem point (h : InRange m) (c : Dev nD) (t : Fin (cfgT m h).N) :
    found m ρ h c t ⊢ wp frame (wpE (defs₀ (F := Bits)) Variants.none c none) Set.univ (bodyAt m h t) fun _ => done m ρ h c t := by
  unfold found done held
  by_cases hc : k0_cond1 (word (tabV m) (crd m h t)) = 1#1
  · have hl : left m ρ h c t = _ := dif_pos hc
    rw [hl]
    iintro ⟨⟨HT0, HT1⟩, Ho, H0, H1, H2, H3, ⟨%d4, H4⟩⟩
    iapply ((kernelRun0_B c (crd m h t) (st0 m h t) (sh0 m h t) (st1 m h t) (sh1 m h t) (st2 m h t) (sh2 m h t) (st3 m h t) (sh3 m h t) (st4 m h t) (sh4 m h t) (tabE m) (tabV m)
      (blockAt m ρ h c (0 : Fin 5) t) (blockAt m ρ h c (1 : Fin 5) t) (blockAt m ρ h c (2 : Fin 5) t) (blockAt m ρ h c (3 : Fin 5) t) hc (not_cond2_of _ hc)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)
  · have hl : left m ρ h c t = _ := dif_neg hc
    rw [hl]
    iintro ⟨⟨HT0, HT1⟩, Ho, H0, H1, H2, H3, ⟨%d4, H4⟩⟩
    iapply ((kernelRun0_A c (crd m h t) (st0 m h t) (sh0 m h t) (st1 m h t) (sh1 m h t) (st2 m h t) (sh2 m h t) (st3 m h t) (sh3 m h t) (st4 m h t) (sh4 m h t) (tabE m) (tabV m)
      (blockAt m ρ h c (0 : Fin 5) t) (blockAt m ρ h c (1 : Fin 5) t) (blockAt m ρ h c (2 : Fin 5) t) (blockAt m ρ h c (3 : Fin 5) t) hc (cond2_of _ hc)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)

/-- The pipeline's obligation at every point. -/
theorem obligation (h : InRange m) (c : Dev nD) : BodyObligation (dats m ρ h 0 c) (defs₀ (F := Bits)) Variants.none () Set.univ := fun t => by
  rw [bigSep_W0, bigSep_W0]
  obtain ⟨b0, b1, b2, b3⟩ := before_in m ρ h c t
  rewrite [stored m h t]
  have hΦ : ∀ k, (dats m ρ h 0 c).Φ k = held m c := fun _ => rfl
  simp only [b0, b1, b2, b3, hΦ]
  refine BIBase.Entails.trans ?_ (point m ρ h c t)
  unfold found
  iintro ⟨HT, Ho, ⟨%d0, H0⟩, ⟨%d1, H1⟩, ⟨%d2, H2⟩, ⟨%d3, H3⟩, ⟨%d4, H4⟩⟩
  isplitl [HT]; · iexact HT
  isplitl [Ho]; · iexact Ho
  isplitl [H0]; · iexact H0
  isplitl [H1]; · iexact H1
  isplitl [H2]; · iexact H2
  isplitl [H3]; · iexact H3
  iexists _; iexact H4

/-! ## The launch -/

/-- The proof's resource algebra: the rounds library's, embedded whole. -/
abbrev EP : Emb (UR sig nD τ) 𝕄 := emb₁

/-- The launch element. -/
def u₀ (h : InRange m) : UR sig nD τ :=
  initOf (Pipeline.cells (pcs m h) ((launch0 (F := Bits)).cellOf_inj fun _ => adm m h))
    (Pipeline.launchToks (pcs m h) ((launch0 (F := Bits)).cellOf_inj fun _ => adm m h))

theorem full (h : InRange m) (c : Dev nD) (w : Fin (cfgT m h).W) : (dats m ρ h 0 c).share w = fullShare := by unfold Dat.share; split <;> rfl

/-- The tables as the launch hands them over, one by one. -/
theorem prefHeld_two (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- What the run leaves: every array at what the pipeline wrote, every table as it was. -/
def Left (h : InRange m) : PUnit × MemSt nD τ sig (Elt Bits) → Prop := fun r =>
  ∀ c : Dev nD, (∀ w : Fin (cfgT m h).W, r.2.mem (((cfgT m h).win w).arr.view.loc (c : Thread nD τ)) = (dats m ρ h 0 c).arrAt w (cfgT m h).N)
    ∧ ∀ j, r.2.mem ((c : Thread nD τ).loc (pre0.ref j)) = (adm m h).1 j

theorem tabs_eq (h : InRange m) (c : Dev nD) (j : Fin 2) : m ((c : Thread nD τ).loc (pre0.ref j)) = (adm m h).1 j := by
  obtain rfl : c = 0 := Subsingleton.elim _ _
  fin_cases j <;> rfl

set_option backward.isDefEq.respectTransparency.types false in
set_option maxHeartbeats 4000000 in
/-- The launch: every fair execution ends with the arrays as the pipeline leaves them and every counter at zero. -/
theorem launched (h : InRange m) : θ_run (defs (F := Bits)) (onTc (τ := τ) (main (F := Bits))) (s₀ m ρ) (fun r => Left m ρ h r ∧ r.2.sem = fun _ => 0) :=
  Pipeline.θ_run_region_noSem_pf_quiescent pcfgs (fun _ => adm m h) (dats m ρ h) () ((launch0 (F := Bits)).cellOf_inj fun _ => adm m h) (0 : Fin 1)
    (launch0 (F := Bits)).win.to₀ (launch0 (F := Bits)).pre EP defs₀ Variants.none m ρ main
    (hbody := fun c => (obligation m ρ h c).loose) (hne := (launch0 (F := Bits)).block_pos)
    (harr := (launch0 (F := Bits)).arr_whole) (hstage := (launch0 (F := Bits)).stage_whole) (howed := fun _ _ => rfl)
    (u₀ := u₀ m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m h) (dats m ρ h) 0 (launch0 (F := Bits)).win.arr_inj c (launch0 (F := Bits)).arr_whole
      (full m ρ h c) _ _ fun _ => rfl)
    (hpf := tabs_eq m h)
    (X := fun _ => iprop(emp)) (Y := fun _ => iprop(emp)) (Z := fun _ => iprop(emp))
    (hX := fun c => by rw [unscopedRestP0_eq]; iintro -; isplitr <;> iempintro)
    (hin := fun c => by
      rw [prefHeld_two, scopedRest0_eq, show (dats m ρ h 0 c).Φ 0 = held m c from rfl]
      unfold held
      iintro ⟨-, ⟨HT0, HT1⟩, -⟩
      isplitl [HT0]
      · iexact HT0
      iexact HT1)
    (hout := fun c => by
      rw [scopedRest0_eq]
      iintro -
      isplitr; · iempintro
      iempintro)
    (QY := fun _ _ => True)
    (hY := fun c s' => by
      iintro ⟨-, -, HSI⟩; imodintro
      isplitr; · ipureintro; trivial
      iexact HSI)
    (hQ := fun _ hq hz => ⟨fun c => ⟨(hq c).1, (hq c).2.1⟩, hz⟩)

/-- After the run the six arguments are as launched. -/
theorem kept (h : InRange m) (r : PUnit × MemSt nD τ sig (Elt Bits)) (hr : Left m ρ h r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((hr c).2 0).trans (tabs_eq m h c 0).symm, ((hr c).2 1).trans (tabs_eq m h c 1).symm,
    ((hr c).1 (0 : Fin 5)).trans ((dats m ρ h 0 c).arrAt_in (0 : Fin 5) rfl _),
    ((hr c).1 (1 : Fin 5)).trans ((dats m ρ h 0 c).arrAt_in (1 : Fin 5) rfl _),
    ((hr c).1 (2 : Fin 5)).trans ((dats m ρ h 0 c).arrAt_in (2 : Fin 5) rfl _),
    ((hr c).1 (3 : Fin 5)).trans ((dats m ρ h 0 c).arrAt_in (3 : Fin 5) rfl _)⟩

/-- The frame claim, under the precondition. -/
theorem frame_claim : Cert.quiescent_Kernel2 := fun m ρ hpre =>
  (θ_run (defs (F := Bits)) _ _).mono (fun r hr => ⟨kept m ρ (inRange_of_pre m hpre) r hr.1, hr.2⟩) (launched m ρ (inRange_of_pre m hpre))

end Cert.Kernel2.Tiles

end
-- ==== Proof.RowsMath.lean ====
/- A row normalised by its root mean square, and the two gates, element by element. -/
module

public import Idealize.ShloMosaic.Lib.Pointwise

@[expose] public section

noncomputable section

namespace Cert.Rows

open Idealize.ShloMosaic

/-- Element `k` of a row divided by the root of its mean square (with the small constant added), times the weight. -/
def normed (x g : Fin 1024 → EReal) (k : Fin 1024) : EReal :=
  x k * Ideal.rsqrt (Ideal.div (∑ q, x q * x q) (Ideal.ofBits FTy.f32 0x44800000#32) + Ideal.ofBits FTy.f32 0x358637BD#32) * g k

/-- The logistic function. -/
def sigm (a : EReal) : EReal := Ideal.div 1 (1 + Ideal.exp (-a))

/-- A row's product with a column. -/
def dot {n : Nat} (x w : Fin n → EReal) : EReal := ∑ k, x k * w k

/-- Element `C` of a normalised row's product with `2 * 1024` columns and their biases, the second half gating the first. -/
def glu (x g : Fin 1024 → EReal) (w : Fin 1024 → Fin 2048 → EReal) (b : Fin 2048 → EReal) (C : Fin 1024) : EReal :=
  (dot (normed x g) (fun q => w q ⟨C.val, by omega⟩) + b ⟨C.val, by omega⟩)
    * sigm (dot (normed x g) (fun q => w q ⟨1024 + C.val, by omega⟩) + b ⟨1024 + C.val, by omega⟩)

end Cert.Rows

end
-- ==== Proof.KvWin.lean ====
/- The keys and values of the window: the weights' columns' products with the normalised rows, with the rows last. -/
module

public import proofs.«01_k».proof.Proof.Gen.Kernel11Ideal.Frame
public import proofs.«01_k».proof.Proof.Gen.Reference11Ideal.Run
public import proofs.«01_k».proof.Proof.Gen.Reference11Ideal.Read
public import proofs.«01_k».proof.Proof.RowsMath
public import proofs.«01_k».proof.Defs
public import Idealize.ShloMosaic.Lib.Pipeline.ValueKit
public import Idealize.ShloMosaic.Lib.VecWindow
public import Idealize.ShloMosaic.Lib.Pointwise
public import Idealize.ShloMosaic.Lib.Claim

@[expose] public section

set_option maxRecDepth 16384

noncomputable section

namespace Cert.Kernel11Ideal.KvWin

open Cert.Kernel11Ideal Cert.Kernel11Ideal.Gen Cert.Rows
open Idealize.ShloMosaic Idealize.ShloMosaic.TcCoe Idealize.SL.Sem

/-- The rows kept in the scratch: normalised. -/
theorem pay1_apply (x : FVec Ideal S1024x1024 .f32) (g : FVec Ideal S1x1024 .f32) (r k : Fin 1024) :
    k0_pay1 (F := Ideal) x g (ix2 r k) = normed (fun q => x (ix2 r q)) (fun q => g (ix2 0 q)) k := by
  unfold k0_pay1 normed
  pointwise

/-- One block of the product. -/
theorem pay2_apply (w : FVec Ideal S512x1024 .f32) (x : FVec Ideal S1024x1024 .bf16) (q : Fin 512) (r : Fin 1024) :
    k0_pay2 (F := Ideal) w x (ix3 0 q r) = dot (fun k => w (ix2 q k)) (fun k => x (ix2 r k)) := by
  unfold k0_pay2 dot
  pointwise

section Paths
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x512x1024 .f32) (harg5 : arg5.IsWhole) (arg6 : Memref sig .tc .vmem S1024x1024 .bf16) (harg6 : arg6.IsWhole)
  (x0 : Vec Ideal S1024x1024 .f32) (x1 : Vec Ideal S1x1024 .f32) (x2 : Vec Ideal S512x1024 .f32) (xs0 : Vec Ideal S1024x1024 .bf16)

theorem out_A (h) : out0_A_3 (F := Ideal) c i arg2 harg2 arg3 harg3 arg4 harg4 arg5 harg5 arg6 harg6 h x0 x1 x2 = k0_pay2 (F := Ideal) x2 (k0_pay1 (F := Ideal) x0 x1) := by
  unfold out0_A_3
  rw [View.read_writes_eq_canon _ _ _ (cover0_A_3 (F := Ideal) c i arg2 harg2 arg3 harg3 arg4 harg4 arg5 harg5 arg6 harg6 h x0 x1 x2)]
  unfold kernelRun0_A
  dsimp only
  frame_out

end Paths

theorem column_apply (w : FVec Ideal S1024x1536 .f32) (C : Fin 512) (k : Fin 1024) :
    extractStridedSlice S512x1024 ![1024, 0] (transpose S1536x1024 [1, 0] w transposes_S1024x1536_S1536x1024_1_0) slices_S1536x1024_S512x1024_1024_0 (ix2 C k) = w (ix2 k ⟨1024 + C.val, by omega⟩) := by
  pointwise

theorem row_apply (g : FVec Ideal S1024 .f32) (k : Fin 1024) : shapeCast S1x1024 g shapeCasts_S1024_S1x1024 (ix2 0 k) = g (ix1 k) := by
  pointwise

/-- The reference at an element. -/
theorem ref_apply (x : FVec Ideal S16384x1024 .f32) (g : FVec Ideal S1024 .f32) (w : FVec Ideal S1024x1536 .f32) (b : Fin 8) (C : Fin 512) (s : Fin 2048) :
    Cert.Reference11Ideal.Read.val_main_v16 (F := Ideal) x g w (ix3 b C s) = dot (normed (fun q => x (ix2 (⟨b.val * 2048 + s.val, by omega⟩ : Fin 16384) q)) (fun q => g (ix1 q))) (fun k => w (ix2 k ⟨1024 + C.val, by omega⟩)) := by
  rw [← Cert.Reference11Ideal.Read.val_main_v16_eq]
  unfold dot normed
  pointwise

variable (m : (ℓ : Loc nD τ sig) → Buf (Elt Ideal) ℓ)

theorem at0 : ∀ t : Fin grid0.N, cc0_transform_0 (grid0.coords t) = ![t.val, 0] := by decide +kernel
theorem at1 : ∀ t : Fin grid0.N, cc0_transform_1 (grid0.coords t) = ![0, 0] := by decide +kernel
theorem at2 : ∀ t : Fin grid0.N, cc0_transform_2 (grid0.coords t) = ![0, 0] := by decide +kernel
theorem at3 : ∀ t : Fin grid0.N, cc0_transform_3 (grid0.coords t) = ![t.val / 2, 0, t.val % 2] := by decide +kernel

theorem weights (c : Dev nD) : (V m c main_v1 : S512x1024.Idx → EReal) = extractStridedSlice S512x1024 ![1024, 0] (transpose S1536x1024 [1, 0] (m ((c : Thread nD τ).loc main_arg2) : S1024x1536.Idx → EReal) transposes_S1024x1536_S1536x1024_1_0) slices_S1536x1024_S512x1024_1024_0 := by
  show StableHlo.after hostOps0 _ (Proc.devRef .tc main_v1) = _
  after_results

theorem norm_in (c : Dev nD) : (V m c main_v2 : S1x1024.Idx → EReal) = shapeCast S1x1024 (m ((c : Thread nD τ).loc main_arg1) : S1024.Idx → EReal) shapeCasts_S1024_S1x1024 := by
  show StableHlo.after hostOps0 _ (Proc.devRef .tc main_v2) = _
  after_results
  rfl

theorem block0 (c : Dev nD) (t : Fin cfg0.N) (r k : Fin 1024) (R : Fin 16384) (hR : R.val = t.val * 1024 + r.val) :
    (iblk m c 0 t : S1024x1024.Idx → EReal) (ix2 r k) = (m ((c : Thread nD τ).loc main_arg0) : S16384x1024.Idx → EReal) (ix2 R k) := by
  refine Eq.trans ?_ (congrFun (V_main_arg0 m c) _)
  refine congrArg (V m c main_arg0 : S16384x1024.Idx → EReal) (funext fun a => Fin.ext ?_)
  refine (Pipeline.Window.rect_emb_val (cfg0.win 0) t (ix2 r k) a rfl).trans ?_
  show cc0_transform_0 (grid0.coords t) a * _ + _ = _
  rw [at0]
  match a with
  | ⟨0, _⟩ => exact hR.symm
  | ⟨1, _⟩ => show 0 * 1024 + k.val = k.val; omega

theorem block1 (c : Dev nD) (t : Fin cfg0.N) (k : Fin 1024) :
    (iblk m c 1 t : S1x1024.Idx → EReal) (ix2 0 k) = (m ((c : Thread nD τ).loc main_arg1) : S1024.Idx → EReal) (ix1 k) := by
  have e : (iblk m c 1 t : S1x1024.Idx → EReal) (ix2 0 k) = (V m c main_v2 : S1x1024.Idx → EReal) (ix2 0 k) := by
    refine congrArg (V m c main_v2 : S1x1024.Idx → EReal) (funext fun a => Fin.ext ?_)
    refine (Pipeline.Window.rect_emb_val (cfg0.win 1) t (ix2 0 k) a rfl).trans ?_
    show cc0_transform_1 (grid0.coords t) a * _ + _ = _
    rw [at1]
    match a with
    | ⟨0, _⟩ => rfl
    | ⟨1, _⟩ => show 0 * 1024 + k.val = k.val; omega
  rw [e, norm_in]
  exact row_apply _ _

theorem block2 (c : Dev nD) (t : Fin cfg0.N) (q : Fin 512) (k : Fin 1024) (C : Fin 512) (hC : C.val = 0 * 512 + q.val) :
    (iblk m c 2 t : S512x1024.Idx → EReal) (ix2 q k) = (m ((c : Thread nD τ).loc main_arg2) : S1024x1536.Idx → EReal) (ix2 k ⟨1024 + C.val, by omega⟩) := by
  have e : (iblk m c 2 t : S512x1024.Idx → EReal) (ix2 q k) = (V m c main_v1 : S512x1024.Idx → EReal) (ix2 C k) := by
    refine congrArg (V m c main_v1 : S512x1024.Idx → EReal) (funext fun a => Fin.ext ?_)
    refine (Pipeline.Window.rect_emb_val (cfg0.win 2) t (ix2 q k) a rfl).trans ?_
    show cc0_transform_2 (grid0.coords t) a * _ + _ = _
    rw [at2]
    match a with
    | ⟨0, _⟩ => exact hC.symm
    | ⟨1, _⟩ => show 0 * 1024 + k.val = k.val; omega
  rw [e, weights]
  exact column_apply _ _ _

/-- The rows the scratch is filled with at a point. -/
theorem filled (c : Dev nD) (t : Fin cfg0.N) (r k : Fin 1024) (R : Fin 16384) (hR : R.val = t.val * 1024 + r.val) :
    k0_pay1 (F := Ideal) (iblk m c 0 t) (iblk m c 1 t) (ix2 r k) = normed (fun q => (m ((c : Thread nD τ).loc main_arg0) : S16384x1024.Idx → EReal) (ix2 R q)) (fun q => (m ((c : Thread nD τ).loc main_arg1) : S1024.Idx → EReal) (ix1 q)) k :=
  (pay1_apply _ _ _ _).trans (congrArg₂ (fun a b => normed a b k) (funext fun q => block0 m c t r q R hR) (funext fun q => block1 m c t q))

/-- What a point leaves in the result's block is the result there. -/
theorem left_apply (c : Dev nD) (t : Fin cfg0.N) (r : Fin 1024) (q : Fin 512) (R : Fin 16384) (C : Fin 512) (hR : R.val = t.val * 1024 + r.val) (hC : C.val = 0 * 512 + q.val) :
    outsAt0 m c t (ix3 0 q r) = dot (normed (fun q => (m ((c : Thread nD τ).loc main_arg0) : S16384x1024.Idx → EReal) (ix2 R q)) (fun q => (m ((c : Thread nD τ).loc main_arg1) : S1024.Idx → EReal) (ix1 q))) (fun k => (m ((c : Thread nD τ).loc main_arg2) : S1024x1536.Idx → EReal) (ix2 k ⟨1024 + C.val, by omega⟩)) := by
  have key : ∀ s : FVec Ideal S1024x1024 .bf16, (∀ k, s (ix2 r k) = normed (fun q => (m ((c : Thread nD τ).loc main_arg0) : S16384x1024.Idx → EReal) (ix2 R q)) (fun q => (m ((c : Thread nD τ).loc main_arg1) : S1024.Idx → EReal) (ix1 q)) k) →
      k0_pay2 (F := Ideal) (iblk m c 2 t) s (ix3 0 q r) = dot (normed (fun q => (m ((c : Thread nD τ).loc main_arg0) : S16384x1024.Idx → EReal) (ix2 R q)) (fun q => (m ((c : Thread nD τ).loc main_arg1) : S1024.Idx → EReal) (ix1 q))) (fun k => (m ((c : Thread nD τ).loc main_arg2) : S1024x1536.Idx → EReal) (ix2 k ⟨1024 + C.val, by omega⟩)) := fun s hs => by
    refine (pay2_apply _ _ _ _).trans ?_
    refine Eq.trans ?_ (congrArg₂ dot (funext hs) (funext fun k => block2 m c t q k C hC))
    exact Finset.sum_congr rfl fun k _ => mul_comm _ _
  unfold outsAt0
  rw [out_A]
  exact key _ fun k => filled m c t r k R hR

/-- The result, as the reference's last value of the arguments. -/
def resultOf (c : Dev nD) : S8x512x2048.Idx → EReal :=
  Cert.Reference11Ideal.Read.val_main_v16 (F := Ideal) (m ((c : Thread nD τ).loc main_arg0)) (m ((c : Thread nD τ).loc main_arg1)) (m ((c : Thread nD τ).loc main_arg2))

/-- What a point leaves is the reference's value of its block. -/
theorem left_at (c : Dev nD) (t : Fin cfg0.N) (r : Fin 1024) (q : Fin 512) (b : Fin 8) (C : Fin 512) (s : Fin 2048) (hb : b.val = t.val / 2) (hs : s.val = t.val % 2 * 1024 + r.val) (hC : C.val = 0 * 512 + q.val) :
    outsAt0 m c t (ix3 0 q r) = resultOf m c (ix3 b C s) :=
  (left_apply m c t r q (⟨b.val * 2048 + s.val, by omega⟩ : Fin 16384) C (by show b.val * 2048 + s.val = _; omega) hC).trans (ref_apply _ _ _ b C s).symm

theorem final (c : Dev nD) : (dats m 0 c).arrAt 3 cfg0.N = resultOf m c := by
  refine (dats m 0 c).arrAt_eq_of_covers 3 (resultOf m c) (by decide +kernel) fun t hf y => ?_
  have hy0 : (y 0).val < 1 := (y 0).isLt
  have hy1 : (y 1).val < 512 := (y 1).isLt
  have hy2 : (y 2).val < 1024 := (y 2).isLt
  have ht : t.val < 16 := lt_of_lt_of_eq t.isLt N_0
  have hb : t.val / 2 * 1 + (y 0).val < 8 := by omega
  have hb' : t.val / 2 * 1 + (y 0).val = t.val / 2 := by omega
  have hs : t.val % 2 * 1024 + (y 2).val < 2048 := by omega
  have hC : 0 * 512 + (y 1).val < 512 := by rw [Nat.zero_mul, Nat.zero_add]; exact hy1
  have ei : ((cfg0.win 3).blk t).view.emb y = ix3 (⟨_, hb⟩ : Fin 8) (⟨_, hC⟩ : Fin 512) (⟨_, hs⟩ : Fin 2048) := by
    refine funext fun a => Fin.ext ?_
    refine (Pipeline.Window.rect_emb_val (cfg0.win 3) t y a rfl).trans ?_
    show cc0_transform_3 (grid0.coords t) a * _ + _ = _
    rw [at3]
    match a with
    | ⟨0, _⟩ => rfl
    | ⟨1, _⟩ => rfl
    | ⟨2, _⟩ => rfl
  have ey : (cfg0.win 3).xinj (grid0.coords t) y = ix3 (0 : Fin 1) (⟨_, hy1⟩ : Fin 512) (⟨_, hy2⟩ : Fin 1024) := by
    refine funext fun a => ?_
    match a with
    | ⟨0, _⟩ => exact Fin.ext (by show (y 0).val = 0; omega)
    | ⟨1, _⟩ => rfl
    | ⟨2, _⟩ => rfl
  have ef : (dats m 0 c).after 3 t ((cfg0.win 3).xinj (grid0.coords t) y) = outsAt0 m c t (ix3 (0 : Fin 1) (⟨_, hy1⟩ : Fin 512) (⟨_, hy2⟩ : Fin 1024)) := by
    rw [after0_3, ey]
  exact Eq.trans ef ((left_at m c t _ _ ⟨_, hb⟩ ⟨_, hC⟩ ⟨_, hs⟩ hb' rfl rfl).trans (congrArg (resultOf m c) ei.symm))

/-- The result's columns re-laid as rows are the rows. -/
theorem relaid (z : FVec Ideal Cert.Reference11Ideal.S8x2048x512 .f32) (h h' h'' h''' g g') :
    transpose S8x512x2x4x64 [0, 4, 1, 2, 3] (shapeCast S8x2x4x64x512 (extractStridedSlice S8x512x512 ![0, 0, 1536] (transpose S8x512x2048 [0, 2, 1] z h) h') h'') h''' = shapeCast S8x512x2x4x64 (extractStridedSlice S8x512x512 ![0, 1536, 0] z g) g' := by
  funext y
  rw [show y = ix5 (y 0) (y 1) (y 2) (y 3) (y 4) from funext fun a => by match a with | ⟨0, _⟩ => rfl | ⟨1, _⟩ => rfl | ⟨2, _⟩ => rfl | ⟨3, _⟩ => rfl | ⟨4, _⟩ => rfl]
  generalize y 0 = b
  generalize y 1 = t
  generalize y 2 = p
  generalize y 3 = k
  generalize y 4 = d
  pointwise

/-- The layer's own result, the window's rows, as the reference's value of the arguments. -/
def rowsOf (c : Dev nD) : S8x512x2x4x64.Idx → EReal :=
  Cert.Reference11Ideal.Read.val_main_v18 (F := Ideal) (m ((c : Thread nD τ).loc main_arg0)) (m ((c : Thread nD τ).loc main_arg1)) (m ((c : Thread nD τ).loc main_arg2))

theorem rows_eq (c : Dev nD) : transpose S8x512x2x4x64 [0, 4, 1, 2, 3] (shapeCast S8x2x4x64x512 (extractStridedSlice S8x512x512 ![0, 0, 1536] (resultOf m c) slices_S8x512x2048_S8x512x512_0_0_1536) shapeCasts_S8x512x512_S8x2x4x64x512) transposes_S8x2x4x64x512_S8x512x2x4x64_0_4_1_2_3 = rowsOf m c :=
  relaid (Cert.Reference11Ideal.Read.val_main_v15 (F := Ideal) (m ((c : Thread nD τ).loc main_arg0)) (m ((c : Thread nD τ).loc main_arg1)) (m ((c : Thread nD τ).loc main_arg2))) _ _ _ _ Cert.Reference11Ideal.Gen.slices_S8x2048x512_S8x512x512_0_1536_0 Cert.Reference11Ideal.Gen.shapeCasts_S8x512x512_S8x512x2x4x64

/-- What the lines after the region find in the region's result. -/
theorem found (c : Dev nD) :
    Pipeline.withArrays (cfgs 0).spec c (V0 m c) (fun w => (dats m 0 c).arrAt w (cfgs 0).N) (Proc.devRef .tc main_v3) = resultOf m c :=
  ((dats m 0 c).withArrays_arrAt (by decide) (V0 m c) (A_eq m c) 3).trans (final m c)

theorem tail_rows (c : Dev nD) : Pipeline.afterTail₀ cfgs (dats m) 0 (V0 m) [hostOps1] c main_v6 = rowsOf m c := by
  refine Eq.trans ?_ (rows_eq m c)
  show StableHlo.after hostOps1 _ (Proc.devRef .tc main_v6) = _
  rw [← found m c]
  after_results
  rfl

end Cert.Kernel11Ideal.KvWin

namespace Cert.Proof

open Idealize.ShloMosaic Idealize.ShloMosaic.TcCoe Idealize.SL.Sem

theorem kvWin_algebraic : Cert.algebraic_Kernel11Ideal_Reference11Ideal := fun m g m' g' _ hagree => by
  refine ⟨fun c => Cert.Kernel11Ideal.KvWin.resultOf m c, fun c => Cert.Kernel11Ideal.KvWin.rowsOf m c, ?_, ?_⟩
  · refine (θ_run _ _ _).mono (fun r hr c => ?_) (θ_run_and (Cert.Kernel11Ideal.Gen.run_main (F := Ideal) m g) (Cert.Kernel11Ideal.Gen.unchanged (F := Ideal) m g))
    exact ⟨((hr.1 c).1 3).trans (Cert.Kernel11Ideal.KvWin.final m c),
      ((hr.1 c).2 Cert.Kernel11Ideal.main_v6 (Pipeline.mem_restRefs_of _ (by decide) (by decide))).trans (Cert.Kernel11Ideal.KvWin.tail_rows m c), hr.2 c⟩
  · refine (θ_run _ _ _).mono (fun r hr c => ?_) (Cert.Reference11Ideal.Value.run (F := Ideal) m' g')
    obtain ⟨h0, h1, h2⟩ := hagree c
    obtain rfl : c = 0 := Subsingleton.elim _ _
    refine ⟨(hr 0).1.trans ?_, (hr 0).2.1.trans ?_, (hr 0).2.2⟩
    · rw [h0, h1, h2]
      rfl
    · rw [h0, h1, h2]
      rfl

theorem kvWin_ref_frame : Cert.quiescent_Reference11Ideal := fun m g _ =>
  (θ_run _ _ _).mono (fun r hr => ⟨fun c => (hr c).2.2, sem_eq_zero_of_no_sems (by decide) r.2⟩) (Cert.Reference11Ideal.Value.run (F := Ideal) m g)

end Cert.Proof

end
-- ==== Proof.KvPaged.lean ====
/- The keys and values kept in pages: the weights' columns' products with the normalised rows, with the rows last. -/
module

public import proofs.«01_k».proof.Proof.Gen.Kernel10Ideal.Frame
public import proofs.«01_k».proof.Proof.Gen.Reference10Ideal.Run
public import proofs.«01_k».proof.Proof.Gen.Reference10Ideal.Read
public import proofs.«01_k».proof.Proof.RowsMath
public import proofs.«01_k».proof.Defs
public import Idealize.ShloMosaic.Lib.Pipeline.ValueKit
public import Idealize.ShloMosaic.Lib.VecWindow
public import Idealize.ShloMosaic.Lib.Pointwise
public import Idealize.ShloMosaic.Lib.Claim

@[expose] public section

set_option maxRecDepth 16384

noncomputable section

namespace Cert.Kernel10Ideal.KvPaged

open Cert.Kernel10Ideal Cert.Kernel10Ideal.Gen Cert.Rows
open Idealize.ShloMosaic Idealize.ShloMosaic.TcCoe Idealize.SL.Sem

/-- The rows kept in the scratch: normalised. -/
theorem pay1_apply (x : FVec Ideal S1024x1024 .f32) (g : FVec Ideal S1x1024 .f32) (r k : Fin 1024) :
    k0_pay1 (F := Ideal) x g (ix2 r k) = normed (fun q => x (ix2 r q)) (fun q => g (ix2 0 q)) k := by
  unfold k0_pay1 normed
  pointwise

/-- One block of the product. -/
theorem pay2_apply (w : FVec Ideal S512x1024 .f32) (x : FVec Ideal S1024x1024 .bf16) (q : Fin 512) (r : Fin 1024) :
    k0_pay2 (F := Ideal) w x (ix3 0 q r) = dot (fun k => w (ix2 q k)) (fun k => x (ix2 r k)) := by
  unfold k0_pay2 dot
  pointwise

section Paths
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x512x1024 .f32) (harg5 : arg5.IsWhole) (arg6 : Memref sig .tc .vmem S1024x1024 .bf16) (harg6 : arg6.IsWhole)
  (x0 : Vec Ideal S1024x1024 .f32) (x1 : Vec Ideal S1x1024 .f32) (x2 : Vec Ideal S512x1024 .f32) (xs0 : Vec Ideal S1024x1024 .bf16)

theorem out_A (h) : out0_A_3 (F := Ideal) c i arg2 harg2 arg3 harg3 arg4 harg4 arg5 harg5 arg6 harg6 h x0 x1 x2 = k0_pay2 (F := Ideal) x2 (k0_pay1 (F := Ideal) x0 x1) := by
  unfold out0_A_3
  rw [View.read_writes_eq_canon _ _ _ (cover0_A_3 (F := Ideal) c i arg2 harg2 arg3 harg3 arg4 harg4 arg5 harg5 arg6 harg6 h x0 x1 x2)]
  unfold kernelRun0_A
  dsimp only
  frame_out

theorem sout_A (h) : sout0_A_0 (F := Ideal) c i arg2 harg2 arg3 harg3 arg4 harg4 arg5 harg5 arg6 harg6 h x0 x1 x2 = k0_pay1 (F := Ideal) x0 x1 := by
  unfold sout0_A_0
  rw [View.read_writes_eq_canon _ _ _ (scover0_A_0 (F := Ideal) c i arg2 harg2 arg3 harg3 arg4 harg4 arg5 harg5 arg6 harg6 h x0 x1 x2)]
  unfold kernelRun0_A
  dsimp only
  frame_out

theorem out_B (h) : out0_B_3 (F := Ideal) c i arg2 harg2 arg3 harg3 arg4 harg4 arg5 harg5 arg6 harg6 h x0 x1 x2 xs0 = k0_pay2 (F := Ideal) x2 xs0 := by
  unfold out0_B_3
  rw [View.read_writes_eq_canon _ _ _ (cover0_B_3 (F := Ideal) c i arg2 harg2 arg3 harg3 arg4 harg4 arg5 harg5 arg6 harg6 h x0 x1 x2 xs0)]
  unfold kernelRun0_B
  dsimp only
  frame_out

end Paths

theorem column_apply (w : FVec Ideal S1024x1536 .f32) (C : Fin 1024) (k : Fin 1024) :
    extractStridedSlice S1024x1024 ![0, 0] (transpose S1536x1024 [1, 0] w transposes_S1024x1536_S1536x1024_1_0) slices_S1536x1024_S1024x1024_0_0 (ix2 C k) = w (ix2 k ⟨C.val, by omega⟩) := by
  pointwise

theorem row_apply (g : FVec Ideal S1024 .f32) (k : Fin 1024) : shapeCast S1x1024 g shapeCasts_S1024_S1x1024 (ix2 0 k) = g (ix1 k) := by
  pointwise

/-- The reference at an element. -/
theorem ref_apply (x : FVec Ideal S16384x1024 .f32) (g : FVec Ideal S1024 .f32) (w : FVec Ideal S1024x1536 .f32) (b : Fin 8) (C : Fin 1024) (s : Fin 2048) :
    Cert.Reference10Ideal.Read.val_main_v16 (F := Ideal) x g w (ix3 b C s) = dot (normed (fun q => x (ix2 (⟨b.val * 2048 + s.val, by omega⟩ : Fin 16384) q)) (fun q => g (ix1 q))) (fun k => w (ix2 k ⟨C.val, by omega⟩)) := by
  rw [← Cert.Reference10Ideal.Read.val_main_v16_eq]
  unfold dot normed
  pointwise

variable (m : (ℓ : Loc nD τ sig) → Buf (Elt Ideal) ℓ)

theorem at0 : ∀ t : Fin grid0.N, cc0_transform_0 (grid0.coords t) = ![t.val / 2, 0] := by decide +kernel
theorem at1 : ∀ t : Fin grid0.N, cc0_transform_1 (grid0.coords t) = ![0, 0] := by decide +kernel
theorem at2 : ∀ t : Fin grid0.N, cc0_transform_2 (grid0.coords t) = ![t.val % 2, 0] := by decide +kernel
theorem at3 : ∀ t : Fin grid0.N, cc0_transform_3 (grid0.coords t) = ![t.val / 4, t.val % 2, t.val / 2 % 2] := by decide +kernel

theorem weights (c : Dev nD) : (V m c main_v1 : S1024x1024.Idx → EReal) = extractStridedSlice S1024x1024 ![0, 0] (transpose S1536x1024 [1, 0] (m ((c : Thread nD τ).loc main_arg2) : S1024x1536.Idx → EReal) transposes_S1024x1536_S1536x1024_1_0) slices_S1536x1024_S1024x1024_0_0 := by
  show StableHlo.after hostOps0 _ (Proc.devRef .tc main_v1) = _
  after_results

theorem norm_in (c : Dev nD) : (V m c main_v2 : S1x1024.Idx → EReal) = shapeCast S1x1024 (m ((c : Thread nD τ).loc main_arg1) : S1024.Idx → EReal) shapeCasts_S1024_S1x1024 := by
  show StableHlo.after hostOps0 _ (Proc.devRef .tc main_v2) = _
  after_results
  rfl

theorem block0 (c : Dev nD) (t : Fin cfg0.N) (r k : Fin 1024) (R : Fin 16384) (hR : R.val = t.val / 2 * 1024 + r.val) :
    (iblk m c 0 t : S1024x1024.Idx → EReal) (ix2 r k) = (m ((c : Thread nD τ).loc main_arg0) : S16384x1024.Idx → EReal) (ix2 R k) := by
  refine Eq.trans ?_ (congrFun (V_main_arg0 m c) _)
  refine congrArg (V m c main_arg0 : S16384x1024.Idx → EReal) (funext fun a => Fin.ext ?_)
  refine (Pipeline.Window.rect_emb_val (cfg0.win 0) t (ix2 r k) a rfl).trans ?_
  show cc0_transform_0 (grid0.coords t) a * _ + _ = _
  rw [at0]
  match a with
  | ⟨0, _⟩ => exact hR.symm
  | ⟨1, _⟩ => show 0 * 1024 + k.val = k.val; omega

theorem block1 (c : Dev nD) (t : Fin cfg0.N) (k : Fin 1024) :
    (iblk m c 1 t : S1x1024.Idx → EReal) (ix2 0 k) = (m ((c : Thread nD τ).loc main_arg1) : S1024.Idx → EReal) (ix1 k) := by
  have e : (iblk m c 1 t : S1x1024.Idx → EReal) (ix2 0 k) = (V m c main_v2 : S1x1024.Idx → EReal) (ix2 0 k) := by
    refine congrArg (V m c main_v2 : S1x1024.Idx → EReal) (funext fun a => Fin.ext ?_)
    refine (Pipeline.Window.rect_emb_val (cfg0.win 1) t (ix2 0 k) a rfl).trans ?_
    show cc0_transform_1 (grid0.coords t) a * _ + _ = _
    rw [at1]
    match a with
    | ⟨0, _⟩ => rfl
    | ⟨1, _⟩ => show 0 * 1024 + k.val = k.val; omega
  rw [e, norm_in]
  exact row_apply _ _

theorem block2 (c : Dev nD) (t : Fin cfg0.N) (q : Fin 512) (k : Fin 1024) (C : Fin 1024) (hC : C.val = t.val % 2 * 512 + q.val) :
    (iblk m c 2 t : S512x1024.Idx → EReal) (ix2 q k) = (m ((c : Thread nD τ).loc main_arg2) : S1024x1536.Idx → EReal) (ix2 k ⟨C.val, by omega⟩) := by
  have e : (iblk m c 2 t : S512x1024.Idx → EReal) (ix2 q k) = (V m c main_v1 : S1024x1024.Idx → EReal) (ix2 C k) := by
    refine congrArg (V m c main_v1 : S1024x1024.Idx → EReal) (funext fun a => Fin.ext ?_)
    refine (Pipeline.Window.rect_emb_val (cfg0.win 2) t (ix2 q k) a rfl).trans ?_
    show cc0_transform_2 (grid0.coords t) a * _ + _ = _
    rw [at2]
    match a with
    | ⟨0, _⟩ => exact hC.symm
    | ⟨1, _⟩ => show 0 * 1024 + k.val = k.val; omega
  rw [e, weights]
  exact column_apply _ _ _

theorem scratch_A (c : Dev nD) (t : Fin cfg0.N) (h0 : t.val % 2 = 0) :
    (outsAt0 m c t.val t.isLt).2 = k0_pay1 (F := Ideal) (iblk m c 0 t) (iblk m c 1 t) := by
  rw [outsAt0_A m c t h0]
  dsimp only
  exact sout_A ..
theorem scratch_B (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl
theorem result_A (c : Dev nD) (t : Fin cfg0.N) (h0 : t.val % 2 = 0) :
    (outsAt0 m c t.val t.isLt).1 = k0_pay2 (F := Ideal) (iblk m c 2 t) (k0_pay1 (F := Ideal) (iblk m c 0 t) (iblk m c 1 t)) := by
  rw [outsAt0_A m c t h0]
  dsimp only
  exact out_A ..
theorem result_B (c : Dev nD) (t : Fin cfg0.N) (h0 : ¬t.val % 2 = 0) :
    (outsAt0 m c t.val t.isLt).1 = k0_pay2 (F := Ideal) (iblk m c 2 t) (outsAt0 m c (t.val - 1) (Nat.lt_of_le_of_lt (Nat.sub_le _ _) t.isLt)).2 := by
  rw [outsAt0_B m c t h0]
  dsimp only
  exact out_B ..

/-- The rows the scratch is filled with at a point. -/
theorem filled (c : Dev nD) (t : Fin cfg0.N) (r k : Fin 1024) (R : Fin 16384) (hR : R.val = t.val / 2 * 1024 + r.val) :
    k0_pay1 (F := Ideal) (iblk m c 0 t) (iblk m c 1 t) (ix2 r k) = normed (fun q => (m ((c : Thread nD τ).loc main_arg0) : S16384x1024.Idx → EReal) (ix2 R q)) (fun q => (m ((c : Thread nD τ).loc main_arg1) : S1024.Idx → EReal) (ix1 q)) k :=
  (pay1_apply _ _ _ _).trans (congrArg₂ (fun a b => normed a b k) (funext fun q => block0 m c t r q R hR) (funext fun q => block1 m c t q))

/-- After every point the scratch holds the rows of the point's block of rows. -/
theorem held (c : Dev nD) : ∀ (n : ℕ) (hn : n < cfg0.N) (r : Fin 1024) (k : Fin 1024) (R : Fin 16384), R.val = n / 2 * 1024 + r.val →
    (outsAt0 m c n hn).2 (ix2 r k) = normed (fun q => (m ((c : Thread nD τ).loc main_arg0) : S16384x1024.Idx → EReal) (ix2 R q)) (fun q => (m ((c : Thread nD τ).loc main_arg1) : S1024.Idx → EReal) (ix1 q)) k := by
  intro n
  induction n with
  | zero =>
    intro hn r k R hR
    exact (congrFun (scratch_A m c ⟨0, hn⟩ (Nat.zero_mod _)) _).trans (filled m c ⟨0, hn⟩ r k R hR)
  | succ n ih =>
    intro hn r k R hR
    by_cases h0 : (n + 1) % 2 = 0
    · exact (congrFun (scratch_A m c ⟨n + 1, hn⟩ h0) _).trans (filled m c ⟨n + 1, hn⟩ r k R hR)
    · exact (congrFun (scratch_B m c ⟨n + 1, hn⟩ h0) _).trans (ih (Nat.lt_of_succ_lt hn) r k R (by omega))

/-- What a point leaves in the result's block is the result there. -/
theorem left_apply (c : Dev nD) (t : Fin cfg0.N) (r : Fin 1024) (q : Fin 512) (R : Fin 16384) (C : Fin 1024) (hR : R.val = t.val / 2 * 1024 + r.val) (hC : C.val = t.val % 2 * 512 + q.val) :
    (outsAt0 m c t.val t.isLt).1 (ix3 0 q r) = dot (normed (fun q => (m ((c : Thread nD τ).loc main_arg0) : S16384x1024.Idx → EReal) (ix2 R q)) (fun q => (m ((c : Thread nD τ).loc main_arg1) : S1024.Idx → EReal) (ix1 q))) (fun k => (m ((c : Thread nD τ).loc main_arg2) : S1024x1536.Idx → EReal) (ix2 k ⟨C.val, by omega⟩)) := by
  have key : ∀ s : FVec Ideal S1024x1024 .bf16, (∀ k, s (ix2 r k) = normed (fun q => (m ((c : Thread nD τ).loc main_arg0) : S16384x1024.Idx → EReal) (ix2 R q)) (fun q => (m ((c : Thread nD τ).loc main_arg1) : S1024.Idx → EReal) (ix1 q)) k) →
      k0_pay2 (F := Ideal) (iblk m c 2 t) s (ix3 0 q r) = dot (normed (fun q => (m ((c : Thread nD τ).loc main_arg0) : S16384x1024.Idx → EReal) (ix2 R q)) (fun q => (m ((c : Thread nD τ).loc main_arg1) : S1024.Idx → EReal) (ix1 q))) (fun k => (m ((c : Thread nD τ).loc main_arg2) : S1024x1536.Idx → EReal) (ix2 k ⟨C.val, by omega⟩)) := fun s hs => by
    refine (pay2_apply _ _ _ _).trans ?_
    refine Eq.trans ?_ (congrArg₂ dot (funext hs) (funext fun k => block2 m c t q k C hC))
    exact Finset.sum_congr rfl fun k _ => mul_comm _ _
  by_cases h0 : t.val % 2 = 0
  · exact (congrFun (result_A m c t h0) _).trans (key _ fun k => filled m c t r k R hR)
  · exact (congrFun (result_B m c t h0) _).trans (key _ fun k => held m c (t.val - 1) _ r k R (by omega))

/-- The result, as the reference's last value of the arguments. -/
def resultOf (c : Dev nD) : S8x1024x2048.Idx → EReal :=
  Cert.Reference10Ideal.Read.val_main_v16 (F := Ideal) (m ((c : Thread nD τ).loc main_arg0)) (m ((c : Thread nD τ).loc main_arg1)) (m ((c : Thread nD τ).loc main_arg2))

/-- What a point leaves is the reference's value of its block. -/
theorem left_at (c : Dev nD) (t : Fin cfg0.N) (r : Fin 1024) (q : Fin 512) (b : Fin 8) (C : Fin 1024) (s : Fin 2048) (hb : b.val = t.val / 4) (hs : s.val = t.val / 2 % 2 * 1024 + r.val) (hC : C.val = t.val % 2 * 512 + q.val) :
    (outsAt0 m c t.val t.isLt).1 (ix3 0 q r) = resultOf m c (ix3 b C s) :=
  (left_apply m c t r q (⟨b.val * 2048 + s.val, by omega⟩ : Fin 16384) C (by show b.val * 2048 + s.val = _; omega) hC).trans (ref_apply _ _ _ b C s).symm

theorem final (c : Dev nD) : (dats m 0 c).arrAt 3 cfg0.N = resultOf m c := by
  refine (dats m 0 c).arrAt_eq_of_covers 3 (resultOf m c) (by decide +kernel) fun t hf y => ?_
  have hy0 : (y 0).val < 1 := (y 0).isLt
  have hy1 : (y 1).val < 512 := (y 1).isLt
  have hy2 : (y 2).val < 1024 := (y 2).isLt
  have ht : t.val < 32 := lt_of_lt_of_eq t.isLt N_0
  have hb : t.val / 4 * 1 + (y 0).val < 8 := by omega
  have hb' : t.val / 4 * 1 + (y 0).val = t.val / 4 := by omega
  have hs : t.val / 2 % 2 * 1024 + (y 2).val < 2048 := by omega
  have hC : t.val % 2 * 512 + (y 1).val < 1024 := by omega
  have ei : ((cfg0.win 3).blk t).view.emb y = ix3 (⟨_, hb⟩ : Fin 8) (⟨_, hC⟩ : Fin 1024) (⟨_, hs⟩ : Fin 2048) := by
    refine funext fun a => Fin.ext ?_
    refine (Pipeline.Window.rect_emb_val (cfg0.win 3) t y a rfl).trans ?_
    show cc0_transform_3 (grid0.coords t) a * _ + _ = _
    rw [at3]
    match a with
    | ⟨0, _⟩ => rfl
    | ⟨1, _⟩ => rfl
    | ⟨2, _⟩ => rfl
  have ey : (cfg0.win 3).xinj (grid0.coords t) y = ix3 (0 : Fin 1) (⟨_, hy1⟩ : Fin 512) (⟨_, hy2⟩ : Fin 1024) := by
    refine funext fun a => ?_
    match a with
    | ⟨0, _⟩ => exact Fin.ext (by show (y 0).val = 0; omega)
    | ⟨1, _⟩ => rfl
    | ⟨2, _⟩ => rfl
  have ef : (dats m 0 c).after 3 t ((cfg0.win 3).xinj (grid0.coords t) y) = (outsAt0 m c t.val t.isLt).1 (ix3 (0 : Fin 1) (⟨_, hy1⟩ : Fin 512) (⟨_, hy2⟩ : Fin 1024)) := by
    rw [after0_3, ey]
  exact Eq.trans ef ((left_at m c t _ _ ⟨_, hb⟩ ⟨_, hC⟩ ⟨_, hs⟩ hb' rfl rfl).trans (congrArg (resultOf m c) ei.symm))

/-- The result's columns re-laid as rows are the rows. -/
theorem relaid (z : FVec Ideal Cert.Reference10Ideal.S8x2048x1024 .f32) (h h' h'' h''') :
    transpose S8x2048x4x4x64 [0, 4, 1, 2, 3] (shapeCast S8x4x4x64x2048 (transpose S8x1024x2048 [0, 2, 1] z h) h') h'' = shapeCast S8x2048x4x4x64 z h''' := by
  funext y
  rw [show y = ix5 (y 0) (y 1) (y 2) (y 3) (y 4) from funext fun a => by match a with | ⟨0, _⟩ => rfl | ⟨1, _⟩ => rfl | ⟨2, _⟩ => rfl | ⟨3, _⟩ => rfl | ⟨4, _⟩ => rfl]
  generalize y 0 = b
  generalize y 1 = t
  generalize y 2 = p
  generalize y 3 = k
  generalize y 4 = d
  pointwise

/-- The layer's own result, the paged rows, as the reference's value of the arguments. -/
def rowsOf (c : Dev nD) : S8x2048x4x4x64.Idx → EReal :=
  Cert.Reference10Ideal.Read.val_main_v17 (F := Ideal) (m ((c : Thread nD τ).loc main_arg0)) (m ((c : Thread nD τ).loc main_arg1)) (m ((c : Thread nD τ).loc main_arg2))

theorem rows_eq (c : Dev nD) : transpose S8x2048x4x4x64 [0, 4, 1, 2, 3] (shapeCast S8x4x4x64x2048 (resultOf m c) shapeCasts_S8x1024x2048_S8x4x4x64x2048) transposes_S8x4x4x64x2048_S8x2048x4x4x64_0_4_1_2_3 = rowsOf m c :=
  relaid (Cert.Reference10Ideal.Read.val_main_v15 (F := Ideal) (m ((c : Thread nD τ).loc main_arg0)) (m ((c : Thread nD τ).loc main_arg1)) (m ((c : Thread nD τ).loc main_arg2))) _ _ _ _

/-- What the lines after the region find in the region's result. -/
theorem found (c : Dev nD) :
    Pipeline.withArrays (cfgs 0).spec c (V0 m c) (fun w => (dats m 0 c).arrAt w (cfgs 0).N) (Proc.devRef .tc main_v3) = resultOf m c :=
  ((dats m 0 c).withArrays_arrAt (by decide) (V0 m c) (A_eq m c) 3).trans (final m c)

theorem tail_rows (c : Dev nD) : Pipeline.afterTail₀ cfgs (dats m) 0 (V0 m) [hostOps1] c main_v5 = rowsOf m c := by
  refine Eq.trans ?_ (rows_eq m c)
  show StableHlo.after hostOps1 _ (Proc.devRef .tc main_v5) = _
  rw [← found m c]
  after_results
  rfl

end Cert.Kernel10Ideal.KvPaged

namespace Cert.Proof

open Idealize.ShloMosaic Idealize.ShloMosaic.TcCoe Idealize.SL.Sem

theorem kvPaged_algebraic : Cert.algebraic_Kernel10Ideal_Reference10Ideal := fun m g m' g' _ hagree => by
  refine ⟨fun c => Cert.Kernel10Ideal.KvPaged.resultOf m c, fun c => Cert.Kernel10Ideal.KvPaged.rowsOf m c, ?_, ?_⟩
  · refine (θ_run _ _ _).mono (fun r hr c => ?_) (θ_run_and (Cert.Kernel10Ideal.Gen.run_main (F := Ideal) m g) (Cert.Kernel10Ideal.Gen.unchanged (F := Ideal) m g))
    exact ⟨((hr.1 c).1 3).trans (Cert.Kernel10Ideal.KvPaged.final m c),
      ((hr.1 c).2 Cert.Kernel10Ideal.main_v5 (Pipeline.mem_restRefs_of _ (by decide) (by decide))).trans (Cert.Kernel10Ideal.KvPaged.tail_rows m c), hr.2 c⟩
  · refine (θ_run _ _ _).mono (fun r hr c => ?_) (Cert.Reference10Ideal.Value.run (F := Ideal) m' g')
    obtain ⟨h0, h1, h2⟩ := hagree c
    obtain rfl : c = 0 := Subsingleton.elim _ _
    refine ⟨(hr 0).1.trans ?_, (hr 0).2.1.trans ?_, (hr 0).2.2⟩
    · rw [h0, h1, h2]
      rfl
    · rw [h0, h1, h2]
      rfl

theorem kvPaged_ref_frame : Cert.quiescent_Reference10Ideal := fun m g _ =>
  (θ_run _ _ _).mono (fun r hr => ⟨fun c => (hr c).2.2, sem_eq_zero_of_no_sems (by decide) r.2⟩) (Cert.Reference10Ideal.Value.run (F := Ideal) m g)

end Cert.Proof

end
-- ==== Proof.Out2.lean ====
/- The projection out of the attention: the rows' products with the weights' columns, the row itself added. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.RowsMath
public import proofs.«01_k».proof.Defs
public import Idealize.ShloMosaic.Lib.Pipeline.ValueKit
public import Idealize.ShloMosaic.Lib.VecWindow
public import Idealize.ShloMosaic.Lib.Pointwise
public import Idealize.ShloMosaic.Lib.Claim

@[expose] public section

set_option maxRecDepth 16384

noncomputable section

namespace Cert.Kernel9Ideal.Out2

open Cert.Kernel9Ideal Cert.Kernel9Ideal.Gen Cert.Rows
open Idealize.ShloMosaic Idealize.ShloMosaic.TcCoe Idealize.SL.Sem

/-- The rows kept in the scratch are the rows. -/
theorem pay1_apply (x : FVec Ideal S1024x1024 .f32) (r k : Fin 1024) : k0_pay1 (F := Ideal) x (ix2 r k) = x (ix2 r k) := by
  unfold k0_pay1
  pointwise

/-- One block of the result. -/
theorem pay2_apply (x : FVec Ideal S1024x1024 .bf16) (w d : FVec Ideal S1024x512 .f32) (r : Fin 1024) (q : Fin 512) :
    k0_pay2 (F := Ideal) x w d (ix2 r q) = dot (fun k => x (ix2 r k)) (fun k => w (ix2 k q)) + d (ix2 r q) := by
  unfold k0_pay2 dot
  pointwise

section Paths
variable (c : Dev nD) (i : grid0.Coords) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .bf16) (harg6 : arg6.IsWhole)
  (x0 : Vec Ideal S1024x1024 .f32) (x1 : Vec Ideal S1024x512 .f32) (x2 : Vec Ideal S1024x512 .f32) (xs0 : Vec Ideal S1024x1024 .bf16)

theorem out_A (h) : out0_A_3 (F := Ideal) c i arg2 harg2 arg3 harg3 arg4 harg4 arg5 harg5 arg6 harg6 h x0 x1 x2 = k0_pay2 (F := Ideal) (k0_pay1 (F := Ideal) x0) x1 x2 := by
  unfold out0_A_3
  rw [View.read_writes_eq_canon _ _ _ (cover0_A_3 (F := Ideal) c i arg2 harg2 arg3 harg3 arg4 harg4 arg5 harg5 arg6 harg6 h x0 x1 x2)]
  unfold kernelRun0_A
  dsimp only
  frame_out

theorem sout_A (h) : sout0_A_0 (F := Ideal) c i arg2 harg2 arg3 harg3 arg4 harg4 arg5 harg5 arg6 harg6 h x0 x1 x2 = k0_pay1 (F := Ideal) x0 := by
  unfold sout0_A_0
  rw [View.read_writes_eq_canon _ _ _ (scover0_A_0 (F := Ideal) c i arg2 harg2 arg3 harg3 arg4 harg4 arg5 harg5 arg6 harg6 h x0 x1 x2)]
  unfold kernelRun0_A
  dsimp only
  frame_out

theorem out_B (h) : out0_B_3 (F := Ideal) c i arg2 harg2 arg3 harg3 arg4 harg4 arg5 harg5 arg6 harg6 h x0 x1 x2 xs0 = k0_pay2 (F := Ideal) xs0 x1 x2 := by
  unfold out0_B_3
  rw [View.read_writes_eq_canon _ _ _ (cover0_B_3 (F := Ideal) c i arg2 harg2 arg3 harg3 arg4 harg4 arg5 harg5 arg6 harg6 h x0 x1 x2 xs0)]
  unfold kernelRun0_B
  dsimp only
  frame_out

end Paths

theorem drop_apply (w : FVec Ideal S1x1024x1024 .f32) (k C : Fin 1024) :
    shapeCast S1024x1024 w shapeCasts_S1x1024x1024_S1024x1024 (ix2 k C) = w (ix3 0 k C) := by
  pointwise

/-- An element of the result, from the arguments. -/
def elemOf (x : FVec Ideal S16384x1024 .f32) (w : FVec Ideal S1x1024x1024 .f32) (d : FVec Ideal S16384x1024 .f32) (R : Fin 16384) (C : Fin 1024) : EReal :=
  d (ix2 R C) + dot (fun k => x (ix2 R k)) (fun k => w (ix3 0 k C))

/-- The reference at an element. -/
theorem ref_apply (x : FVec Ideal S16384x1024 .f32) (w : FVec Ideal S1x1024x1024 .f32) (d : FVec Ideal S16384x1024 .f32) (R : Fin 16384) (C : Fin 1024) :
    Cert.Reference9Ideal.Read.val_main_v2 (F := Ideal) x w d (ix2 R C) = elemOf x w d R C := by
  rw [← Cert.Reference9Ideal.Read.val_main_v2_eq]
  unfold elemOf dot
  pointwise

variable (m : (ℓ : Loc nD τ sig) → Buf (Elt Ideal) ℓ)

theorem at0 : ∀ t : Fin grid0.N, cc0_transform_0 (grid0.coords t) = ![t.val / 2, 0] := by decide +kernel
theorem at1 : ∀ t : Fin grid0.N, cc0_transform_1 (grid0.coords t) = ![0, t.val % 2] := by decide +kernel
theorem at2 : ∀ t : Fin grid0.N, cc0_transform_2 (grid0.coords t) = ![t.val / 2, t.val % 2] := by decide +kernel
theorem at3 : ∀ t : Fin grid0.N, cc0_transform_3 (grid0.coords t) = ![t.val / 2, t.val % 2] := by decide +kernel

theorem weights (c : Dev nD) : (V m c main_v0 : S1024x1024.Idx → EReal) = shapeCast S1024x1024 (m ((c : Thread nD τ).loc main_arg1) : S1x1024x1024.Idx → EReal) shapeCasts_S1x1024x1024_S1024x1024 := by
  show StableHlo.after hostOps0 _ (Proc.devRef .tc main_v0) = _
  after_results
  rfl

theorem block0 (c : Dev nD) (t : Fin cfg0.N) (r k : Fin 1024) (R : Fin 16384) (hR : R.val = t.val / 2 * 1024 + r.val) :
    (iblk m c 0 t : S1024x1024.Idx → EReal) (ix2 r k) = (m ((c : Thread nD τ).loc main_arg0) : S16384x1024.Idx → EReal) (ix2 R k) := by
  refine Eq.trans ?_ (congrFun (V_main_arg0 m c) _)
  refine congrArg (V m c main_arg0 : S16384x1024.Idx → EReal) (funext fun a => Fin.ext ?_)
  refine (Pipeline.Window.rect_emb_val (cfg0.win 0) t (ix2 r k) a rfl).trans ?_
  show cc0_transform_0 (grid0.coords t) a * _ + _ = _
  rw [at0]
  match a with
  | ⟨0, _⟩ => exact hR.symm
  | ⟨1, _⟩ => show 0 * 1024 + k.val = k.val; omega

theorem block1 (c : Dev nD) (t : Fin cfg0.N) (k : Fin 1024) (q : Fin 512) (C : Fin 1024) (hC : C.val = t.val % 2 * 512 + q.val) :
    (iblk m c 1 t : S1024x512.Idx → EReal) (ix2 k q) = (m ((c : Thread nD τ).loc main_arg1) : S1x1024x1024.Idx → EReal) (ix3 0 k C) := by
  have e : (iblk m c 1 t : S1024x512.Idx → EReal) (ix2 k q) = (V m c main_v0 : S1024x1024.Idx → EReal) (ix2 k C) := by
    refine congrArg (V m c main_v0 : S1024x1024.Idx → EReal) (funext fun a => Fin.ext ?_)
    refine (Pipeline.Window.rect_emb_val (cfg0.win 1) t (ix2 k q) a rfl).trans ?_
    show cc0_transform_1 (grid0.coords t) a * _ + _ = _
    rw [at1]
    match a with
    | ⟨0, _⟩ => show 0 * 1024 + k.val = k.val; omega
    | ⟨1, _⟩ => exact hC.symm
  rw [e, weights]
  exact drop_apply _ _ _

theorem block2 (c : Dev nD) (t : Fin cfg0.N) (r : Fin 1024) (q : Fin 512) (R : Fin 16384) (C : Fin 1024) (hR : R.val = t.val / 2 * 1024 + r.val) (hC : C.val = t.val % 2 * 512 + q.val) :
    (iblk m c 2 t : S1024x512.Idx → EReal) (ix2 r q) = (m ((c : Thread nD τ).loc main_arg2) : S16384x1024.Idx → EReal) (ix2 R C) := by
  refine Eq.trans ?_ (congrFun (V_main_arg2 m c) _)
  refine congrArg (V m c main_arg2 : S16384x1024.Idx → EReal) (funext fun a => Fin.ext ?_)
  refine (Pipeline.Window.rect_emb_val (cfg0.win 2) t (ix2 r q) a rfl).trans ?_
  show cc0_transform_2 (grid0.coords t) a * _ + _ = _
  rw [at2]
  match a with
  | ⟨0, _⟩ => exact hR.symm
  | ⟨1, _⟩ => exact hC.symm

theorem scratch_A (c : Dev nD) (t : Fin cfg0.N) (h0 : t.val % 2 = 0) :
    (outsAt0 m c t.val t.isLt).2 = k0_pay1 (F := Ideal) (iblk m c 0 t) := by
  rw [outsAt0_A m c t h0]
  dsimp only
  exact sout_A ..
theorem scratch_B (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl
theorem result_A (c : Dev nD) (t : Fin cfg0.N) (h0 : t.val % 2 = 0) :
    (outsAt0 m c t.val t.isLt).1 = k0_pay2 (F := Ideal) (k0_pay1 (F := Ideal) (iblk m c 0 t)) (iblk m c 1 t) (iblk m c 2 t) := by
  rw [outsAt0_A m c t h0]
  dsimp only
  exact out_A ..
theorem result_B (c : Dev nD) (t : Fin cfg0.N) (h0 : ¬t.val % 2 = 0) :
    (outsAt0 m c t.val t.isLt).1 = k0_pay2 (F := Ideal) (outsAt0 m c (t.val - 1) (Nat.lt_of_le_of_lt (Nat.sub_le _ _) t.isLt)).2 (iblk m c 1 t) (iblk m c 2 t) := by
  rw [outsAt0_B m c t h0]
  dsimp only
  exact out_B ..

/-- The rows the scratch is filled with at a point. -/
theorem filled (c : Dev nD) (t : Fin cfg0.N) (r k : Fin 1024) (R : Fin 16384) (hR : R.val = t.val / 2 * 1024 + r.val) :
    k0_pay1 (F := Ideal) (iblk m c 0 t) (ix2 r k) = (m ((c : Thread nD τ).loc main_arg0) : S16384x1024.Idx → EReal) (ix2 R k) :=
  (pay1_apply _ _ _).trans (block0 m c t r k R hR)

/-- After every point the scratch holds the rows of the point's block of rows. -/
theorem held (c : Dev nD) : ∀ (n : ℕ) (hn : n < cfg0.N) (r : Fin 1024) (k : Fin 1024) (R : Fin 16384), R.val = n / 2 * 1024 + r.val →
    (outsAt0 m c n hn).2 (ix2 r k) = (m ((c : Thread nD τ).loc main_arg0) : S16384x1024.Idx → EReal) (ix2 R k) := by
  intro n
  induction n with
  | zero =>
    intro hn r k R hR
    exact (congrFun (scratch_A m c ⟨0, hn⟩ (Nat.zero_mod _)) _).trans (filled m c ⟨0, hn⟩ r k R hR)
  | succ n ih =>
    intro hn r k R hR
    by_cases h0 : (n + 1) % 2 = 0
    · exact (congrFun (scratch_A m c ⟨n + 1, hn⟩ h0) _).trans (filled m c ⟨n + 1, hn⟩ r k R hR)
    · exact (congrFun (scratch_B m c ⟨n + 1, hn⟩ h0) _).trans (ih (Nat.lt_of_succ_lt hn) r k R (by omega))

/-- What a point leaves in the result's block is the result there. -/
theorem left_apply (c : Dev nD) (t : Fin cfg0.N) (r : Fin 1024) (q : Fin 512) (R : Fin 16384) (C : Fin 1024) (hR : R.val = t.val / 2 * 1024 + r.val) (hC : C.val = t.val % 2 * 512 + q.val) :
    (outsAt0 m c t.val t.isLt).1 (ix2 r q) = elemOf (m ((c : Thread nD τ).loc main_arg0)) (m ((c : Thread nD τ).loc main_arg1)) (m ((c : Thread nD τ).loc main_arg2)) R C := by
  have key : ∀ s : FVec Ideal S1024x1024 .bf16, (∀ k, s (ix2 r k) = (m ((c : Thread nD τ).loc main_arg0) : S16384x1024.Idx → EReal) (ix2 R k)) →
      k0_pay2 (F := Ideal) s (iblk m c 1 t) (iblk m c 2 t) (ix2 r q) = elemOf (m ((c : Thread nD τ).loc main_arg0)) (m ((c : Thread nD τ).loc main_arg1)) (m ((c : Thread nD τ).loc main_arg2)) R C := fun s hs => by
    refine (pay2_apply _ _ _ _ _).trans ?_
    rw [add_comm]
    exact congrArg₂ (· + ·) (block2 m c t r q R C hR hC) (congrArg₂ dot (funext hs) (funext fun k => block1 m c t k q C hC))
  by_cases h0 : t.val % 2 = 0
  · exact (congrFun (result_A m c t h0) _).trans (key _ fun k => filled m c t r k R hR)
  · exact (congrFun (result_B m c t h0) _).trans (key _ fun k => held m c (t.val - 1) _ r k R (by omega))

/-- The result, as the reference's last value of the arguments. -/
def resultOf (c : Dev nD) : S16384x1024.Idx → EReal :=
  Cert.Reference9Ideal.Read.val_main_v2 (F := Ideal) (m ((c : Thread nD τ).loc main_arg0)) (m ((c : Thread nD τ).loc main_arg1)) (m ((c : Thread nD τ).loc main_arg2))

theorem final (c : Dev nD) : (dats m 0 c).arrAt 3 cfg0.N = resultOf m c := by
  refine (dats m 0 c).arrAt_eq_of_covers 3 (resultOf m c) (by decide +kernel) fun t hf y => ?_
  have hy0 : (y 0).val < 1024 := (y 0).isLt
  have hy1 : (y 1).val < 512 := (y 1).isLt
  have ht : t.val < 32 := lt_of_lt_of_eq t.isLt N_0
  have hR : t.val / 2 * 1024 + (y 0).val < 16384 := by omega
  have hC : t.val % 2 * 512 + (y 1).val < 1024 := by omega
  have ei : ((cfg0.win 3).blk t).view.emb y = ix2 (⟨_, hR⟩ : Fin 16384) (⟨_, hC⟩ : Fin 1024) := by
    refine funext fun a => Fin.ext ?_
    refine (Pipeline.Window.rect_emb_val (cfg0.win 3) t y a rfl).trans ?_
    show cc0_transform_3 (grid0.coords t) a * _ + _ = _
    rw [at3]
    match a with
    | ⟨0, _⟩ => rfl
    | ⟨1, _⟩ => rfl
  have ey : (cfg0.win 3).xinj (grid0.coords t) y = ix2 (⟨_, hy0⟩ : Fin 1024) (⟨_, hy1⟩ : Fin 512) := by
    refine funext fun a => ?_
    match a with
    | ⟨0, _⟩ => rfl
    | ⟨1, _⟩ => rfl
  have ef : (dats m 0 c).after 3 t ((cfg0.win 3).xinj (grid0.coords t) y) = (outsAt0 m c t.val t.isLt).1 (ix2 (⟨_, hy0⟩ : Fin 1024) (⟨_, hy1⟩ : Fin 512)) := by
    rw [after0_3, ey]
  refine Eq.trans ef (((left_apply m c t _ _ ⟨_, hR⟩ ⟨_, hC⟩ rfl rfl).trans ?_).trans (congrArg (resultOf m c) ei.symm))
  exact (ref_apply _ _ _ _ _).symm

end Cert.Kernel9Ideal.Out2

namespace Cert.Proof

open Idealize.ShloMosaic Idealize.ShloMosaic.TcCoe Idealize.SL.Sem

theorem out2_algebraic : Cert.algebraic_Kernel9Ideal_Reference9Ideal := fun m g m' g' _ hagree => by
  refine ⟨fun c => Cert.Kernel9Ideal.Out2.resultOf m c, ?_, ?_⟩
  · refine (θ_run _ _ _).mono (fun r hr c => ?_) (Cert.Kernel9Ideal.Value.run_blocks (F := Ideal) m g)
    exact ⟨(hr c).1.trans (Cert.Kernel9Ideal.Out2.final m c), (hr c).2⟩
  · refine (θ_run _ _ _).mono (fun r hr c => ?_) (Cert.Reference9Ideal.Value.run (F := Ideal) m' g')
    obtain ⟨h0, h1, h2⟩ := hagree c
    obtain rfl : c = 0 := Subsingleton.elim _ _
    refine ⟨(hr 0).1.trans ?_, (hr 0).2⟩
    rw [h0, h1, h2]
    rfl

theorem out2_ref_frame : Cert.quiescent_Reference9Ideal := fun m g _ =>
  (θ_run _ _ _).mono (fun r hr => ⟨fun c => (hr c).2, sem_eq_zero_of_no_sems (by decide) r.2⟩) (Cert.Reference9Ideal.Value.run (F := Ideal) m g)

end Cert.Proof

end
-- ==== Proof.Proj.lean ====
/- The projection to the queries and the gates: the normalised rows' products with the weights' columns. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.RowsMath
public import proofs.«01_k».proof.Defs
public import Idealize.ShloMosaic.Lib.Pipeline.ValueKit
public import Idealize.ShloMosaic.Lib.VecWindow
public import Idealize.ShloMosaic.Lib.Pointwise
public import Idealize.ShloMosaic.Lib.Claim

@[expose] public section

set_option maxRecDepth 16384

noncomputable section

namespace Cert.Kernel8Ideal.Proj

open Cert.Kernel8Ideal Cert.Kernel8Ideal.Gen Cert.Rows
open Idealize.ShloMosaic Idealize.ShloMosaic.TcCoe Idealize.SL.Sem

/-- The rows kept in the scratch: normalised. -/
theorem pay1_apply (x : FVec Ideal S1024x1024 .f32) (g : FVec Ideal S1x1024 .f32) (r k : Fin 1024) :
    k0_pay1 (F := Ideal) x g (ix2 r k) = normed (fun q => x (ix2 r q)) (fun q => g (ix2 0 q)) k := by
  unfold k0_pay1 normed
  pointwise

/-- One block of the product. -/
theorem pay2_apply (x : FVec Ideal S1024x1024 .bf16) (w : FVec Ideal S1024x384 .f32) (r : Fin 1024) (q : Fin 384) :
    k0_pay2 (F := Ideal) x w (ix2 r q) = dot (fun k => x (ix2 r k)) (fun k => w (ix2 k q)) := by
  unfold k0_pay2 dot
  pointwise

section Paths
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x384 .f32) (harg4 : arg4.IsWhole) (arg5 : Memref sig .tc .vmem S1024x384 .f32) (harg5 : arg5.IsWhole) (arg6 : Memref sig .tc .vmem S1024x1024 .bf16) (harg6 : arg6.IsWhole)
  (x0 : Vec Ideal S1024x1024 .f32) (x1 : Vec Ideal S1x1024 .f32) (x2 : Vec Ideal S1024x384 .f32) (xs0 : Vec Ideal S1024x1024 .bf16)

theorem out_A (h) : out0_A_3 (F := Ideal) c i arg2 harg2 arg3 harg3 arg4 harg4 arg5 harg5 arg6 harg6 h x0 x1 x2 = k0_pay2 (F := Ideal) (k0_pay1 (F := Ideal) x0 x1) x2 := by
  unfold out0_A_3
  rw [View.read_writes_eq_canon _ _ _ (cover0_A_3 (F := Ideal) c i arg2 harg2 arg3 harg3 arg4 harg4 arg5 harg5 arg6 harg6 h x0 x1 x2)]
  unfold kernelRun0_A
  dsimp only
  frame_out

theorem sout_A (h) : sout0_A_0 (F := Ideal) c i arg2 harg2 arg3 harg3 arg4 harg4 arg5 harg5 arg6 harg6 h x0 x1 x2 = k0_pay1 (F := Ideal) x0 x1 := by
  unfold sout0_A_0
  rw [View.read_writes_eq_canon _ _ _ (scover0_A_0 (F := Ideal) c i arg2 harg2 arg3 harg3 arg4 harg4 arg5 harg5 arg6 harg6 h x0 x1 x2)]
  unfold kernelRun0_A
  dsimp only
  frame_out

theorem out_B (h) : out0_B_3 (F := Ideal) c i arg2 harg2 arg3 harg3 arg4 harg4 arg5 harg5 arg6 harg6 h x0 x1 x2 xs0 = k0_pay2 (F := Ideal) xs0 x2 := by
  unfold out0_B_3
  rw [View.read_writes_eq_canon _ _ _ (cover0_B_3 (F := Ideal) c i arg2 harg2 arg3 harg3 arg4 harg4 arg5 harg5 arg6 harg6 h x0 x1 x2 xs0)]
  unfold kernelRun0_B
  dsimp only
  frame_out

end Paths

theorem second_apply (g : FVec Ideal S2x1024 .f32) (k : Fin 1024) :
    shapeCast S1x1024 (shapeCast S1024 (extractStridedSlice S1x1024 ![1, 0] g slices_S2x1024_S1x1024_1_0) shapeCasts_S1x1024_S1024) shapeCasts_S1024_S1x1024 (ix2 0 k) = g (ix2 1 k) := by
  pointwise

/-- The reference at an element. -/
theorem ref_apply (x : FVec Ideal S16384x1024 .f32) (g : FVec Ideal S2x1024 .f32) (w : FVec Ideal S1024x1152 .f32) (R : Fin 16384) (C : Fin 1152) :
    Cert.Reference8Ideal.Read.val_main_v15 (F := Ideal) x g w (ix2 R C) = dot (normed (fun q => x (ix2 R q)) (fun q => g (ix2 1 q))) (fun k => w (ix2 k C)) := by
  rw [← Cert.Reference8Ideal.Read.val_main_v15_eq]
  unfold dot normed
  pointwise

variable (m : (ℓ : Loc nD τ sig) → Buf (Elt Ideal) ℓ)

theorem at0 : ∀ t : Fin grid0.N, cc0_transform_0 (grid0.coords t) = ![t.val / 3, 0] := by decide +kernel
theorem at1 : ∀ t : Fin grid0.N, cc0_transform_1 (grid0.coords t) = ![0, 0] := by decide +kernel
theorem at2 : ∀ t : Fin grid0.N, cc0_transform_2 (grid0.coords t) = ![0, t.val % 3] := by decide +kernel
theorem at3 : ∀ t : Fin grid0.N, cc0_transform_3 (grid0.coords t) = ![t.val / 3, t.val % 3] := by decide +kernel

theorem norm_in (c : Dev nD) : (V m c main_v2 : S1x1024.Idx → EReal) = shapeCast S1x1024 (shapeCast S1024 (extractStridedSlice S1x1024 ![1, 0] (m ((c : Thread nD τ).loc main_arg1) : S2x1024.Idx → EReal) slices_S2x1024_S1x1024_1_0) shapeCasts_S1x1024_S1024) shapeCasts_S1024_S1x1024 := by
  show StableHlo.after hostOps0 _ (Proc.devRef .tc main_v2) = _
  after_results
  rfl

theorem block0 (c : Dev nD) (t : Fin cfg0.N) (r k : Fin 1024) (R : Fin 16384) (hR : R.val = t.val / 3 * 1024 + r.val) :
    (iblk m c 0 t : S1024x1024.Idx → EReal) (ix2 r k) = (m ((c : Thread nD τ).loc main_arg0) : S16384x1024.Idx → EReal) (ix2 R k) := by
  refine Eq.trans ?_ (congrFun (V_main_arg0 m c) _)
  refine congrArg (V m c main_arg0 : S16384x1024.Idx → EReal) (funext fun a => Fin.ext ?_)
  refine (Pipeline.Window.rect_emb_val (cfg0.win 0) t (ix2 r k) a rfl).trans ?_
  show cc0_transform_0 (grid0.coords t) a * _ + _ = _
  rw [at0]
  match a with
  | ⟨0, _⟩ => exact hR.symm
  | ⟨1, _⟩ => show 0 * 1024 + k.val = k.val; omega

theorem block1 (c : Dev nD) (t : Fin cfg0.N) (k : Fin 1024) :
    (iblk m c 1 t : S1x1024.Idx → EReal) (ix2 0 k) = (m ((c : Thread nD τ).loc main_arg1) : S2x1024.Idx → EReal) (ix2 1 k) := by
  have e : (iblk m c 1 t : S1x1024.Idx → EReal) (ix2 0 k) = (V m c main_v2 : S1x1024.Idx → EReal) (ix2 0 k) := by
    refine congrArg (V m c main_v2 : S1x1024.Idx → EReal) (funext fun a => Fin.ext ?_)
    refine (Pipeline.Window.rect_emb_val (cfg0.win 1) t (ix2 0 k) a rfl).trans ?_
    show cc0_transform_1 (grid0.coords t) a * _ + _ = _
    rw [at1]
    match a with
    | ⟨0, _⟩ => rfl
    | ⟨1, _⟩ => show 0 * 1024 + k.val = k.val; omega
  rw [e, norm_in]
  exact second_apply _ _

theorem block2 (c : Dev nD) (t : Fin cfg0.N) (k : Fin 1024) (q : Fin 384) (C : Fin 1152) (hC : C.val = t.val % 3 * 384 + q.val) :
    (iblk m c 2 t : S1024x384.Idx → EReal) (ix2 k q) = (m ((c : Thread nD τ).loc main_arg2) : S1024x1152.Idx → EReal) (ix2 k C) := by
  refine Eq.trans ?_ (congrFun (V_main_arg2 m c) _)
  refine congrArg (V m c main_arg2 : S1024x1152.Idx → EReal) (funext fun a => Fin.ext ?_)
  refine (Pipeline.Window.rect_emb_val (cfg0.win 2) t (ix2 k q) a rfl).trans ?_
  show cc0_transform_2 (grid0.coords t) a * _ + _ = _
  rw [at2]
  match a with
  | ⟨0, _⟩ => show 0 * 1024 + k.val = k.val; omega
  | ⟨1, _⟩ => exact hC.symm

theorem scratch_A (c : Dev nD) (t : Fin cfg0.N) (h0 : t.val % 3 = 0) :
    (outsAt0 m c t.val t.isLt).2 = k0_pay1 (F := Ideal) (iblk m c 0 t) (iblk m c 1 t) := by
  rw [outsAt0_A m c t h0]
  dsimp only
  exact sout_A ..
theorem scratch_B (c : Dev nD) (t : Fin cfg0.N) (h0 : ¬t.val % 3 = 0) :
    (outsAt0 m c t.val t.isLt).2 = (outsAt0 m c (t.val - 1) (Nat.lt_of_le_of_lt (Nat.sub_le _ _) t.isLt)).2 := by
  rw [outsAt0_B m c t h0]
  rfl
theorem result_A (c : Dev nD) (t : Fin cfg0.N) (h0 : t.val % 3 = 0) :
    (outsAt0 m c t.val t.isLt).1 = k0_pay2 (F := Ideal) (k0_pay1 (F := Ideal) (iblk m c 0 t) (iblk m c 1 t)) (iblk m c 2 t) := by
  rw [outsAt0_A m c t h0]
  dsimp only
  exact out_A ..
theorem result_B (c : Dev nD) (t : Fin cfg0.N) (h0 : ¬t.val % 3 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]
  dsimp only
  exact out_B ..

/-- The rows the scratch is filled with at a point. -/
theorem filled (c : Dev nD) (t : Fin cfg0.N) (r k : Fin 1024) (R : Fin 16384) (hR : R.val = t.val / 3 * 1024 + r.val) :
    k0_pay1 (F := Ideal) (iblk m c 0 t) (iblk m c 1 t) (ix2 r k) = normed (fun q => (m ((c : Thread nD τ).loc main_arg0) : S16384x1024.Idx → EReal) (ix2 R q)) (fun q => (m ((c : Thread nD τ).loc main_arg1) : S2x1024.Idx → EReal) (ix2 1 q)) k :=
  (pay1_apply _ _ _ _).trans (congrArg₂ (fun a b => normed a b k) (funext fun q => block0 m c t r q R hR) (funext fun q => block1 m c t q))

/-- After every point the scratch holds the rows of the point's block of rows. -/
theorem held (c : Dev nD) : ∀ (n : ℕ) (hn : n < cfg0.N) (r : Fin 1024) (k : Fin 1024) (R : Fin 16384), R.val = n / 3 * 1024 + r.val →
    (outsAt0 m c n hn).2 (ix2 r k) = normed (fun q => (m ((c : Thread nD τ).loc main_arg0) : S16384x1024.Idx → EReal) (ix2 R q)) (fun q => (m ((c : Thread nD τ).loc main_arg1) : S2x1024.Idx → EReal) (ix2 1 q)) k := by
  intro n
  induction n with
  | zero =>
    intro hn r k R hR
    exact (congrFun (scratch_A m c ⟨0, hn⟩ (Nat.zero_mod _)) _).trans (filled m c ⟨0, hn⟩ r k R hR)
  | succ n ih =>
    intro hn r k R hR
    by_cases h0 : (n + 1) % 3 = 0
    · exact (congrFun (scratch_A m c ⟨n + 1, hn⟩ h0) _).trans (filled m c ⟨n + 1, hn⟩ r k R hR)
    · exact (congrFun (scratch_B m c ⟨n + 1, hn⟩ h0) _).trans (ih (Nat.lt_of_succ_lt hn) r k R (by omega))

/-- What a point leaves in the result's block is the result there. -/
theorem left_apply (c : Dev nD) (t : Fin cfg0.N) (r : Fin 1024) (q : Fin 384) (R : Fin 16384) (C : Fin 1152) (hR : R.val = t.val / 3 * 1024 + r.val) (hC : C.val = t.val % 3 * 384 + q.val) :
    (outsAt0 m c t.val t.isLt).1 (ix2 r q) = dot (normed (fun q => (m ((c : Thread nD τ).loc main_arg0) : S16384x1024.Idx → EReal) (ix2 R q)) (fun q => (m ((c : Thread nD τ).loc main_arg1) : S2x1024.Idx → EReal) (ix2 1 q))) (fun k => (m ((c : Thread nD τ).loc main_arg2) : S1024x1152.Idx → EReal) (ix2 k C)) := by
  have key : ∀ s : FVec Ideal S1024x1024 .bf16, (∀ k, s (ix2 r k) = normed (fun q => (m ((c : Thread nD τ).loc main_arg0) : S16384x1024.Idx → EReal) (ix2 R q)) (fun q => (m ((c : Thread nD τ).loc main_arg1) : S2x1024.Idx → EReal) (ix2 1 q)) k) →
      k0_pay2 (F := Ideal) s (iblk m c 2 t) (ix2 r q) = dot (normed (fun q => (m ((c : Thread nD τ).loc main_arg0) : S16384x1024.Idx → EReal) (ix2 R q)) (fun q => (m ((c : Thread nD τ).loc main_arg1) : S2x1024.Idx → EReal) (ix2 1 q))) (fun k => (m ((c : Thread nD τ).loc main_arg2) : S1024x1152.Idx → EReal) (ix2 k C)) := fun s hs => by
    exact (pay2_apply _ _ _ _).trans (congrArg₂ dot (funext hs) (funext fun k => block2 m c t k q C hC))
  by_cases h0 : t.val % 3 = 0
  · exact (congrFun (result_A m c t h0) _).trans (key _ fun k => filled m c t r k R hR)
  · exact (congrFun (result_B m c t h0) _).trans (key _ fun k => held m c (t.val - 1) _ r k R (by omega))

/-- The result, as the reference's last value of the arguments. -/
def resultOf (c : Dev nD) : S16384x1152.Idx → EReal :=
  Cert.Reference8Ideal.Read.val_main_v15 (F := Ideal) (m ((c : Thread nD τ).loc main_arg0)) (m ((c : Thread nD τ).loc main_arg1)) (m ((c : Thread nD τ).loc main_arg2))

theorem final (c : Dev nD) : (dats m 0 c).arrAt 3 cfg0.N = resultOf m c := by
  refine (dats m 0 c).arrAt_eq_of_covers 3 (resultOf m c) (by decide +kernel) fun t hf y => ?_
  have hy0 : (y 0).val < 1024 := (y 0).isLt
  have hy1 : (y 1).val < 384 := (y 1).isLt
  have ht : t.val < 48 := lt_of_lt_of_eq t.isLt N_0
  have hR : t.val / 3 * 1024 + (y 0).val < 16384 := by omega
  have hC : t.val % 3 * 384 + (y 1).val < 1152 := by omega
  have ei : ((cfg0.win 3).blk t).view.emb y = ix2 (⟨_, hR⟩ : Fin 16384) (⟨_, hC⟩ : Fin 1152) := by
    refine funext fun a => Fin.ext ?_
    refine (Pipeline.Window.rect_emb_val (cfg0.win 3) t y a rfl).trans ?_
    show cc0_transform_3 (grid0.coords t) a * _ + _ = _
    rw [at3]
    match a with
    | ⟨0, _⟩ => rfl
    | ⟨1, _⟩ => rfl
  have ey : (cfg0.win 3).xinj (grid0.coords t) y = ix2 (⟨_, hy0⟩ : Fin 1024) (⟨_, hy1⟩ : Fin 384) := by
    refine funext fun a => ?_
    match a with
    | ⟨0, _⟩ => rfl
    | ⟨1, _⟩ => rfl
  have ef : (dats m 0 c).after 3 t ((cfg0.win 3).xinj (grid0.coords t) y) = (outsAt0 m c t.val t.isLt).1 (ix2 (⟨_, hy0⟩ : Fin 1024) (⟨_, hy1⟩ : Fin 384)) := by
    rw [after0_3, ey]
  refine Eq.trans ef (((left_apply m c t _ _ ⟨_, hR⟩ ⟨_, hC⟩ rfl rfl).trans ?_).trans (congrArg (resultOf m c) ei.symm))
  exact (ref_apply _ _ _ _ _).symm

end Cert.Kernel8Ideal.Proj

namespace Cert.Proof

open Idealize.ShloMosaic Idealize.ShloMosaic.TcCoe Idealize.SL.Sem

theorem proj_algebraic : Cert.algebraic_Kernel8Ideal_Reference8Ideal := fun m g m' g' _ hagree => by
  refine ⟨fun c => Cert.Kernel8Ideal.Proj.resultOf m c, ?_, ?_⟩
  · refine (θ_run _ _ _).mono (fun r hr c => ?_) (Cert.Kernel8Ideal.Value.run_blocks (F := Ideal) m g)
    exact ⟨(hr c).1.trans (Cert.Kernel8Ideal.Proj.final m c), (hr c).2⟩
  · refine (θ_run _ _ _).mono (fun r hr c => ?_) (Cert.Reference8Ideal.Value.run (F := Ideal) m' g')
    obtain ⟨h0, h1, h2⟩ := hagree c
    obtain rfl : c = 0 := Subsingleton.elim _ _
    refine ⟨(hr 0).1.trans ?_, (hr 0).2⟩
    rw [h0, h1, h2]
    rfl

theorem proj_ref_frame : Cert.quiescent_Reference8Ideal := fun m g _ =>
  (θ_run _ _ _).mono (fun r hr => ⟨fun c => (hr c).2, sem_eq_zero_of_no_sems (by decide) r.2⟩) (Cert.Reference8Ideal.Value.run (F := Ideal) m g)

end Cert.Proof

end
-- ==== Proof.Out1.lean ====
/- The projection out of the convolution module: the rows' products with the weights' columns, the bias and the row itself added. -/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.RowsMath
public import proofs.«01_k».proof.Defs
public import Idealize.ShloMosaic.Lib.Pipeline.ValueKit
public import Idealize.ShloMosaic.Lib.VecWindow
public import Idealize.ShloMosaic.Lib.Pointwise
public import Idealize.ShloMosaic.Lib.Claim

@[expose] public section

set_option maxRecDepth 16384

noncomputable section

namespace Cert.Kernel7Ideal.Out1

open Cert.Kernel7Ideal Cert.Kernel7Ideal.Gen Cert.Rows
open Idealize.ShloMosaic Idealize.ShloMosaic.TcCoe Idealize.SL.Sem

/-- One block of the result. -/
theorem out_apply (x : FVec Ideal S1024x1024 .bf16) (w : FVec Ideal S1024x512 .f32) (b : FVec Ideal S1x512 .f32) (d : FVec Ideal S1024x512 .f32) (r : Fin 1024) (q : Fin 512) :
    out0_4 (F := Ideal) x w b d (ix2 r q) = dot (fun k => x (ix2 r k)) (fun k => w (ix2 k q)) + b (ix2 0 q) + d (ix2 r q) := by
  unfold out0_4
  frame_out
  unfold k0_pay1 dot
  pointwise

theorem drop_apply (w : FVec Ideal S1x1024x1024 .f32) (k C : Fin 1024) :
    shapeCast S1024x1024 w shapeCasts_S1x1024x1024_S1024x1024 (ix2 k C) = w (ix3 0 k C) := by
  pointwise

theorem bias_apply (b : FVec Ideal S1x1024 .f32) (C : Fin 1024) :
    shapeCast S1x1024 (shapeCast S1024 b shapeCasts_S1x1024_S1024) shapeCasts_S1024_S1x1024 (ix2 0 C) = b (ix2 0 C) := by
  pointwise

/-- An element of the result, from the arguments. -/
def elemOf (d : FVec Ideal S16384x1024 .f32) (x : FVec Ideal S16384x1024 .bf16) (w : FVec Ideal S1x1024x1024 .f32) (b : FVec Ideal S1x1024 .f32) (R : Fin 16384) (C : Fin 1024) : EReal :=
  d (ix2 R C) + (dot (fun k => x (ix2 R k)) (fun k => w (ix3 0 k C)) + b (ix2 0 C))

/-- The reference at an element. -/
theorem ref_apply (d : FVec Ideal S16384x1024 .f32) (x : FVec Ideal S16384x1024 .bf16) (w : FVec Ideal S1x1024x1024 .f32) (b : FVec Ideal S1x1024 .f32) (R : Fin 16384) (C : Fin 1024) :
    Cert.Reference7Ideal.Read.val_main_v7 (F := Ideal) d x w b (ix2 R C) = elemOf d x w b R C := by
  rw [← Cert.Reference7Ideal.Read.val_main_v7_eq]
  unfold elemOf dot
  pointwise

variable (m : (ℓ : Loc nD τ sig) → Buf (Elt Ideal) ℓ)

theorem at0 : ∀ t : Fin grid0.N, cc0_transform_0 (grid0.coords t) = ![t.val / 2, 0] := by decide +kernel
theorem at1 : ∀ t : Fin grid0.N, cc0_transform_1 (grid0.coords t) = ![0, t.val % 2] := by decide +kernel
theorem at2 : ∀ t : Fin grid0.N, cc0_transform_2 (grid0.coords t) = ![0, t.val % 2] := by decide +kernel
theorem at3 : ∀ t : Fin grid0.N, cc0_transform_3 (grid0.coords t) = ![t.val / 2, t.val % 2] := by decide +kernel
theorem at4 : ∀ t : Fin grid0.N, cc0_transform_4 (grid0.coords t) = ![t.val / 2, t.val % 2] := by decide +kernel

theorem weights (c : Dev nD) : (V m c main_v0 : S1024x1024.Idx → EReal) = shapeCast S1024x1024 (m ((c : Thread nD τ).loc main_arg2) : S1x1024x1024.Idx → EReal) shapeCasts_S1x1024x1024_S1024x1024 := by
  show StableHlo.after hostOps0 _ (Proc.devRef .tc main_v0) = _
  after_results
  rfl

theorem bias (c : Dev nD) : (V m c main_v2 : S1x1024.Idx → EReal) = shapeCast S1x1024 (shapeCast S1024 (m ((c : Thread nD τ).loc main_arg3) : S1x1024.Idx → EReal) shapeCasts_S1x1024_S1024) shapeCasts_S1024_S1x1024 := by
  show StableHlo.after hostOps0 _ (Proc.devRef .tc main_v2) = _
  after_results
  rfl

theorem block0 (c : Dev nD) (t : Fin cfg0.N) (r k : Fin 1024) (R : Fin 16384) (hR : R.val = t.val / 2 * 1024 + r.val) :
    (iblk m c 0 t : S1024x1024.Idx → EReal) (ix2 r k) = (m ((c : Thread nD τ).loc main_arg1) : S16384x1024.Idx → EReal) (ix2 R k) := by
  refine Eq.trans ?_ (congrFun (V_main_arg1 m c) _)
  refine congrArg (V m c main_arg1 : S16384x1024.Idx → EReal) (funext fun a => Fin.ext ?_)
  refine (Pipeline.Window.rect_emb_val (cfg0.win 0) t (ix2 r k) a rfl).trans ?_
  show cc0_transform_0 (grid0.coords t) a * _ + _ = _
  rw [at0]
  match a with
  | ⟨0, _⟩ => exact hR.symm
  | ⟨1, _⟩ => show 0 * 1024 + k.val = k.val; omega

theorem block1 (c : Dev nD) (t : Fin cfg0.N) (k : Fin 1024) (q : Fin 512) (C : Fin 1024) (hC : C.val = t.val % 2 * 512 + q.val) :
    (iblk m c 1 t : S1024x512.Idx → EReal) (ix2 k q) = (m ((c : Thread nD τ).loc main_arg2) : S1x1024x1024.Idx → EReal) (ix3 0 k C) := by
  have e : (iblk m c 1 t : S1024x512.Idx → EReal) (ix2 k q) = (V m c main_v0 : S1024x1024.Idx → EReal) (ix2 k C) := by
    refine congrArg (V m c main_v0 : S1024x1024.Idx → EReal) (funext fun a => Fin.ext ?_)
    refine (Pipeline.Window.rect_emb_val (cfg0.win 1) t (ix2 k q) a rfl).trans ?_
    show cc0_transform_1 (grid0.coords t) a * _ + _ = _
    rw [at1]
    match a with
    | ⟨0, _⟩ => show 0 * 1024 + k.val = k.val; omega
    | ⟨1, _⟩ => exact hC.symm
  rw [e, weights]
  exact drop_apply _ _ _

theorem block2 (c : Dev nD) (t : Fin cfg0.N) (q : Fin 512) (C : Fin 1024) (hC : C.val = t.val % 2 * 512 + q.val) :
    (iblk m c 2 t : S1x512.Idx → EReal) (ix2 0 q) = (m ((c : Thread nD τ).loc main_arg3) : S1x1024.Idx → EReal) (ix2 0 C) := by
  have e : (iblk m c 2 t : S1x512.Idx → EReal) (ix2 0 q) = (V m c main_v2 : S1x1024.Idx → EReal) (ix2 0 C) := by
    refine congrArg (V m c main_v2 : S1x1024.Idx → EReal) (funext fun a => Fin.ext ?_)
    refine (Pipeline.Window.rect_emb_val (cfg0.win 2) t (ix2 0 q) a rfl).trans ?_
    show cc0_transform_2 (grid0.coords t) a * _ + _ = _
    rw [at2]
    match a with
    | ⟨0, _⟩ => rfl
    | ⟨1, _⟩ => exact hC.symm
  rw [e, bias]
  exact bias_apply _ _

theorem block3 (c : Dev nD) (t : Fin cfg0.N) (r : Fin 1024) (q : Fin 512) (R : Fin 16384) (C : Fin 1024) (hR : R.val = t.val / 2 * 1024 + r.val) (hC : C.val = t.val % 2 * 512 + q.val) :
    (iblk m c 3 t : S1024x512.Idx → EReal) (ix2 r q) = (m ((c : Thread nD τ).loc main_arg0) : S16384x1024.Idx → EReal) (ix2 R C) := by
  refine Eq.trans ?_ (congrFun (V_main_arg0 m c) _)
  refine congrArg (V m c main_arg0 : S16384x1024.Idx → EReal) (funext fun a => Fin.ext ?_)
  refine (Pipeline.Window.rect_emb_val (cfg0.win 3) t (ix2 r q) a rfl).trans ?_
  show cc0_transform_3 (grid0.coords t) a * _ + _ = _
  rw [at3]
  match a with
  | ⟨0, _⟩ => exact hR.symm
  | ⟨1, _⟩ => exact hC.symm

/-- The result, as the reference's last value of the arguments. -/
def resultOf (c : Dev nD) : S16384x1024.Idx → EReal :=
  Cert.Reference7Ideal.Read.val_main_v7 (F := Ideal) (m ((c : Thread nD τ).loc main_arg0)) (m ((c : Thread nD τ).loc main_arg1)) (m ((c : Thread nD τ).loc main_arg2)) (m ((c : Thread nD τ).loc main_arg3))

/-- What a point leaves in the result's block is the result there. -/
theorem left_apply (c : Dev nD) (t : Fin cfg0.N) (r : Fin 1024) (q : Fin 512) (R : Fin 16384) (C : Fin 1024) (hR : R.val = t.val / 2 * 1024 + r.val) (hC : C.val = t.val % 2 * 512 + q.val) :
    out0_4 (F := Ideal) (iblk m c 0 t) (iblk m c 1 t) (iblk m c 2 t) (iblk m c 3 t) (ix2 r q) = elemOf (m ((c : Thread nD τ).loc main_arg0)) (m ((c : Thread nD τ).loc main_arg1)) (m ((c : Thread nD τ).loc main_arg2)) (m ((c : Thread nD τ).loc main_arg3)) R C := by
  refine (out_apply _ _ _ _ _ _).trans ?_
  rw [add_comm]
  exact congrArg₂ (· + ·) (block3 m c t r q R C hR hC) (congrArg₂ (· + ·) (congrArg₂ dot (funext fun k => block0 m c t r k R hR) (funext fun k => block1 m c t k q C hC)) (block2 m c t q C hC))

theorem final (c : Dev nD) : (dats m 0 c).arrAt 4 cfg0.N = resultOf m c := by
  refine (dats m 0 c).arrAt_eq_of_covers 4 (resultOf m c) (by decide +kernel) fun t hf y => ?_
  have hy0 : (y 0).val < 1024 := (y 0).isLt
  have hy1 : (y 1).val < 512 := (y 1).isLt
  have ht : t.val < 32 := lt_of_lt_of_eq t.isLt N_0
  have hR : t.val / 2 * 1024 + (y 0).val < 16384 := by omega
  have hC : t.val % 2 * 512 + (y 1).val < 1024 := by omega
  have ei : ((cfg0.win 4).blk t).view.emb y = ix2 (⟨_, hR⟩ : Fin 16384) (⟨_, hC⟩ : Fin 1024) := by
    refine funext fun a => Fin.ext ?_
    refine (Pipeline.Window.rect_emb_val (cfg0.win 4) t y a rfl).trans ?_
    show cc0_transform_4 (grid0.coords t) a * _ + _ = _
    rw [at4]
    match a with
    | ⟨0, _⟩ => rfl
    | ⟨1, _⟩ => rfl
  have ey : (cfg0.win 4).xinj (grid0.coords t) y = ix2 (⟨_, hy0⟩ : Fin 1024) (⟨_, hy1⟩ : Fin 512) := by
    refine funext fun a => ?_
    match a with
    | ⟨0, _⟩ => rfl
    | ⟨1, _⟩ => rfl
  have ef : (dats m 0 c).after 4 t ((cfg0.win 4).xinj (grid0.coords t) y) = out0_4 (F := Ideal) (iblk m c 0 t) (iblk m c 1 t) (iblk m c 2 t) (iblk m c 3 t) (ix2 (⟨_, hy0⟩ : Fin 1024) (⟨_, hy1⟩ : Fin 512)) := by
    rw [after0_4, ey]
  refine Eq.trans ef (((left_apply m c t _ _ ⟨_, hR⟩ ⟨_, hC⟩ rfl rfl).trans ?_).trans (congrArg (resultOf m c) ei.symm))
  exact (ref_apply _ _ _ _ _ _).symm

end Cert.Kernel7Ideal.Out1

namespace Cert.Proof

open Idealize.ShloMosaic Idealize.ShloMosaic.TcCoe Idealize.SL.Sem

theorem out1_algebraic : Cert.algebraic_Kernel7Ideal_Reference7Ideal := fun m g m' g' _ hagree => by
  refine ⟨fun c => Cert.Kernel7Ideal.Out1.resultOf m c, ?_, ?_⟩
  · refine (θ_run _ _ _).mono (fun r hr c => ?_) (Cert.Kernel7Ideal.Value.run_blocks (F := Ideal) m g)
    exact ⟨(hr c).1.trans (Cert.Kernel7Ideal.Out1.final m c), (hr c).2⟩
  · refine (θ_run _ _ _).mono (fun r hr c => ?_) (Cert.Reference7Ideal.Value.run (F := Ideal) m' g')
    obtain ⟨h0, h1, h2, h3⟩ := hagree c
    obtain rfl : c = 0 := Subsingleton.elim _ _
    refine ⟨(hr 0).1.trans ?_, (hr 0).2⟩
    rw [h0, h1, h2, h3]
    rfl

theorem out1_ref_frame : Cert.quiescent_Reference7Ideal := fun m g _ =>
  (θ_run _ _ _).mono (fun r hr => ⟨fun c => (hr c).2, sem_eq_zero_of_no_sems (by decide) r.2⟩) (Cert.Reference7Ideal.Value.run (F := Ideal) m g)

end Cert.Proof

end
-- ==== Proof.GluNew.lean ====
/- The same layer on the new rows of the sample group: what the next call finds as its convolution state, a full result
   of the layer, is the kept rows of the old state followed by the new gated rows. -/
module

public import proofs.«01_k».proof.Proof.Gen.Kernel4Ideal.Frame
public import proofs.«01_k».proof.Proof.Gen.Reference4Ideal.Run
public import proofs.«01_k».proof.Proof.Gen.Reference4Ideal.Read
public import proofs.«01_k».proof.Proof.RowsMath
public import proofs.«01_k».proof.Defs
public import Idealize.ShloMosaic.Lib.Pipeline.ValueKit
public import Idealize.ShloMosaic.Lib.VecWindow
public import Idealize.ShloMosaic.Lib.Pointwise
public import Idealize.ShloMosaic.Lib.Claim

@[expose] public section

set_option maxRecDepth 16384

noncomputable section

namespace Cert.Kernel4Ideal.GluNew

open Cert.Kernel4Ideal Cert.Kernel4Ideal.Gen Cert.Rows
open Idealize.ShloMosaic Idealize.ShloMosaic.TcCoe Idealize.SL.Sem

/-- The rows kept in the scratch: normalised. -/
theorem pay1_apply (x : FVec Ideal S128x1024 .f32) (g : FVec Ideal S1x1024 .f32) (r : Fin 128) (k : Fin 1024) :
    k0_pay1 (F := Ideal) x g (ix2 r k) = normed (fun q => x (ix2 r q)) (fun q => g (ix2 0 q)) k := by
  unfold k0_pay1 normed
  pointwise

/-- One block of the gated product. -/
theorem pay2_apply (x : FVec Ideal S128x1024 .bf16) (w v : FVec Ideal S1024x512 .f32) (b d : FVec Ideal S1x512 .f32) (r : Fin 128) (k : Fin 512) :
    k0_pay2 (F := Ideal) x w v b d (ix2 r k) = (dot (fun q => x (ix2 r q)) (fun q => w (ix2 q k)) + b (ix2 0 k))
      * sigm (dot (fun q => x (ix2 r q)) (fun q => v (ix2 q k)) + d (ix2 0 k)) := by
  unfold k0_pay2 sigm dot
  pointwise
  simp only [zero_sub]

section Paths
variable (c : Dev nD) (i : grid0.Coords) (arg2 : Memref sig .tc .vmem S128x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1024 .bf16) (harg9 : arg9.IsWhole)
  (x0 : Vec Ideal S128x1024 .f32) (x1 : Vec Ideal S1x1024 .f32) (x2 x3 : Vec Ideal S1024x512 .f32) (x4 x5 : Vec Ideal S1x512 .f32) (xs0 : Vec Ideal S128x1024 .bf16)

/-- At the first block of columns the scratch is filled, and the result is computed from it. -/
theorem out_A (h) : out0_A_6 (F := Ideal) c i arg2 harg2 arg3 harg3 arg4 harg4 arg5 harg5 arg6 harg6 arg7 harg7 arg8 harg8 arg9 harg9 h x0 x1 x2 x3 x4 x5 = k0_pay2 (F := Ideal) (k0_pay1 (F := Ideal) x0 x1) x2 x3 x4 x5 := by
  unfold out0_A_6
  rw [View.read_writes_eq_canon _ _ _ (cover0_A_6 (F := Ideal) c i arg2 harg2 arg3 harg3 arg4 harg4 arg5 harg5 arg6 harg6 arg7 harg7 arg8 harg8 arg9 harg9 h x0 x1 x2 x3 x4 x5)]
  unfold kernelRun0_A
  dsimp only
  frame_out

theorem sout_A (h) : sout0_A_0 (F := Ideal) c i arg2 harg2 arg3 harg3 arg4 harg4 arg5 harg5 arg6 harg6 arg7 harg7 arg8 harg8 arg9 harg9 h x0 x1 x2 x3 x4 x5 = k0_pay1 (F := Ideal) x0 x1 := by
  unfold sout0_A_0
  rw [View.read_writes_eq_canon _ _ _ (scover0_A_0 (F := Ideal) c i arg2 harg2 arg3 harg3 arg4 harg4 arg5 harg5 arg6 harg6 arg7 harg7 arg8 harg8 arg9 harg9 h x0 x1 x2 x3 x4 x5)]
  unfold kernelRun0_A
  dsimp only
  frame_out

/-- At the other block the result is computed from the scratch as it was left. -/
theorem out_B (h) : out0_B_6 (F := Ideal) c i arg2 harg2 arg3 harg3 arg4 harg4 arg5 harg5 arg6 harg6 arg7 harg7 arg8 harg8 arg9 harg9 h x0 x1 x2 x3 x4 x5 xs0 = k0_pay2 (F := Ideal) xs0 x2 x3 x4 x5 := by
  unfold out0_B_6
  rw [View.read_writes_eq_canon _ _ _ (cover0_B_6 (F := Ideal) c i arg2 harg2 arg3 harg3 arg4 harg4 arg5 harg5 arg6 harg6 arg7 harg7 arg8 harg8 arg9 harg9 h x0 x1 x2 x3 x4 x5 xs0)]
  unfold kernelRun0_B
  dsimp only
  frame_out
end Paths

/-- An element of the gated product, from the four arguments. -/
def elemOf (x : FVec Ideal S32x4x1024 .f32) (g : FVec Ideal S2x1024 .f32) (w : FVec Ideal S1x1024x2048 .f32) (b : FVec Ideal S1x2048 .f32) (R : Fin 128) (C : Fin 1024) : EReal :=
  glu (fun q => x (ix3 (⟨R.val / 4, by omega⟩ : Fin 32) (⟨R.val % 4, by omega⟩ : Fin 4) q)) (fun q => g (ix2 0 q)) (fun q D => w (ix3 0 q D)) (fun D => b (ix2 0 D)) C

theorem drop_apply (w : FVec Ideal S1x1024x2048 .f32) (k : Fin 1024) (C : Fin 2048) :
    shapeCast S1024x2048 w shapeCasts_S1x1024x2048_S1024x2048 (ix2 k C) = w (ix3 0 k C) := by
  pointwise

theorem bias_apply (b : FVec Ideal S1x2048 .f32) (C : Fin 2048) :
    shapeCast S1x2048 (shapeCast S2048 b shapeCasts_S1x2048_S2048) shapeCasts_S2048_S1x2048 (ix2 0 C) = b (ix2 0 C) := by
  pointwise

theorem first_apply (g : FVec Ideal S2x1024 .f32) (k : Fin 1024) :
    shapeCast S1x1024 (shapeCast S1024 (extractStridedSlice S1x1024 ![0, 0] g slices_S2x1024_S1x1024_0_0) shapeCasts_S1x1024_S1024) shapeCasts_S1024_S1x1024 (ix2 0 k) = g (ix2 0 k) := by
  pointwise

theorem rows_apply (x : FVec Ideal S32x4x1024 .f32) (R : Fin 128) (k : Fin 1024) :
    shapeCast S128x1024 x shapeCasts_S32x4x1024_S128x1024 (ix2 R k) = x (ix3 (⟨R.val / 4, by omega⟩ : Fin 32) (⟨R.val % 4, by omega⟩ : Fin 4) k) := by
  pointwise

theorem back_apply (y : FVec Ideal S128x1024 .f32) (b : Fin 32) (s : Fin 4) (k : Fin 1024) :
    shapeCast S32x4x1024 y shapeCasts_S128x1024_S32x4x1024 (ix3 b s k) = y (ix2 (⟨b.val * 4 + s.val, by omega⟩ : Fin 128) k) := by
  pointwise

/-- The product's element, by group and row. -/
theorem elem_at (x : FVec Ideal S32x4x1024 .f32) (g : FVec Ideal S2x1024 .f32) (w : FVec Ideal S1x1024x2048 .f32) (d : FVec Ideal S1x2048 .f32) (b : Fin 32) (s : Fin 4) (C : Fin 1024) :
    elemOf x g w d (⟨b.val * 4 + s.val, by omega⟩ : Fin 128) C = glu (fun q => x (ix3 b s q)) (fun q => g (ix2 0 q)) (fun q D => w (ix3 0 q D)) (fun D => d (ix2 0 D)) C := by
  unfold elemOf
  have e1 : (⟨(b.val * 4 + s.val) / 4, by omega⟩ : Fin 32) = b := Fin.ext (by show (b.val * 4 + s.val) / 4 = b.val; omega)
  have e2 : (⟨(b.val * 4 + s.val) % 4, by omega⟩ : Fin 4) = s := Fin.ext (by show (b.val * 4 + s.val) % 4 = s.val; omega)
  rw [e1, e2]

/-- The reference at an element. -/
theorem ref_apply (x : FVec Ideal S32x4x1024 .f32) (g : FVec Ideal S2x1024 .f32) (w : FVec Ideal S1x1024x2048 .f32) (d : FVec Ideal S1x2048 .f32) (b : Fin 32) (s : Fin 4) (C : Fin 1024) :
    Cert.Reference4Ideal.Read.val_main_v29 (F := Ideal) x g w d (ix3 b s C) = glu (fun q => x (ix3 b s q)) (fun q => g (ix2 0 q)) (fun q D => w (ix3 0 q D)) (fun D => d (ix2 0 D)) C := by
  unfold Cert.Reference4Ideal.Read.val_main_v29 Cert.Reference4Ideal.Read.val_main_v28 Cert.Reference4Ideal.Read.val_main_v27 Cert.Reference4Ideal.Read.val_main_cst_3 Cert.Reference4Ideal.Read.val_main_v26 Cert.Reference4Ideal.Read.val_main_v25 Cert.Reference4Ideal.Read.val_main_cst_2 Cert.Reference4Ideal.Read.val_main_v24 Cert.Reference4Ideal.Read.val_main_v23 Cert.Reference4Ideal.Read.val_main_v22 Cert.Reference4Ideal.Read.val_main_v21 Cert.Reference4Ideal.Read.val_main_v20 Cert.Reference4Ideal.Read.val_main_v19 Cert.Reference4Ideal.Read.val_main_v18 Cert.Reference4Ideal.Read.val_main_v17 Cert.Reference4Ideal.Read.val_main_v16 Cert.Reference4Ideal.Read.val_main_v15 Cert.Reference4Ideal.Read.val_main_v14 Cert.Reference4Ideal.Read.val_main_v13 Cert.Reference4Ideal.Read.val_main_v12 Cert.Reference4Ideal.Read.val_main_v11 Cert.Reference4Ideal.Read.val_main_v10 Cert.Reference4Ideal.Read.val_main_v9 Cert.Reference4Ideal.Read.val_main_v8 Cert.Reference4Ideal.Read.val_main_v7 Cert.Reference4Ideal.Read.val_main_cst_1 Cert.Reference4Ideal.Read.val_main_v6 Cert.Reference4Ideal.Read.val_main_v5 Cert.Reference4Ideal.Read.val_main_cst_0 Cert.Reference4Ideal.Read.val_main_v4 Cert.Reference4Ideal.Read.val_main_v3 Cert.Reference4Ideal.Read.val_main_cst Cert.Reference4Ideal.Read.val_main_v2 Cert.Reference4Ideal.Read.val_main_v1 Cert.Reference4Ideal.Read.val_main_v0
  unfold glu normed sigm dot
  pointwise

variable (m : (ℓ : Loc nD τ sig) → Buf (Elt Ideal) ℓ)

theorem at0 : ∀ t : Fin grid0.N, cc0_transform_0 (grid0.coords t) = ![t.val / 2, 0] := by decide +kernel
theorem at1 : ∀ t : Fin grid0.N, cc0_transform_1 (grid0.coords t) = ![0, 0] := by decide +kernel
theorem at2 : ∀ t : Fin grid0.N, cc0_transform_2 (grid0.coords t) = ![0, t.val % 2] := by decide +kernel
theorem at3 : ∀ t : Fin grid0.N, cc0_transform_3 (grid0.coords t) = ![0, t.val % 2 + 2] := by decide +kernel
theorem at4 : ∀ t : Fin grid0.N, cc0_transform_4 (grid0.coords t) = ![0, t.val % 2] := by decide +kernel
theorem at5 : ∀ t : Fin grid0.N, cc0_transform_5 (grid0.coords t) = ![0, t.val % 2 + 2] := by decide +kernel
theorem at6 : ∀ t : Fin grid0.N, cc0_transform_6 (grid0.coords t) = ![t.val / 2, t.val % 2] := by decide +kernel

/-- The rows, the weights, the norm's row and the biases at the region's entry. -/
theorem rows_in (c : Dev nD) : (V m c main_v0 : S128x1024.Idx → EReal)
    = shapeCast S128x1024 (m ((c : Thread nD τ).loc main_arg0) : S32x4x1024.Idx → EReal) shapeCasts_S32x4x1024_S128x1024 := by
  show StableHlo.after hostOps0 _ (Proc.devRef .tc main_v0) = _
  after_results
  rfl
theorem weights_in (c : Dev nD) : (V m c main_v1 : S1024x2048.Idx → EReal)
    = shapeCast S1024x2048 (m ((c : Thread nD τ).loc main_arg2) : S1x1024x2048.Idx → EReal) shapeCasts_S1x1024x2048_S1024x2048 := by
  show StableHlo.after hostOps0 _ (Proc.devRef .tc main_v1) = _
  after_results
  rfl
theorem norm_in (c : Dev nD) : (V m c main_v5 : S1x1024.Idx → EReal)
    = shapeCast S1x1024 (shapeCast S1024 (extractStridedSlice S1x1024 ![0, 0] (m ((c : Thread nD τ).loc main_arg1) : S2x1024.Idx → EReal) slices_S2x1024_S1x1024_0_0) shapeCasts_S1x1024_S1024) shapeCasts_S1024_S1x1024 := by
  show StableHlo.after hostOps0 _ (Proc.devRef .tc main_v5) = _
  after_results
  rfl
theorem bias_in (c : Dev nD) : (V m c main_v6 : S1x2048.Idx → EReal)
    = shapeCast S1x2048 (shapeCast S2048 (m ((c : Thread nD τ).loc main_arg3) : S1x2048.Idx → EReal) shapeCasts_S1x2048_S2048) shapeCasts_S2048_S1x2048 := by
  show StableHlo.after hostOps0 _ (Proc.devRef .tc main_v6) = _
  after_results
  rfl
theorem bias'_in (c : Dev nD) : (V m c main_v7 : S1x2048.Idx → EReal)
    = shapeCast S1x2048 (shapeCast S2048 (m ((c : Thread nD τ).loc main_arg3) : S1x2048.Idx → EReal) shapeCasts_S1x2048_S2048) shapeCasts_S2048_S1x2048 := by
  show StableHlo.after hostOps0 _ (Proc.devRef .tc main_v7) = _
  after_results
  rfl

theorem block0 (c : Dev nD) (t : Fin cfg0.N) (r : Fin 128) (k : Fin 1024) (R : Fin 128) (hR : R.val = t.val / 2 * 128 + r.val) :
    (iblk m c 0 t : S128x1024.Idx → EReal) (ix2 r k) = (m ((c : Thread nD τ).loc main_arg0) : S32x4x1024.Idx → EReal) (ix3 (⟨R.val / 4, by omega⟩ : Fin 32) (⟨R.val % 4, by omega⟩ : Fin 4) k) := by
  have e : (iblk m c 0 t : S128x1024.Idx → EReal) (ix2 r k) = (V m c main_v0 : S128x1024.Idx → EReal) (ix2 R k) := by
    refine congrArg (V m c main_v0 : S128x1024.Idx → EReal) (funext fun a => Fin.ext ?_)
    refine (Pipeline.Window.rect_emb_val (cfg0.win 0) t (ix2 r k) a rfl).trans ?_
    show cc0_transform_0 (grid0.coords t) a * _ + _ = _
    rw [at0]
    match a with
    | ⟨0, _⟩ => exact hR.symm
    | ⟨1, _⟩ => show 0 * 1024 + k.val = k.val; omega
  rw [e, rows_in]
  exact rows_apply _ _ _

theorem block1 (c : Dev nD) (t : Fin cfg0.N) (k : Fin 1024) :
    (iblk m c 1 t : S1x1024.Idx → EReal) (ix2 0 k) = (m ((c : Thread nD τ).loc main_arg1) : S2x1024.Idx → EReal) (ix2 0 k) := by
  have e : (iblk m c 1 t : S1x1024.Idx → EReal) (ix2 0 k) = (V m c main_v5 : S1x1024.Idx → EReal) (ix2 0 k) := by
    refine congrArg (V m c main_v5 : S1x1024.Idx → EReal) (funext fun a => Fin.ext ?_)
    refine (Pipeline.Window.rect_emb_val (cfg0.win 1) t (ix2 0 k) a rfl).trans ?_
    show cc0_transform_1 (grid0.coords t) a * _ + _ = _
    rw [at1]
    match a with
    | ⟨0, _⟩ => rfl
    | ⟨1, _⟩ => show 0 * 1024 + k.val = k.val; omega
  rw [e, norm_in]
  exact first_apply _ _

theorem block2 (c : Dev nD) (t : Fin cfg0.N) (k : Fin 1024) (q : Fin 512) (C : Fin 2048) (hC : C.val = (t.val % 2) * 512 + q.val) :
    (iblk m c 2 t : S1024x512.Idx → EReal) (ix2 k q) = (m ((c : Thread nD τ).loc main_arg2) : S1x1024x2048.Idx → EReal) (ix3 0 k C) := by
  have e : (iblk m c 2 t : S1024x512.Idx → EReal) (ix2 k q) = (V m c main_v1 : S1024x2048.Idx → EReal) (ix2 k C) := by
    refine congrArg (V m c main_v1 : S1024x2048.Idx → EReal) (funext fun a => Fin.ext ?_)
    refine (Pipeline.Window.rect_emb_val (cfg0.win 2) t (ix2 k q) a rfl).trans ?_
    show cc0_transform_2 (grid0.coords t) a * _ + _ = _
    rw [at2]
    match a with
    | ⟨0, _⟩ => show 0 * 1024 + k.val = k.val; omega
    | ⟨1, _⟩ => exact hC.symm
  rw [e, weights_in]
  exact drop_apply _ _ _

theorem block3 (c : Dev nD) (t : Fin cfg0.N) (k : Fin 1024) (q : Fin 512) (C : Fin 2048) (hC : C.val = (t.val % 2 + 2) * 512 + q.val) :
    (iblk m c 3 t : S1024x512.Idx → EReal) (ix2 k q) = (m ((c : Thread nD τ).loc main_arg2) : S1x1024x2048.Idx → EReal) (ix3 0 k C) := by
  have e : (iblk m c 3 t : S1024x512.Idx → EReal) (ix2 k q) = (V m c main_v1 : S1024x2048.Idx → EReal) (ix2 k C) := by
    refine congrArg (V m c main_v1 : S1024x2048.Idx → EReal) (funext fun a => Fin.ext ?_)
    refine (Pipeline.Window.rect_emb_val (cfg0.win 3) t (ix2 k q) a rfl).trans ?_
    show cc0_transform_3 (grid0.coords t) a * _ + _ = _
    rw [at3]
    match a with
    | ⟨0, _⟩ => show 0 * 1024 + k.val = k.val; omega
    | ⟨1, _⟩ => exact hC.symm
  rw [e, weights_in]
  exact drop_apply _ _ _

theorem block4 (c : Dev nD) (t : Fin cfg0.N) (q : Fin 512) (C : Fin 2048) (hC : C.val = (t.val % 2) * 512 + q.val) :
    (iblk m c 4 t : S1x512.Idx → EReal) (ix2 0 q) = (m ((c : Thread nD τ).loc main_arg3) : S1x2048.Idx → EReal) (ix2 0 C) := by
  have e : (iblk m c 4 t : S1x512.Idx → EReal) (ix2 0 q) = (V m c main_v6 : S1x2048.Idx → EReal) (ix2 0 C) := by
    refine congrArg (V m c main_v6 : S1x2048.Idx → EReal) (funext fun a => Fin.ext ?_)
    refine (Pipeline.Window.rect_emb_val (cfg0.win 4) t (ix2 0 q) a rfl).trans ?_
    show cc0_transform_4 (grid0.coords t) a * _ + _ = _
    rw [at4]
    match a with
    | ⟨0, _⟩ => rfl
    | ⟨1, _⟩ => exact hC.symm
  rw [e, bias_in]
  exact bias_apply _ _

theorem block5 (c : Dev nD) (t : Fin cfg0.N) (q : Fin 512) (C : Fin 2048) (hC : C.val = (t.val % 2 + 2) * 512 + q.val) :
    (iblk m c 5 t : S1x512.Idx → EReal) (ix2 0 q) = (m ((c : Thread nD τ).loc main_arg3) : S1x2048.Idx → EReal) (ix2 0 C) := by
  have e : (iblk m c 5 t : S1x512.Idx → EReal) (ix2 0 q) = (V m c main_v7 : S1x2048.Idx → EReal) (ix2 0 C) := by
    refine congrArg (V m c main_v7 : S1x2048.Idx → EReal) (funext fun a => Fin.ext ?_)
    refine (Pipeline.Window.rect_emb_val (cfg0.win 5) t (ix2 0 q) a rfl).trans ?_
    show cc0_transform_5 (grid0.coords t) a * _ + _ = _
    rw [at5]
    match a with
    | ⟨0, _⟩ => rfl
    | ⟨1, _⟩ => exact hC.symm
  rw [e, bias'_in]
  exact bias_apply _ _

/-- What the two paths leave, at a point. -/
theorem scratch_A (c : Dev nD) (t : Fin cfg0.N) (h0 : t.val % 2 = 0) :
    (outsAt0 m c t.val t.isLt).2 = k0_pay1 (F := Ideal) (iblk m c 0 t) (iblk m c 1 t) := by
  rw [outsAt0_A m c t h0]
  dsimp only
  exact sout_A ..
theorem scratch_B (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl
theorem result_A (c : Dev nD) (t : Fin cfg0.N) (h0 : t.val % 2 = 0) :
    (outsAt0 m c t.val t.isLt).1 = k0_pay2 (F := Ideal) (k0_pay1 (F := Ideal) (iblk m c 0 t) (iblk m c 1 t)) (iblk m c 2 t) (iblk m c 3 t) (iblk m c 4 t) (iblk m c 5 t) := by
  rw [outsAt0_A m c t h0]
  dsimp only
  exact out_A ..
theorem result_B (c : Dev nD) (t : Fin cfg0.N) (h0 : ¬t.val % 2 = 0) :
    (outsAt0 m c t.val t.isLt).1 = k0_pay2 (F := Ideal) (outsAt0 m c (t.val - 1) (Nat.lt_of_le_of_lt (Nat.sub_le _ _) t.isLt)).2 (iblk m c 2 t) (iblk m c 3 t) (iblk m c 4 t) (iblk m c 5 t) := by
  rw [outsAt0_B m c t h0]
  dsimp only
  exact out_B ..

/-- The rows the scratch is filled with at a point. -/
theorem filled (c : Dev nD) (t : Fin cfg0.N) (r : Fin 128) (k : Fin 1024) (R : Fin 128) (hR : R.val = t.val / 2 * 128 + r.val) :
    k0_pay1 (F := Ideal) (iblk m c 0 t) (iblk m c 1 t) (ix2 r k)
      = normed (fun q => (m ((c : Thread nD τ).loc main_arg0) : S32x4x1024.Idx → EReal) (ix3 (⟨R.val / 4, by omega⟩ : Fin 32) (⟨R.val % 4, by omega⟩ : Fin 4) q)) (fun q => (m ((c : Thread nD τ).loc main_arg1) : S2x1024.Idx → EReal) (ix2 0 q)) k :=
  (pay1_apply _ _ _ _).trans (congrArg₂ (fun a b => normed a b k) (funext fun q => block0 m c t r q R hR) (funext fun q => block1 m c t q))

/-- After every point the scratch holds the normalised rows of the point's block of rows. -/
theorem held (c : Dev nD) : ∀ (n : ℕ) (hn : n < cfg0.N) (r : Fin 128) (k : Fin 1024) (R : Fin 128), R.val = n / 2 * 128 + r.val →
    (outsAt0 m c n hn).2 (ix2 r k)
      = normed (fun q => (m ((c : Thread nD τ).loc main_arg0) : S32x4x1024.Idx → EReal) (ix3 (⟨R.val / 4, by omega⟩ : Fin 32) (⟨R.val % 4, by omega⟩ : Fin 4) q)) (fun q => (m ((c : Thread nD τ).loc main_arg1) : S2x1024.Idx → EReal) (ix2 0 q)) k := by
  intro n
  induction n with
  | zero =>
    intro hn r k R hR
    exact (congrFun (scratch_A m c ⟨0, hn⟩ (Nat.zero_mod _)) _).trans (filled m c ⟨0, hn⟩ r k R hR)
  | succ n ih =>
    intro hn r k R hR
    by_cases h0 : (n + 1) % 2 = 0
    · exact (congrFun (scratch_A m c ⟨n + 1, hn⟩ h0) _).trans (filled m c ⟨n + 1, hn⟩ r k R hR)
    · exact (congrFun (scratch_B m c ⟨n + 1, hn⟩ h0) _).trans (ih (Nat.lt_of_succ_lt hn) r k R (by omega))

/-- What a point leaves in the result's block is the gated product there. -/
theorem left_apply (c : Dev nD) (t : Fin cfg0.N) (r : Fin 128) (q : Fin 512) (R : Fin 128) (C : Fin 1024) (hR : R.val = t.val / 2 * 128 + r.val) (hC : C.val = t.val % 2 * 512 + q.val) :
    (outsAt0 m c t.val t.isLt).1 (ix2 r q) = elemOf (m ((c : Thread nD τ).loc main_arg0)) (m ((c : Thread nD τ).loc main_arg1)) (m ((c : Thread nD τ).loc main_arg2)) (m ((c : Thread nD τ).loc main_arg3)) R C := by
  have h2 : C.val = (t.val % 2) * 512 + q.val := hC
  have h3 : 1024 + C.val = (t.val % 2 + 2) * 512 + q.val := by omega
  have key : ∀ s : FVec Ideal S128x1024 .bf16, (∀ k, s (ix2 r k) = normed (fun q => (m ((c : Thread nD τ).loc main_arg0) : S32x4x1024.Idx → EReal) (ix3 (⟨R.val / 4, by omega⟩ : Fin 32) (⟨R.val % 4, by omega⟩ : Fin 4) q)) (fun q => (m ((c : Thread nD τ).loc main_arg1) : S2x1024.Idx → EReal) (ix2 0 q)) k) →
      k0_pay2 (F := Ideal) s (iblk m c 2 t) (iblk m c 3 t) (iblk m c 4 t) (iblk m c 5 t) (ix2 r q) = elemOf (m ((c : Thread nD τ).loc main_arg0)) (m ((c : Thread nD τ).loc main_arg1)) (m ((c : Thread nD τ).loc main_arg2)) (m ((c : Thread nD τ).loc main_arg3)) R C := fun s hs => by
    refine (pay2_apply _ _ _ _ _ _ _).trans ?_
    rw [show (fun k => s (ix2 r k)) = _ from funext hs]
    rw [show (fun k => (iblk m c 2 t : S1024x512.Idx → EReal) (ix2 k q)) = _ from funext fun k => block2 m c t k q ⟨C.val, by omega⟩ h2]
    rw [show (fun k => (iblk m c 3 t : S1024x512.Idx → EReal) (ix2 k q)) = _ from funext fun k => block3 m c t k q ⟨1024 + C.val, by omega⟩ h3]
    rw [block4 m c t q ⟨C.val, by omega⟩ h2, block5 m c t q ⟨1024 + C.val, by omega⟩ h3]
    rfl
  by_cases h0 : t.val % 2 = 0
  · exact (congrFun (result_A m c t h0) _).trans (key _ fun k => filled m c t r k R hR)
  · exact (congrFun (result_B m c t h0) _).trans (key _ fun k => held m c (t.val - 1) _ r k R (by omega))

/-- The gated product, as an array. -/
def product (c : Dev nD) : S128x1024.Idx → EReal := fun y => elemOf (m ((c : Thread nD τ).loc main_arg0)) (m ((c : Thread nD τ).loc main_arg1)) (m ((c : Thread nD τ).loc main_arg2)) (m ((c : Thread nD τ).loc main_arg3)) (y 0) (y 1)

theorem product_apply (c : Dev nD) (R : Fin 128) (C : Fin 1024) : product m c (ix2 R C) = elemOf (m ((c : Thread nD τ).loc main_arg0)) (m ((c : Thread nD τ).loc main_arg1)) (m ((c : Thread nD τ).loc main_arg2)) (m ((c : Thread nD τ).loc main_arg3)) R C := rfl

theorem final (c : Dev nD) : (dats m 0 c).arrAt 6 cfg0.N = product m c := by
  refine (dats m 0 c).arrAt_eq_of_covers 6 (product m c) (by decide +kernel) fun t hf y => ?_
  have hy0 : (y 0).val < 128 := (y 0).isLt
  have hy1 : (y 1).val < 512 := (y 1).isLt
  have ht : t.val < 2 := lt_of_lt_of_eq t.isLt N_0
  have hR : t.val / 2 * 128 + (y 0).val < 128 := by omega
  have hC : t.val % 2 * 512 + (y 1).val < 1024 := by omega
  have ei : ((cfg0.win 6).blk t).view.emb y = ix2 (⟨_, hR⟩ : Fin 128) (⟨_, hC⟩ : Fin 1024) := by
    refine funext fun a => Fin.ext ?_
    refine (Pipeline.Window.rect_emb_val (cfg0.win 6) t y a rfl).trans ?_
    show cc0_transform_6 (grid0.coords t) a * _ + _ = _
    rw [at6]
    match a with
    | ⟨0, _⟩ => rfl
    | ⟨1, _⟩ => rfl
  have ey : (cfg0.win 6).xinj (grid0.coords t) y = ix2 (⟨_, hy0⟩ : Fin 128) (⟨_, hy1⟩ : Fin 512) := by
    refine funext fun a => ?_
    match a with
    | ⟨0, _⟩ => rfl
    | ⟨1, _⟩ => rfl
  have ef : (dats m 0 c).after 6 t ((cfg0.win 6).xinj (grid0.coords t) y) = (outsAt0 m c t.val t.isLt).1 (ix2 (⟨_, hy0⟩ : Fin 128) (⟨_, hy1⟩ : Fin 512)) := by
    rw [after0_6, ey]
  refine Eq.trans ef (((left_apply m c t _ _ ⟨_, hR⟩ ⟨_, hC⟩ rfl rfl).trans ?_).trans (congrArg (product m c) ei.symm))
  exact (product_apply m c _ _).symm

/-- The new gated rows, as the reference's value of the arguments, and the state they leave. -/
def rowsOf (c : Dev nD) : S32x4x1024.Idx → EReal :=
  Cert.Reference4Ideal.Read.val_main_v29 (F := Ideal) (m ((c : Thread nD τ).loc main_arg0)) (m ((c : Thread nD τ).loc main_arg1)) (m ((c : Thread nD τ).loc main_arg2)) (m ((c : Thread nD τ).loc main_arg3))
def stateOf (c : Dev nD) : S1x32x30x1024.Idx → EReal :=
  Cert.Reference4Ideal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem product_eq (c : Dev nD) : shapeCast S32x4x1024 (product m c) shapeCasts_S128x1024_S32x4x1024 = rowsOf m c := by
  funext y
  rw [show y = ix3 (y 0) (y 1) (y 2) from funext fun a => by match a with | ⟨0, _⟩ => rfl | ⟨1, _⟩ => rfl | ⟨2, _⟩ => rfl]
  exact (back_apply (product m c) _ _ _).trans ((product_apply m c _ _).trans ((elem_at _ _ _ _ _ _ _).trans (ref_apply _ _ _ _ _ _ _).symm))

/-- What the lines after the region find in the region's result. -/
theorem found (c : Dev nD) :
    Pipeline.withArrays (cfgs 0).spec c (V0 m c) (fun w => (dats m 0 c).arrAt w (cfgs 0).N) (Proc.devRef .tc main_v8) = product m c :=
  ((dats m 0 c).withArrays_arrAt (by decide) (V0 m c) (A_eq m c) 6).trans (final m c)

theorem kept (c : Dev nD) :
    Pipeline.withArrays (cfgs 0).spec c (V0 m c) (fun w => (dats m 0 c).arrAt w (cfgs 0).N) (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem tail_state (c : Dev nD) : Pipeline.afterTail₀ cfgs (dats m) 0 (V0 m) [hostOps1] c main_v13 = stateOf m c := by
  have e : stateOf m c = broadcastInDim S1x32x30x1024 ![1, 2, 3] bcast_S32x30x1024_S1x32x30x1024_1_2_3 (extractStridedSlice S32x30x1024 ![0, 4, 0]
      (concatenate S32x34x1024 1 [⟨S32x30x1024, shapeCast S32x30x1024 (m ((c : Thread nD τ).loc main_arg4) : S1x32x30x1024.Idx → EReal) shapeCasts_S1x32x30x1024_S32x30x1024⟩, ⟨S32x4x1024, rowsOf m c⟩] concatenates_S32x30x1024_S32x4x1024_S32x34x1024_d1)
      slices_S32x34x1024_S32x30x1024_0_4_0) := rfl
  rw [e, ← product_eq, ← found m c, ← kept m c]
  show StableHlo.after hostOps1 _ (Proc.devRef .tc main_v13) = _
  after_results
  rfl

end Cert.Kernel4Ideal.GluNew

namespace Cert.Proof

open Idealize.ShloMosaic Idealize.ShloMosaic.TcCoe Idealize.SL.Sem

theorem gluNew_algebraic : Cert.algebraic_Kernel4Ideal_Reference4Ideal := fun m g m' g' _ hagree => by
  refine ⟨fun c => Cert.Kernel4Ideal.GluNew.stateOf m c, ?_, ?_⟩
  · refine (θ_run _ _ _).mono (fun r hr c => ?_) (θ_run_and (Cert.Kernel4Ideal.Gen.run_main (F := Ideal) m g) (Cert.Kernel4Ideal.Gen.unchanged (F := Ideal) m g))
    exact ⟨((hr.1 c).2 Cert.Kernel4Ideal.main_v13 (Pipeline.mem_restRefs_of _ (by decide) (by decide))).trans (Cert.Kernel4Ideal.GluNew.tail_state m c), hr.2 c⟩
  · refine (θ_run _ _ _).mono (fun r hr c => ?_) (Cert.Reference4Ideal.Value.run (F := Ideal) m' g')
    obtain ⟨h0, h1, h2, h3, h4⟩ := hagree c
    obtain rfl : c = 0 := Subsingleton.elim _ _
    refine ⟨(hr 0).1.trans ?_, (hr 0).2⟩
    rw [h0, h1, h2, h3, h4]
    rfl

theorem gluNew_ref_frame : Cert.quiescent_Reference4Ideal := fun m g _ =>
  (θ_run _ _ _).mono (fun r hr => ⟨fun c => (hr c).2, sem_eq_zero_of_no_sems (by decide) r.2⟩) (Cert.Reference4Ideal.Value.run (F := Ideal) m g)

end Cert.Proof

end
-- ==== Proof.Glu.lean ====
/- The first pointwise layer of the convolution module on the prompt: the normalised rows' products with the weights' columns,
   one half gating the other, and the last thirty rows, which are the layer's convolution state. -/
module

public import proofs.«01_k».proof.Proof.Gen.Kernel3Ideal.Frame
public import proofs.«01_k».proof.Proof.Gen.Reference3Ideal.Run
public import proofs.«01_k».proof.Proof.Gen.Reference3Ideal.Read
public import proofs.«01_k».proof.Proof.RowsMath
public import proofs.«01_k».proof.Defs
public import Idealize.ShloMosaic.Lib.Pipeline.ValueKit
public import Idealize.ShloMosaic.Lib.VecWindow
public import Idealize.ShloMosaic.Lib.Pointwise
public import Idealize.ShloMosaic.Lib.Claim

@[expose] public section

set_option maxRecDepth 16384

noncomputable section

namespace Cert.Kernel3Ideal.Glu

open Cert.Kernel3Ideal Cert.Kernel3Ideal.Gen Cert.Rows
open Idealize.ShloMosaic Idealize.ShloMosaic.TcCoe Idealize.SL.Sem

/-- The rows kept in the scratch: normalised. -/
theorem pay1_apply (x : FVec Ideal S1024x1024 .f32) (g : FVec Ideal S1x1024 .f32) (r : Fin 1024) (k : Fin 1024) :
    k0_pay1 (F := Ideal) x g (ix2 r k) = normed (fun q => x (ix2 r q)) (fun q => g (ix2 0 q)) k := by
  unfold k0_pay1 normed
  pointwise

/-- One block of the gated product. -/
theorem pay2_apply (x : FVec Ideal S1024x1024 .bf16) (w v : FVec Ideal S1024x512 .f32) (b d : FVec Ideal S1x512 .f32) (r : Fin 1024) (k : Fin 512) :
    k0_pay2 (F := Ideal) x w v b d (ix2 r k) = (dot (fun q => x (ix2 r q)) (fun q => w (ix2 q k)) + b (ix2 0 k))
      * sigm (dot (fun q => x (ix2 r q)) (fun q => v (ix2 q k)) + d (ix2 0 k)) := by
  unfold k0_pay2 sigm dot
  pointwise
  simp only [zero_sub]

section Paths
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x1024 .bf16) (harg9 : arg9.IsWhole)
  (x0 : Vec Ideal S1024x1024 .f32) (x1 : Vec Ideal S1x1024 .f32) (x2 x3 : Vec Ideal S1024x512 .f32) (x4 x5 : Vec Ideal S1x512 .f32) (xs0 : Vec Ideal S1024x1024 .bf16)

/-- At the first block of columns the scratch is filled, and the result is computed from it. -/
theorem out_A (h) : out0_A_6 (F := Ideal) c i arg2 harg2 arg3 harg3 arg4 harg4 arg5 harg5 arg6 harg6 arg7 harg7 arg8 harg8 arg9 harg9 h x0 x1 x2 x3 x4 x5 = k0_pay2 (F := Ideal) (k0_pay1 (F := Ideal) x0 x1) x2 x3 x4 x5 := by
  unfold out0_A_6
  rw [View.read_writes_eq_canon _ _ _ (cover0_A_6 (F := Ideal) c i arg2 harg2 arg3 harg3 arg4 harg4 arg5 harg5 arg6 harg6 arg7 harg7 arg8 harg8 arg9 harg9 h x0 x1 x2 x3 x4 x5)]
  unfold kernelRun0_A
  dsimp only
  frame_out

theorem sout_A (h) : sout0_A_0 (F := Ideal) c i arg2 harg2 arg3 harg3 arg4 harg4 arg5 harg5 arg6 harg6 arg7 harg7 arg8 harg8 arg9 harg9 h x0 x1 x2 x3 x4 x5 = k0_pay1 (F := Ideal) x0 x1 := by
  unfold sout0_A_0
  rw [View.read_writes_eq_canon _ _ _ (scover0_A_0 (F := Ideal) c i arg2 harg2 arg3 harg3 arg4 harg4 arg5 harg5 arg6 harg6 arg7 harg7 arg8 harg8 arg9 harg9 h x0 x1 x2 x3 x4 x5)]
  unfold kernelRun0_A
  dsimp only
  frame_out

/-- At the other block the result is computed from the scratch as it was left. -/
theorem out_B (h) : out0_B_6 (F := Ideal) c i arg2 harg2 arg3 harg3 arg4 harg4 arg5 harg5 arg6 harg6 arg7 harg7 arg8 harg8 arg9 harg9 h x0 x1 x2 x3 x4 x5 xs0 = k0_pay2 (F := Ideal) xs0 x2 x3 x4 x5 := by
  unfold out0_B_6
  rw [View.read_writes_eq_canon _ _ _ (cover0_B_6 (F := Ideal) c i arg2 harg2 arg3 harg3 arg4 harg4 arg5 harg5 arg6 harg6 arg7 harg7 arg8 harg8 arg9 harg9 h x0 x1 x2 x3 x4 x5 xs0)]
  unfold kernelRun0_B
  dsimp only
  frame_out
end Paths

/-- An element of the gated product, from the four arguments. -/
def elemOf (x : FVec Ideal S8x2048x1024 .f32) (g : FVec Ideal S2x1024 .f32) (w : FVec Ideal S1x1024x2048 .f32) (b : FVec Ideal S1x2048 .f32) (R : Fin 16384) (C : Fin 1024) : EReal :=
  glu (fun q => x (ix3 (⟨R.val / 2048, by omega⟩ : Fin 8) (⟨R.val % 2048, by omega⟩ : Fin 2048) q)) (fun q => g (ix2 0 q)) (fun q D => w (ix3 0 q D)) (fun D => b (ix2 0 D)) C

theorem drop_apply (w : FVec Ideal S1x1024x2048 .f32) (k : Fin 1024) (C : Fin 2048) :
    shapeCast S1024x2048 w shapeCasts_S1x1024x2048_S1024x2048 (ix2 k C) = w (ix3 0 k C) := by
  pointwise

theorem bias_apply (b : FVec Ideal S1x2048 .f32) (C : Fin 2048) :
    shapeCast S1x2048 (shapeCast S2048 b shapeCasts_S1x2048_S2048) shapeCasts_S2048_S1x2048 (ix2 0 C) = b (ix2 0 C) := by
  pointwise

theorem first_apply (g : FVec Ideal S2x1024 .f32) (k : Fin 1024) :
    shapeCast S1x1024 (shapeCast S1024 (extractStridedSlice S1x1024 ![0, 0] g slices_S2x1024_S1x1024_0_0) shapeCasts_S1x1024_S1024) shapeCasts_S1024_S1x1024 (ix2 0 k) = g (ix2 0 k) := by
  pointwise

theorem rows_apply (x : FVec Ideal S8x2048x1024 .f32) (R : Fin 16384) (k : Fin 1024) :
    shapeCast S16384x1024 x shapeCasts_S8x2048x1024_S16384x1024 (ix2 R k) = x (ix3 (⟨R.val / 2048, by omega⟩ : Fin 8) (⟨R.val % 2048, by omega⟩ : Fin 2048) k) := by
  pointwise

theorem back_apply (y : FVec Ideal S16384x1024 .f32) (b : Fin 8) (s : Fin 2048) (k : Fin 1024) :
    shapeCast S8x2048x1024 y shapeCasts_S16384x1024_S8x2048x1024 (ix3 b s k) = y (ix2 (⟨b.val * 2048 + s.val, by omega⟩ : Fin 16384) k) := by
  pointwise

/-- The product's element, by prompt and row. -/
theorem elem_at (x : FVec Ideal S8x2048x1024 .f32) (g : FVec Ideal S2x1024 .f32) (w : FVec Ideal S1x1024x2048 .f32) (d : FVec Ideal S1x2048 .f32) (b : Fin 8) (s : Fin 2048) (C : Fin 1024) :
    elemOf x g w d (⟨b.val * 2048 + s.val, by omega⟩ : Fin 16384) C = glu (fun q => x (ix3 b s q)) (fun q => g (ix2 0 q)) (fun q D => w (ix3 0 q D)) (fun D => d (ix2 0 D)) C := by
  unfold elemOf
  have e1 : (⟨(b.val * 2048 + s.val) / 2048, by omega⟩ : Fin 8) = b := Fin.ext (by show (b.val * 2048 + s.val) / 2048 = b.val; omega)
  have e2 : (⟨(b.val * 2048 + s.val) % 2048, by omega⟩ : Fin 2048) = s := Fin.ext (by show (b.val * 2048 + s.val) % 2048 = s.val; omega)
  rw [e1, e2]

/-- The reference at an element. -/
theorem ref_apply (x : FVec Ideal S8x2048x1024 .f32) (g : FVec Ideal S2x1024 .f32) (w : FVec Ideal S1x1024x2048 .f32) (d : FVec Ideal S1x2048 .f32) (b : Fin 8) (s : Fin 2048) (C : Fin 1024) :
    Cert.Reference3Ideal.Read.val_main_v29 (F := Ideal) x g w d (ix3 b s C) = glu (fun q => x (ix3 b s q)) (fun q => g (ix2 0 q)) (fun q D => w (ix3 0 q D)) (fun D => d (ix2 0 D)) C := by
  rw [← Cert.Reference3Ideal.Read.val_main_v29_eq]
  unfold glu normed sigm dot
  pointwise

variable (m : (ℓ : Loc nD τ sig) → Buf (Elt Ideal) ℓ)

theorem at0 : ∀ t : Fin grid0.N, cc0_transform_0 (grid0.coords t) = ![t.val / 2, 0] := by decide +kernel
theorem at1 : ∀ t : Fin grid0.N, cc0_transform_1 (grid0.coords t) = ![0, 0] := by decide +kernel
theorem at2 : ∀ t : Fin grid0.N, cc0_transform_2 (grid0.coords t) = ![0, t.val % 2] := by decide +kernel
theorem at3 : ∀ t : Fin grid0.N, cc0_transform_3 (grid0.coords t) = ![0, t.val % 2 + 2] := by decide +kernel
theorem at4 : ∀ t : Fin grid0.N, cc0_transform_4 (grid0.coords t) = ![0, t.val % 2] := by decide +kernel
theorem at5 : ∀ t : Fin grid0.N, cc0_transform_5 (grid0.coords t) = ![0, t.val % 2 + 2] := by decide +kernel
theorem at6 : ∀ t : Fin grid0.N, cc0_transform_6 (grid0.coords t) = ![t.val / 2, t.val % 2] := by decide +kernel

/-- The rows, the weights, the norm's row and the biases at the region's entry. -/
theorem rows_in (c : Dev nD) : (V m c main_v0 : S16384x1024.Idx → EReal)
    = shapeCast S16384x1024 (m ((c : Thread nD τ).loc main_arg0) : S8x2048x1024.Idx → EReal) shapeCasts_S8x2048x1024_S16384x1024 := by
  show StableHlo.after hostOps0 _ (Proc.devRef .tc main_v0) = _
  after_results
  rfl
theorem weights_in (c : Dev nD) : (V m c main_v1 : S1024x2048.Idx → EReal)
    = shapeCast S1024x2048 (m ((c : Thread nD τ).loc main_arg2) : S1x1024x2048.Idx → EReal) shapeCasts_S1x1024x2048_S1024x2048 := by
  show StableHlo.after hostOps0 _ (Proc.devRef .tc main_v1) = _
  after_results
  rfl
theorem norm_in (c : Dev nD) : (V m c main_v5 : S1x1024.Idx → EReal)
    = shapeCast S1x1024 (shapeCast S1024 (extractStridedSlice S1x1024 ![0, 0] (m ((c : Thread nD τ).loc main_arg1) : S2x1024.Idx → EReal) slices_S2x1024_S1x1024_0_0) shapeCasts_S1x1024_S1024) shapeCasts_S1024_S1x1024 := by
  show StableHlo.after hostOps0 _ (Proc.devRef .tc main_v5) = _
  after_results
  rfl
theorem bias_in (c : Dev nD) : (V m c main_v6 : S1x2048.Idx → EReal)
    = shapeCast S1x2048 (shapeCast S2048 (m ((c : Thread nD τ).loc main_arg3) : S1x2048.Idx → EReal) shapeCasts_S1x2048_S2048) shapeCasts_S2048_S1x2048 := by
  show StableHlo.after hostOps0 _ (Proc.devRef .tc main_v6) = _
  after_results
  rfl
theorem bias'_in (c : Dev nD) : (V m c main_v7 : S1x2048.Idx → EReal)
    = shapeCast S1x2048 (shapeCast S2048 (m ((c : Thread nD τ).loc main_arg3) : S1x2048.Idx → EReal) shapeCasts_S1x2048_S2048) shapeCasts_S2048_S1x2048 := by
  show StableHlo.after hostOps0 _ (Proc.devRef .tc main_v7) = _
  after_results
  rfl

theorem block0 (c : Dev nD) (t : Fin cfg0.N) (r : Fin 1024) (k : Fin 1024) (R : Fin 16384) (hR : R.val = t.val / 2 * 1024 + r.val) :
    (iblk m c 0 t : S1024x1024.Idx → EReal) (ix2 r k) = (m ((c : Thread nD τ).loc main_arg0) : S8x2048x1024.Idx → EReal) (ix3 (⟨R.val / 2048, by omega⟩ : Fin 8) (⟨R.val % 2048, by omega⟩ : Fin 2048) k) := by
  have e : (iblk m c 0 t : S1024x1024.Idx → EReal) (ix2 r k) = (V m c main_v0 : S16384x1024.Idx → EReal) (ix2 R k) := by
    refine congrArg (V m c main_v0 : S16384x1024.Idx → EReal) (funext fun a => Fin.ext ?_)
    refine (Pipeline.Window.rect_emb_val (cfg0.win 0) t (ix2 r k) a rfl).trans ?_
    show cc0_transform_0 (grid0.coords t) a * _ + _ = _
    rw [at0]
    match a with
    | ⟨0, _⟩ => exact hR.symm
    | ⟨1, _⟩ => show 0 * 1024 + k.val = k.val; omega
  rw [e, rows_in]
  exact rows_apply _ _ _

theorem block1 (c : Dev nD) (t : Fin cfg0.N) (k : Fin 1024) :
    (iblk m c 1 t : S1x1024.Idx → EReal) (ix2 0 k) = (m ((c : Thread nD τ).loc main_arg1) : S2x1024.Idx → EReal) (ix2 0 k) := by
  have e : (iblk m c 1 t : S1x1024.Idx → EReal) (ix2 0 k) = (V m c main_v5 : S1x1024.Idx → EReal) (ix2 0 k) := by
    refine congrArg (V m c main_v5 : S1x1024.Idx → EReal) (funext fun a => Fin.ext ?_)
    refine (Pipeline.Window.rect_emb_val (cfg0.win 1) t (ix2 0 k) a rfl).trans ?_
    show cc0_transform_1 (grid0.coords t) a * _ + _ = _
    rw [at1]
    match a with
    | ⟨0, _⟩ => rfl
    | ⟨1, _⟩ => show 0 * 1024 + k.val = k.val; omega
  rw [e, norm_in]
  exact first_apply _ _

theorem block2 (c : Dev nD) (t : Fin cfg0.N) (k : Fin 1024) (q : Fin 512) (C : Fin 2048) (hC : C.val = (t.val % 2) * 512 + q.val) :
    (iblk m c 2 t : S1024x512.Idx → EReal) (ix2 k q) = (m ((c : Thread nD τ).loc main_arg2) : S1x1024x2048.Idx → EReal) (ix3 0 k C) := by
  have e : (iblk m c 2 t : S1024x512.Idx → EReal) (ix2 k q) = (V m c main_v1 : S1024x2048.Idx → EReal) (ix2 k C) := by
    refine congrArg (V m c main_v1 : S1024x2048.Idx → EReal) (funext fun a => Fin.ext ?_)
    refine (Pipeline.Window.rect_emb_val (cfg0.win 2) t (ix2 k q) a rfl).trans ?_
    show cc0_transform_2 (grid0.coords t) a * _ + _ = _
    rw [at2]
    match a with
    | ⟨0, _⟩ => show 0 * 1024 + k.val = k.val; omega
    | ⟨1, _⟩ => exact hC.symm
  rw [e, weights_in]
  exact drop_apply _ _ _

theorem block3 (c : Dev nD) (t : Fin cfg0.N) (k : Fin 1024) (q : Fin 512) (C : Fin 2048) (hC : C.val = (t.val % 2 + 2) * 512 + q.val) :
    (iblk m c 3 t : S1024x512.Idx → EReal) (ix2 k q) = (m ((c : Thread nD τ).loc main_arg2) : S1x1024x2048.Idx → EReal) (ix3 0 k C) := by
  have e : (iblk m c 3 t : S1024x512.Idx → EReal) (ix2 k q) = (V m c main_v1 : S1024x2048.Idx → EReal) (ix2 k C) := by
    refine congrArg (V m c main_v1 : S1024x2048.Idx → EReal) (funext fun a => Fin.ext ?_)
    refine (Pipeline.Window.rect_emb_val (cfg0.win 3) t (ix2 k q) a rfl).trans ?_
    show cc0_transform_3 (grid0.coords t) a * _ + _ = _
    rw [at3]
    match a with
    | ⟨0, _⟩ => show 0 * 1024 + k.val = k.val; omega
    | ⟨1, _⟩ => exact hC.symm
  rw [e, weights_in]
  exact drop_apply _ _ _

theorem block4 (c : Dev nD) (t : Fin cfg0.N) (q : Fin 512) (C : Fin 2048) (hC : C.val = (t.val % 2) * 512 + q.val) :
    (iblk m c 4 t : S1x512.Idx → EReal) (ix2 0 q) = (m ((c : Thread nD τ).loc main_arg3) : S1x2048.Idx → EReal) (ix2 0 C) := by
  have e : (iblk m c 4 t : S1x512.Idx → EReal) (ix2 0 q) = (V m c main_v6 : S1x2048.Idx → EReal) (ix2 0 C) := by
    refine congrArg (V m c main_v6 : S1x2048.Idx → EReal) (funext fun a => Fin.ext ?_)
    refine (Pipeline.Window.rect_emb_val (cfg0.win 4) t (ix2 0 q) a rfl).trans ?_
    show cc0_transform_4 (grid0.coords t) a * _ + _ = _
    rw [at4]
    match a with
    | ⟨0, _⟩ => rfl
    | ⟨1, _⟩ => exact hC.symm
  rw [e, bias_in]
  exact bias_apply _ _

theorem block5 (c : Dev nD) (t : Fin cfg0.N) (q : Fin 512) (C : Fin 2048) (hC : C.val = (t.val % 2 + 2) * 512 + q.val) :
    (iblk m c 5 t : S1x512.Idx → EReal) (ix2 0 q) = (m ((c : Thread nD τ).loc main_arg3) : S1x2048.Idx → EReal) (ix2 0 C) := by
  have e : (iblk m c 5 t : S1x512.Idx → EReal) (ix2 0 q) = (V m c main_v7 : S1x2048.Idx → EReal) (ix2 0 C) := by
    refine congrArg (V m c main_v7 : S1x2048.Idx → EReal) (funext fun a => Fin.ext ?_)
    refine (Pipeline.Window.rect_emb_val (cfg0.win 5) t (ix2 0 q) a rfl).trans ?_
    show cc0_transform_5 (grid0.coords t) a * _ + _ = _
    rw [at5]
    match a with
    | ⟨0, _⟩ => rfl
    | ⟨1, _⟩ => exact hC.symm
  rw [e, bias'_in]
  exact bias_apply _ _

/-- What the two paths leave, at a point. -/
theorem scratch_A (c : Dev nD) (t : Fin cfg0.N) (h0 : t.val % 2 = 0) :
    (outsAt0 m c t.val t.isLt).2 = k0_pay1 (F := Ideal) (iblk m c 0 t) (iblk m c 1 t) := by
  rw [outsAt0_A m c t h0]
  dsimp only
  exact sout_A ..
theorem scratch_B (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl
theorem result_A (c : Dev nD) (t : Fin cfg0.N) (h0 : t.val % 2 = 0) :
    (outsAt0 m c t.val t.isLt).1 = k0_pay2 (F := Ideal) (k0_pay1 (F := Ideal) (iblk m c 0 t) (iblk m c 1 t)) (iblk m c 2 t) (iblk m c 3 t) (iblk m c 4 t) (iblk m c 5 t) := by
  rw [outsAt0_A m c t h0]
  dsimp only
  exact out_A ..
theorem result_B (c : Dev nD) (t : Fin cfg0.N) (h0 : ¬t.val % 2 = 0) :
    (outsAt0 m c t.val t.isLt).1 = k0_pay2 (F := Ideal) (outsAt0 m c (t.val - 1) (Nat.lt_of_le_of_lt (Nat.sub_le _ _) t.isLt)).2 (iblk m c 2 t) (iblk m c 3 t) (iblk m c 4 t) (iblk m c 5 t) := by
  rw [outsAt0_B m c t h0]
  dsimp only
  exact out_B ..

/-- The rows the scratch is filled with at a point. -/
theorem filled (c : Dev nD) (t : Fin cfg0.N) (r : Fin 1024) (k : Fin 1024) (R : Fin 16384) (hR : R.val = t.val / 2 * 1024 + r.val) :
    k0_pay1 (F := Ideal) (iblk m c 0 t) (iblk m c 1 t) (ix2 r k)
      = normed (fun q => (m ((c : Thread nD τ).loc main_arg0) : S8x2048x1024.Idx → EReal) (ix3 (⟨R.val / 2048, by omega⟩ : Fin 8) (⟨R.val % 2048, by omega⟩ : Fin 2048) q)) (fun q => (m ((c : Thread nD τ).loc main_arg1) : S2x1024.Idx → EReal) (ix2 0 q)) k :=
  (pay1_apply _ _ _ _).trans (congrArg₂ (fun a b => normed a b k) (funext fun q => block0 m c t r q R hR) (funext fun q => block1 m c t q))

/-- After every point the scratch holds the normalised rows of the point's block of rows. -/
theorem held (c : Dev nD) : ∀ (n : ℕ) (hn : n < cfg0.N) (r : Fin 1024) (k : Fin 1024) (R : Fin 16384), R.val = n / 2 * 1024 + r.val →
    (outsAt0 m c n hn).2 (ix2 r k)
      = normed (fun q => (m ((c : Thread nD τ).loc main_arg0) : S8x2048x1024.Idx → EReal) (ix3 (⟨R.val / 2048, by omega⟩ : Fin 8) (⟨R.val % 2048, by omega⟩ : Fin 2048) q)) (fun q => (m ((c : Thread nD τ).loc main_arg1) : S2x1024.Idx → EReal) (ix2 0 q)) k := by
  intro n
  induction n with
  | zero =>
    intro hn r k R hR
    exact (congrFun (scratch_A m c ⟨0, hn⟩ (Nat.zero_mod _)) _).trans (filled m c ⟨0, hn⟩ r k R hR)
  | succ n ih =>
    intro hn r k R hR
    by_cases h0 : (n + 1) % 2 = 0
    · exact (congrFun (scratch_A m c ⟨n + 1, hn⟩ h0) _).trans (filled m c ⟨n + 1, hn⟩ r k R hR)
    · exact (congrFun (scratch_B m c ⟨n + 1, hn⟩ h0) _).trans (ih (Nat.lt_of_succ_lt hn) r k R (by omega))

/-- What a point leaves in the result's block is the gated product there. -/
theorem left_apply (c : Dev nD) (t : Fin cfg0.N) (r : Fin 1024) (q : Fin 512) (R : Fin 16384) (C : Fin 1024) (hR : R.val = t.val / 2 * 1024 + r.val) (hC : C.val = t.val % 2 * 512 + q.val) :
    (outsAt0 m c t.val t.isLt).1 (ix2 r q) = elemOf (m ((c : Thread nD τ).loc main_arg0)) (m ((c : Thread nD τ).loc main_arg1)) (m ((c : Thread nD τ).loc main_arg2)) (m ((c : Thread nD τ).loc main_arg3)) R C := by
  have h2 : C.val = (t.val % 2) * 512 + q.val := hC
  have h3 : 1024 + C.val = (t.val % 2 + 2) * 512 + q.val := by omega
  have key : ∀ s : FVec Ideal S1024x1024 .bf16, (∀ k, s (ix2 r k) = normed (fun q => (m ((c : Thread nD τ).loc main_arg0) : S8x2048x1024.Idx → EReal) (ix3 (⟨R.val / 2048, by omega⟩ : Fin 8) (⟨R.val % 2048, by omega⟩ : Fin 2048) q)) (fun q => (m ((c : Thread nD τ).loc main_arg1) : S2x1024.Idx → EReal) (ix2 0 q)) k) →
      k0_pay2 (F := Ideal) s (iblk m c 2 t) (iblk m c 3 t) (iblk m c 4 t) (iblk m c 5 t) (ix2 r q) = elemOf (m ((c : Thread nD τ).loc main_arg0)) (m ((c : Thread nD τ).loc main_arg1)) (m ((c : Thread nD τ).loc main_arg2)) (m ((c : Thread nD τ).loc main_arg3)) R C := fun s hs => by
    refine (pay2_apply _ _ _ _ _ _ _).trans ?_
    rw [show (fun k => s (ix2 r k)) = _ from funext hs]
    rw [show (fun k => (iblk m c 2 t : S1024x512.Idx → EReal) (ix2 k q)) = _ from funext fun k => block2 m c t k q ⟨C.val, by omega⟩ h2]
    rw [show (fun k => (iblk m c 3 t : S1024x512.Idx → EReal) (ix2 k q)) = _ from funext fun k => block3 m c t k q ⟨1024 + C.val, by omega⟩ h3]
    rw [block4 m c t q ⟨C.val, by omega⟩ h2, block5 m c t q ⟨1024 + C.val, by omega⟩ h3]
    rfl
  by_cases h0 : t.val % 2 = 0
  · exact (congrFun (result_A m c t h0) _).trans (key _ fun k => filled m c t r k R hR)
  · exact (congrFun (result_B m c t h0) _).trans (key _ fun k => held m c (t.val - 1) _ r k R (by omega))

/-- The gated product, as an array. -/
def product (c : Dev nD) : S16384x1024.Idx → EReal := fun y => elemOf (m ((c : Thread nD τ).loc main_arg0)) (m ((c : Thread nD τ).loc main_arg1)) (m ((c : Thread nD τ).loc main_arg2)) (m ((c : Thread nD τ).loc main_arg3)) (y 0) (y 1)

theorem product_apply (c : Dev nD) (R : Fin 16384) (C : Fin 1024) : product m c (ix2 R C) = elemOf (m ((c : Thread nD τ).loc main_arg0)) (m ((c : Thread nD τ).loc main_arg1)) (m ((c : Thread nD τ).loc main_arg2)) (m ((c : Thread nD τ).loc main_arg3)) R C := rfl

theorem final (c : Dev nD) : (dats m 0 c).arrAt 6 cfg0.N = product m c := by
  refine (dats m 0 c).arrAt_eq_of_covers 6 (product m c) (by decide +kernel) fun t hf y => ?_
  have hy0 : (y 0).val < 1024 := (y 0).isLt
  have hy1 : (y 1).val < 512 := (y 1).isLt
  have ht : t.val < 32 := lt_of_lt_of_eq t.isLt N_0
  have hR : t.val / 2 * 1024 + (y 0).val < 16384 := by omega
  have hC : t.val % 2 * 512 + (y 1).val < 1024 := by omega
  have ei : ((cfg0.win 6).blk t).view.emb y = ix2 (⟨_, hR⟩ : Fin 16384) (⟨_, hC⟩ : Fin 1024) := by
    refine funext fun a => Fin.ext ?_
    refine (Pipeline.Window.rect_emb_val (cfg0.win 6) t y a rfl).trans ?_
    show cc0_transform_6 (grid0.coords t) a * _ + _ = _
    rw [at6]
    match a with
    | ⟨0, _⟩ => rfl
    | ⟨1, _⟩ => rfl
  have ey : (cfg0.win 6).xinj (grid0.coords t) y = ix2 (⟨_, hy0⟩ : Fin 1024) (⟨_, hy1⟩ : Fin 512) := by
    refine funext fun a => ?_
    match a with
    | ⟨0, _⟩ => rfl
    | ⟨1, _⟩ => rfl
  have ef : (dats m 0 c).after 6 t ((cfg0.win 6).xinj (grid0.coords t) y) = (outsAt0 m c t.val t.isLt).1 (ix2 (⟨_, hy0⟩ : Fin 1024) (⟨_, hy1⟩ : Fin 512)) := by
    rw [after0_6, ey]
  refine Eq.trans ef (((left_apply m c t _ _ ⟨_, hR⟩ ⟨_, hC⟩ rfl rfl).trans ?_).trans (congrArg (product m c) ei.symm))
  exact (product_apply m c _ _).symm

/-- The gated product as the reference's value of the arguments. -/
def resultOf (c : Dev nD) : S8x2048x1024.Idx → EReal :=
  Cert.Reference3Ideal.Read.val_main_v29 (F := Ideal) (m ((c : Thread nD τ).loc main_arg0)) (m ((c : Thread nD τ).loc main_arg1)) (m ((c : Thread nD τ).loc main_arg2)) (m ((c : Thread nD τ).loc main_arg3))
def stateOf (c : Dev nD) : S1x8x30x1024.Idx → EReal :=
  Cert.Reference3Ideal.Read.val_main_v31 (F := Ideal) (m ((c : Thread nD τ).loc main_arg0)) (m ((c : Thread nD τ).loc main_arg1)) (m ((c : Thread nD τ).loc main_arg2)) (m ((c : Thread nD τ).loc main_arg3))

theorem product_eq (c : Dev nD) : shapeCast S8x2048x1024 (product m c) shapeCasts_S16384x1024_S8x2048x1024 = resultOf m c := by
  funext y
  rw [show y = ix3 (y 0) (y 1) (y 2) from funext fun a => by match a with | ⟨0, _⟩ => rfl | ⟨1, _⟩ => rfl | ⟨2, _⟩ => rfl]
  exact (back_apply (product m c) _ _ _).trans ((elem_at _ _ _ _ _ _ _).trans (ref_apply _ _ _ _ _ _ _).symm)

/-- What the lines after the region find in the region's result. -/
theorem found (c : Dev nD) :
    Pipeline.withArrays (cfgs 0).spec c (V0 m c) (fun w => (dats m 0 c).arrAt w (cfgs 0).N) (Proc.devRef .tc main_v8) = product m c :=
  ((dats m 0 c).withArrays_arrAt (by decide) (V0 m c) (A_eq m c) 6).trans (final m c)

theorem tail_result (c : Dev nD) : Pipeline.afterTail₀ cfgs (dats m) 0 (V0 m) [hostOps1] c main_v9 = resultOf m c := by
  refine Eq.trans ?_ (product_eq m c)
  show StableHlo.after hostOps1 _ (Proc.devRef .tc main_v9) = _
  rw [← found m c]
  after_results
  rfl

theorem tail_state (c : Dev nD) : Pipeline.afterTail₀ cfgs (dats m) 0 (V0 m) [hostOps1] c main_v11 = stateOf m c := by
  have e : stateOf m c = broadcastInDim S1x8x30x1024 ![1, 2, 3] bcast_S8x30x1024_S1x8x30x1024_1_2_3 (extractStridedSlice S8x30x1024 ![0, 2018, 0] (resultOf m c) slices_S8x2048x1024_S8x30x1024_0_2018_0) := rfl
  rw [e, ← product_eq, ← found m c]
  show StableHlo.after hostOps1 _ (Proc.devRef .tc main_v11) = _
  after_results
  rfl

end Cert.Kernel3Ideal.Glu

namespace Cert.Proof

open Idealize.ShloMosaic Idealize.ShloMosaic.TcCoe Idealize.SL.Sem

theorem glu_algebraic : Cert.algebraic_Kernel3Ideal_Reference3Ideal := fun m g m' g' _ hagree => by
  refine ⟨fun c => Cert.Kernel3Ideal.Glu.resultOf m c, fun c => Cert.Kernel3Ideal.Glu.stateOf m c, ?_, ?_⟩
  · refine (θ_run _ _ _).mono (fun r hr c => ?_) (θ_run_and (Cert.Kernel3Ideal.Gen.run_main (F := Ideal) m g) (Cert.Kernel3Ideal.Gen.unchanged (F := Ideal) m g))
    exact ⟨((hr.1 c).2 Cert.Kernel3Ideal.main_v9 (Pipeline.mem_restRefs_of _ (by decide) (by decide))).trans (Cert.Kernel3Ideal.Glu.tail_result m c),
      ((hr.1 c).2 Cert.Kernel3Ideal.main_v11 (Pipeline.mem_restRefs_of _ (by decide) (by decide))).trans (Cert.Kernel3Ideal.Glu.tail_state m c), hr.2 c⟩
  · refine (θ_run _ _ _).mono (fun r hr c => ?_) (Cert.Reference3Ideal.Value.run (F := Ideal) m' g')
    obtain ⟨h0, h1, h2, h3⟩ := hagree c
    obtain rfl : c = 0 := Subsingleton.elim _ _
    refine ⟨(hr 0).1.trans ?_, (hr 0).2.1.trans ?_, (hr 0).2.2⟩
    · rw [h0, h1, h2, h3]
      rfl
    · rw [h0, h1, h2, h3]
      rfl

theorem glu_ref_frame : Cert.quiescent_Reference3Ideal := fun m g _ =>
  (θ_run _ _ _).mono (fun r hr => ⟨fun c => (hr c).2.2, sem_eq_zero_of_no_sems (by decide) r.2⟩) (Cert.Reference3Ideal.Value.run (F := Ideal) m g)

end Cert.Proof

end
-- ==== Proof.Up.lean ====
/- The dense feed-forward's gated up projection: every element of what the kernel leaves is the activation of the
   normalised row's product with the gate's column, times its product with the other column, as the plain reference has it. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.RowsMath
public import proofs.«01_k».proof.Defs
public import Idealize.ShloMosaic.Lib.Pipeline.ValueKit
public import Idealize.ShloMosaic.Lib.VecWindow
public import Idealize.ShloMosaic.Lib.Pointwise
public import Idealize.ShloMosaic.Lib.Claim

@[expose] public section

set_option maxRecDepth 16384

noncomputable section

namespace Cert.Kernel5Ideal.Up

open Cert.Kernel5Ideal Cert.Kernel5Ideal.Gen Cert.Rows
open Idealize.ShloMosaic Idealize.ShloMosaic.TcCoe Idealize.SL.Sem

/-- The rows kept in the scratch: normalised. -/
theorem pay1_apply (x : FVec Ideal S1024x1024 .f32) (g : FVec Ideal S1x1024 .f32) (r k : Fin 1024) :
    k0_pay1 (F := Ideal) x g (ix2 r k) = normed (fun q => x (ix2 r q)) (fun q => g (ix2 0 q)) k := by
  unfold k0_pay1 normed
  pointwise

/-- One block of the gated product. -/
theorem pay2_apply (x : FVec Ideal S1024x1024 .bf16) (g u : FVec Ideal S1024x256 .f32) (r : Fin 1024) (k : Fin 256) :
    k0_pay2 (F := Ideal) x g u (ix2 r k) = dot (fun q => x (ix2 r q)) (fun q => g (ix2 q k))
      * sigm (dot (fun q => x (ix2 r q)) (fun q => g (ix2 q k))) * dot (fun q => x (ix2 r q)) (fun q => u (ix2 q k)) := by
  unfold k0_pay2 sigm dot
  pointwise
  simp only [zero_sub]

section Paths
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .bf16) (harg6 : arg6.IsWhole) (arg7 : Memref sig .tc .vmem S1024x1024 .bf16) (harg7 : arg7.IsWhole)
  (x0 : Vec Ideal S1024x1024 .f32) (x1 : Vec Ideal S1x1024 .f32) (x2 x3 : Vec Ideal S1024x256 .f32) (xs0 : Vec Ideal S1024x1024 .bf16)

/-- At the first block of columns the scratch is filled, and the result is computed from it. -/
theorem out_A (h) : out0_A_4 (F := Ideal) c i arg2 harg2 arg3 harg3 arg4 harg4 arg5 harg5 arg6 harg6 arg7 harg7 h x0 x1 x2 x3 = k0_pay2 (F := Ideal) (k0_pay1 (F := Ideal) x0 x1) x2 x3 := by
  unfold out0_A_4
  rw [View.read_writes_eq_canon _ _ _ (cover0_A_4 (F := Ideal) c i arg2 harg2 arg3 harg3 arg4 harg4 arg5 harg5 arg6 harg6 arg7 harg7 h x0 x1 x2 x3)]
  unfold kernelRun0_A
  dsimp only
  frame_out

theorem sout_A (h) : sout0_A_0 (F := Ideal) c i arg2 harg2 arg3 harg3 arg4 harg4 arg5 harg5 arg6 harg6 arg7 harg7 h x0 x1 x2 x3 = k0_pay1 (F := Ideal) x0 x1 := by
  unfold sout0_A_0
  rw [View.read_writes_eq_canon _ _ _ (scover0_A_0 (F := Ideal) c i arg2 harg2 arg3 harg3 arg4 harg4 arg5 harg5 arg6 harg6 arg7 harg7 h x0 x1 x2 x3)]
  unfold kernelRun0_A
  dsimp only
  frame_out

/-- At the other blocks the result is computed from the scratch as it was left. -/
theorem out_B (h) : out0_B_4 (F := Ideal) c i arg2 harg2 arg3 harg3 arg4 harg4 arg5 harg5 arg6 harg6 arg7 harg7 h x0 x1 x2 x3 xs0 = k0_pay2 (F := Ideal) xs0 x2 x3 := by
  unfold out0_B_4
  rw [View.read_writes_eq_canon _ _ _ (cover0_B_4 (F := Ideal) c i arg2 harg2 arg3 harg3 arg4 harg4 arg5 harg5 arg6 harg6 arg7 harg7 h x0 x1 x2 x3 xs0)]
  unfold kernelRun0_B
  dsimp only
  frame_out

theorem sout_B (h) : sout0_B_0 (F := Ideal) c i arg2 harg2 arg3 harg3 arg4 harg4 arg5 harg5 arg6 harg6 arg7 harg7 h x0 x1 x2 x3 xs0 = xs0 := by
  unfold sout0_B_0
  rfl
end Paths

/-- An element of the result, from the four arguments. -/
def elemOf (x : FVec Ideal S16384x1024 .f32) (g : FVec Ideal S2x1024 .f32) (w u : FVec Ideal S1x1024x2816 .f32) (R : Fin 16384) (C : Fin 2816) : EReal :=
  let n := normed (fun q => x (ix2 R q)) (fun q => g (ix2 0 q))
  let a := dot n (fun q => w (ix3 0 q C))
  a * sigm a * dot n (fun q => u (ix3 0 q C))

/-- The reference at an element. -/
theorem ref_apply (x : FVec Ideal S16384x1024 .f32) (g : FVec Ideal S2x1024 .f32) (w u : FVec Ideal S1x1024x2816 .f32) (R : Fin 16384) (C : Fin 2816) :
    Cert.Reference5Ideal.Read.val_main_v21 (F := Ideal) x g w u (ix2 R C) = elemOf x g w u R C := by
  rw [← Cert.Reference5Ideal.Read.val_main_v21_eq]
  unfold elemOf normed sigm dot
  pointwise

theorem drop_apply (w : FVec Ideal S1x1024x2816 .f32) (k : Fin 1024) (C : Fin 2816) :
    shapeCast S1024x2816 w shapeCasts_S1x1024x2816_S1024x2816 (ix2 k C) = w (ix3 0 k C) := by
  pointwise

theorem first_apply (g : FVec Ideal S2x1024 .f32) (k : Fin 1024) :
    shapeCast S1x1024 (shapeCast S1024 (extractStridedSlice S1x1024 ![0, 0] g slices_S2x1024_S1x1024_0_0) shapeCasts_S1x1024_S1024) shapeCasts_S1024_S1x1024 (ix2 0 k) = g (ix2 0 k) := by
  pointwise

variable (m : (ℓ : Loc nD τ sig) → Buf (Elt Ideal) ℓ)

theorem at0 : ∀ t : Fin grid0.N, cc0_transform_0 (grid0.coords t) = ![t.val / 11, 0] := by decide +kernel
theorem at1 : ∀ t : Fin grid0.N, cc0_transform_1 (grid0.coords t) = ![0, 0] := by decide +kernel
theorem at2 : ∀ t : Fin grid0.N, cc0_transform_2 (grid0.coords t) = ![0, t.val % 11] := by decide +kernel
theorem at3 : ∀ t : Fin grid0.N, cc0_transform_3 (grid0.coords t) = ![0, t.val % 11] := by decide +kernel
theorem at4 : ∀ t : Fin grid0.N, cc0_transform_4 (grid0.coords t) = ![t.val / 11, t.val % 11] := by decide +kernel

/-- The weights and the norm's row at the region's entry. -/
theorem gate_in (c : Dev nD) : (V m c main_v0 : S1024x2816.Idx → EReal)
    = shapeCast S1024x2816 (m ((c : Thread nD τ).loc main_arg2) : S1x1024x2816.Idx → EReal) shapeCasts_S1x1024x2816_S1024x2816 := by
  show StableHlo.after hostOps0 _ (Proc.devRef .tc main_v0) = _
  after_results
  rfl
theorem up_in (c : Dev nD) : (V m c main_v1 : S1024x2816.Idx → EReal)
    = shapeCast S1024x2816 (m ((c : Thread nD τ).loc main_arg3) : S1x1024x2816.Idx → EReal) shapeCasts_S1x1024x2816_S1024x2816 := by
  show StableHlo.after hostOps0 _ (Proc.devRef .tc main_v1) = _
  after_results
  rfl
theorem norm_in (c : Dev nD) : (V m c main_v4 : S1x1024.Idx → EReal)
    = shapeCast S1x1024 (shapeCast S1024 (extractStridedSlice S1x1024 ![0, 0] (m ((c : Thread nD τ).loc main_arg1) : S2x1024.Idx → EReal) slices_S2x1024_S1x1024_0_0) shapeCasts_S1x1024_S1024) shapeCasts_S1024_S1x1024 := by
  show StableHlo.after hostOps0 _ (Proc.devRef .tc main_v4) = _
  after_results
  rfl

theorem block0 (c : Dev nD) (t : Fin cfg0.N) (r : Fin 1024) (k : Fin 1024) (R : Fin 16384) (hR : R.val = t.val / 11 * 1024 + r.val) :
    (iblk m c 0 t : S1024x1024.Idx → EReal) (ix2 r k) = (m ((c : Thread nD τ).loc main_arg0) : S16384x1024.Idx → EReal) (ix2 R k) := by
  refine Eq.trans ?_ (congrFun (V_main_arg0 m c) _)
  refine congrArg (V m c main_arg0 : S16384x1024.Idx → EReal) (funext fun a => Fin.ext ?_)
  refine (Pipeline.Window.rect_emb_val (cfg0.win 0) t (ix2 r k) a rfl).trans ?_
  show cc0_transform_0 (grid0.coords t) a * _ + _ = _
  rw [at0]
  match a with
  | ⟨0, _⟩ => exact hR.symm
  | ⟨1, _⟩ => show 0 * 1024 + k.val = k.val; omega

theorem block1 (c : Dev nD) (t : Fin cfg0.N) (k : Fin 1024) :
    (iblk m c 1 t : S1x1024.Idx → EReal) (ix2 0 k) = (m ((c : Thread nD τ).loc main_arg1) : S2x1024.Idx → EReal) (ix2 0 k) := by
  have e : (iblk m c 1 t : S1x1024.Idx → EReal) (ix2 0 k) = (V m c main_v4 : S1x1024.Idx → EReal) (ix2 0 k) := by
    refine congrArg (V m c main_v4 : S1x1024.Idx → EReal) (funext fun a => Fin.ext ?_)
    refine (Pipeline.Window.rect_emb_val (cfg0.win 1) t (ix2 0 k) a rfl).trans ?_
    show cc0_transform_1 (grid0.coords t) a * _ + _ = _
    rw [at1]
    match a with
    | ⟨0, _⟩ => rfl
    | ⟨1, _⟩ => show 0 * 1024 + k.val = k.val; omega
  rw [e, norm_in]
  exact first_apply _ _

theorem block2 (c : Dev nD) (t : Fin cfg0.N) (k : Fin 1024) (q : Fin 256) (C : Fin 2816) (hC : C.val = t.val % 11 * 256 + q.val) :
    (iblk m c 2 t : S1024x256.Idx → EReal) (ix2 k q) = (m ((c : Thread nD τ).loc main_arg2) : S1x1024x2816.Idx → EReal) (ix3 0 k C) := by
  have e : (iblk m c 2 t : S1024x256.Idx → EReal) (ix2 k q) = (V m c main_v0 : S1024x2816.Idx → EReal) (ix2 k C) := by
    refine congrArg (V m c main_v0 : S1024x2816.Idx → EReal) (funext fun a => Fin.ext ?_)
    refine (Pipeline.Window.rect_emb_val (cfg0.win 2) t (ix2 k q) a rfl).trans ?_
    show cc0_transform_2 (grid0.coords t) a * _ + _ = _
    rw [at2]
    match a with
    | ⟨0, _⟩ => show 0 * 1024 + k.val = k.val; omega
    | ⟨1, _⟩ => exact hC.symm
  rw [e, gate_in]
  exact drop_apply _ _ _

theorem block3 (c : Dev nD) (t : Fin cfg0.N) (k : Fin 1024) (q : Fin 256) (C : Fin 2816) (hC : C.val = t.val % 11 * 256 + q.val) :
    (iblk m c 3 t : S1024x256.Idx → EReal) (ix2 k q) = (m ((c : Thread nD τ).loc main_arg3) : S1x1024x2816.Idx → EReal) (ix3 0 k C) := by
  have e : (iblk m c 3 t : S1024x256.Idx → EReal) (ix2 k q) = (V m c main_v1 : S1024x2816.Idx → EReal) (ix2 k C) := by
    refine congrArg (V m c main_v1 : S1024x2816.Idx → EReal) (funext fun a => Fin.ext ?_)
    refine (Pipeline.Window.rect_emb_val (cfg0.win 3) t (ix2 k q) a rfl).trans ?_
    show cc0_transform_3 (grid0.coords t) a * _ + _ = _
    rw [at3]
    match a with
    | ⟨0, _⟩ => show 0 * 1024 + k.val = k.val; omega
    | ⟨1, _⟩ => exact hC.symm
  rw [e, up_in]
  exact drop_apply _ _ _

/-- What the two paths leave, at a point. -/
theorem scratch_A (c : Dev nD) (t : Fin cfg0.N) (h0 : t.val % 11 = 0) :
    (outsAt0 m c t.val t.isLt).2 = k0_pay1 (F := Ideal) (iblk m c 0 t) (iblk m c 1 t) := by
  rw [outsAt0_A m c t h0]
  dsimp only
  exact sout_A _ _ _ _ _ _ _ _ _ _ _ _ _ _ _ _ _ _ _
theorem scratch_B (c : Dev nD) (t : Fin cfg0.N) (h0 : ¬t.val % 11 = 0) :
    (outsAt0 m c t.val t.isLt).2 = (outsAt0 m c (t.val - 1) (Nat.lt_of_le_of_lt (Nat.sub_le _ _) t.isLt)).2 := by
  rw [outsAt0_B m c t h0]
  rfl
theorem result_A (c : Dev nD) (t : Fin cfg0.N) (h0 : t.val % 11 = 0) :
    (outsAt0 m c t.val t.isLt).1 = k0_pay2 (F := Ideal) (k0_pay1 (F := Ideal) (iblk m c 0 t) (iblk m c 1 t)) (iblk m c 2 t) (iblk m c 3 t) := by
  rw [outsAt0_A m c t h0]
  dsimp only
  exact out_A _ _ _ _ _ _ _ _ _ _ _ _ _ _ _ _ _ _ _
theorem result_B (c : Dev nD) (t : Fin cfg0.N) (h0 : ¬t.val % 11 = 0) :
    (outsAt0 m c t.val t.isLt).1 = k0_pay2 (F := Ideal) (outsAt0 m c (t.val - 1) (Nat.lt_of_le_of_lt (Nat.sub_le _ _) t.isLt)).2 (iblk m c 2 t) (iblk m c 3 t) := by
  rw [outsAt0_B m c t h0]
  dsimp only
  exact out_B _ _ _ _ _ _ _ _ _ _ _ _ _ _ _ _ _ _ _ _

/-- The rows the scratch is filled with at a point. -/
theorem filled (c : Dev nD) (t : Fin cfg0.N) (r k : Fin 1024) (R : Fin 16384) (hR : R.val = t.val / 11 * 1024 + r.val) :
    k0_pay1 (F := Ideal) (iblk m c 0 t) (iblk m c 1 t) (ix2 r k)
      = normed (fun q => (m ((c : Thread nD τ).loc main_arg0) : S16384x1024.Idx → EReal) (ix2 R q)) (fun q => (m ((c : Thread nD τ).loc main_arg1) : S2x1024.Idx → EReal) (ix2 0 q)) k :=
  (pay1_apply _ _ _ _).trans (congrArg₂ (fun a b => normed a b k) (funext fun q => block0 m c t r q R hR) (funext fun q => block1 m c t q))

/-- After every point the scratch holds the normalised rows of the point's block of rows. -/
theorem held (c : Dev nD) : ∀ (n : ℕ) (hn : n < cfg0.N) (r k : Fin 1024) (R : Fin 16384), R.val = n / 11 * 1024 + r.val →
    (outsAt0 m c n hn).2 (ix2 r k)
      = normed (fun q => (m ((c : Thread nD τ).loc main_arg0) : S16384x1024.Idx → EReal) (ix2 R q)) (fun q => (m ((c : Thread nD τ).loc main_arg1) : S2x1024.Idx → EReal) (ix2 0 q)) k := by
  intro n
  induction n with
  | zero =>
    intro hn r k R hR
    exact (congrFun (scratch_A m c ⟨0, hn⟩ (Nat.zero_mod _)) _).trans (filled m c ⟨0, hn⟩ r k R hR)
  | succ n ih =>
    intro hn r k R hR
    by_cases h0 : (n + 1) % 11 = 0
    · exact (congrFun (scratch_A m c ⟨n + 1, hn⟩ h0) _).trans (filled m c ⟨n + 1, hn⟩ r k R hR)
    · exact (congrFun (scratch_B m c ⟨n + 1, hn⟩ h0) _).trans (ih (Nat.lt_of_succ_lt hn) r k R (by omega))

/-- What a point leaves in the result's block is the result there. -/
theorem left_apply (c : Dev nD) (t : Fin cfg0.N) (r : Fin 1024) (q : Fin 256) (R : Fin 16384) (C : Fin 2816) (hR : R.val = t.val / 11 * 1024 + r.val) (hC : C.val = t.val % 11 * 256 + q.val) :
    (outsAt0 m c t.val t.isLt).1 (ix2 r q) = elemOf (m ((c : Thread nD τ).loc main_arg0)) (m ((c : Thread nD τ).loc main_arg1)) (m ((c : Thread nD τ).loc main_arg2)) (m ((c : Thread nD τ).loc main_arg3)) R C := by
  have key : ∀ s : FVec Ideal S1024x1024 .bf16, (∀ k, s (ix2 r k) = normed (fun q => (m ((c : Thread nD τ).loc main_arg0) : S16384x1024.Idx → EReal) (ix2 R q)) (fun q => (m ((c : Thread nD τ).loc main_arg1) : S2x1024.Idx → EReal) (ix2 0 q)) k) →
      k0_pay2 (F := Ideal) s (iblk m c 2 t) (iblk m c 3 t) (ix2 r q) = elemOf (m ((c : Thread nD τ).loc main_arg0)) (m ((c : Thread nD τ).loc main_arg1)) (m ((c : Thread nD τ).loc main_arg2)) (m ((c : Thread nD τ).loc main_arg3)) R C := fun s hs => by
    refine (pay2_apply _ _ _ _ _).trans ?_
    rw [show (fun k => s (ix2 r k)) = _ from funext hs]
    rw [show (fun k => (iblk m c 2 t : S1024x256.Idx → EReal) (ix2 k q)) = _ from funext fun k => block2 m c t k q C hC]
    rw [show (fun k => (iblk m c 3 t : S1024x256.Idx → EReal) (ix2 k q)) = _ from funext fun k => block3 m c t k q C hC]
    rfl
  by_cases h0 : t.val % 11 = 0
  · exact (congrFun (result_A m c t h0) _).trans (key _ fun k => filled m c t r k R hR)
  · exact (congrFun (result_B m c t h0) _).trans (key _ fun k => held m c (t.val - 1) _ r k R (by omega))

/-- The result, as the reference's last value of the arguments. -/
def resultOf (c : Dev nD) : S16384x2816.Idx → EReal :=
  Cert.Reference5Ideal.Read.val_main_v21 (F := Ideal) (m ((c : Thread nD τ).loc main_arg0)) (m ((c : Thread nD τ).loc main_arg1)) (m ((c : Thread nD τ).loc main_arg2)) (m ((c : Thread nD τ).loc main_arg3))

theorem final (c : Dev nD) : (dats m 0 c).arrAt 4 cfg0.N = resultOf m c := by
  refine (dats m 0 c).arrAt_eq_of_covers 4 (resultOf m c) (by decide +kernel) fun t hf y => ?_
  have hy0 : (y 0).val < 1024 := (y 0).isLt
  have hy1 : (y 1).val < 256 := (y 1).isLt
  have ht : t.val < 176 := lt_of_lt_of_eq t.isLt N_0
  have hR : t.val / 11 * 1024 + (y 0).val < 16384 := by omega
  have hC : t.val % 11 * 256 + (y 1).val < 2816 := by omega
  have ei : ((cfg0.win 4).blk t).view.emb y = ix2 (⟨_, hR⟩ : Fin 16384) (⟨_, hC⟩ : Fin 2816) := by
    refine funext fun a => Fin.ext ?_
    refine (Pipeline.Window.rect_emb_val (cfg0.win 4) t y a rfl).trans ?_
    show cc0_transform_4 (grid0.coords t) a * _ + _ = _
    rw [at4]
    match a with
    | ⟨0, _⟩ => rfl
    | ⟨1, _⟩ => rfl
  have ey : (cfg0.win 4).xinj (grid0.coords t) y = ix2 (⟨_, hy0⟩ : Fin 1024) (⟨_, hy1⟩ : Fin 256) := by
    refine funext fun a => ?_
    match a with
    | ⟨0, _⟩ => rfl
    | ⟨1, _⟩ => rfl
  have ef : (dats m 0 c).after 4 t ((cfg0.win 4).xinj (grid0.coords t) y) = (outsAt0 m c t.val t.isLt).1 (ix2 (⟨_, hy0⟩ : Fin 1024) (⟨_, hy1⟩ : Fin 256)) := by
    rw [after0_4, ey]
  refine Eq.trans ef (((left_apply m c t _ _ ⟨_, hR⟩ ⟨_, hC⟩ rfl rfl).trans ?_).trans (congrArg (resultOf m c) ei.symm))
  exact (ref_apply _ _ _ _ _ _).symm

end Cert.Kernel5Ideal.Up

namespace Cert.Proof

open Idealize.ShloMosaic Idealize.ShloMosaic.TcCoe Idealize.SL.Sem

theorem up_algebraic : Cert.algebraic_Kernel5Ideal_Reference5Ideal := fun m g m' g' _ hagree => by
  refine ⟨fun c => Cert.Kernel5Ideal.Up.resultOf m c, ?_, ?_⟩
  · refine (θ_run _ _ _).mono (fun r hr c => ?_) (Cert.Kernel5Ideal.Value.run_blocks (F := Ideal) m g)
    exact ⟨(hr c).1.trans (Cert.Kernel5Ideal.Up.final m c), (hr c).2⟩
  · refine (θ_run _ _ _).mono (fun r hr c => ?_) (Cert.Reference5Ideal.Value.run (F := Ideal) m' g')
    obtain ⟨h0, h1, h2, h3⟩ := hagree c
    obtain rfl : c = 0 := Subsingleton.elim _ _
    refine ⟨(hr 0).1.trans ?_, (hr 0).2⟩
    rw [h0, h1, h2, h3]
    rfl

theorem up_ref_frame : Cert.quiescent_Reference5Ideal := fun m g _ =>
  (θ_run _ _ _).mono (fun r hr => ⟨fun c => (hr c).2, sem_eq_zero_of_no_sems (by decide) r.2⟩) (Cert.Reference5Ideal.Value.run (F := Ideal) m g)

end Cert.Proof

end
-- ==== Proof.Down.lean ====
/- The dense feed-forward's down projection: every element of what the kernel leaves is the row's product with the column,
   plus the residual's element, as the plain reference has it. -/
module

public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Pipeline.ValueKit
public import Idealize.ShloMosaic.Lib.VecWindow
public import Idealize.ShloMosaic.Lib.Pointwise
public import Idealize.ShloMosaic.Lib.Claim

@[expose] public section

set_option maxRecDepth 16384

noncomputable section

namespace Cert.Kernel6Ideal.Down

open Cert.Kernel6Ideal Cert.Kernel6Ideal.Gen
open Idealize.ShloMosaic Idealize.ShloMosaic.TcCoe Idealize.SL.Sem

/-- One block of the result. -/
theorem out_apply (x : FVec Ideal S512x2816 .bf16) (w : FVec Ideal S2816x512 .f32) (d : FVec Ideal S512x512 .f32) (r : Fin 512) (q : Fin 512) :
    out0_3 (F := Ideal) x w d (ix2 r q) = (∑ k, x (ix2 r k) * w (ix2 k q)) + d (ix2 r q) := by
  unfold out0_3
  frame_out
  unfold k0_pay1
  pointwise

/-- The weights without their leading axis, at an element. -/
theorem drop_apply (w : FVec Ideal S1x2816x1024 .f32) (k : Fin 2816) (C : Fin 1024) :
    shapeCast S2816x1024 w shapeCasts_S1x2816x1024_S2816x1024 (ix2 k C) = w (ix3 0 k C) := by
  pointwise

/-- The reference at an element. -/
theorem ref_apply (x : FVec Ideal S16384x2816 .bf16) (w : FVec Ideal S1x2816x1024 .f32) (d : FVec Ideal S16384x1024 .f32) (R : Fin 16384) (C : Fin 1024) :
    Cert.Reference6Ideal.Read.val_main_v3 (F := Ideal) x w d (ix2 R C) = d (ix2 R C) + ∑ k, x (ix2 R k) * w (ix3 0 k C) := by
  rw [← Cert.Reference6Ideal.Read.val_main_v3_eq]
  pointwise

variable (m : (ℓ : Loc nD τ sig) → Buf (Elt Ideal) ℓ)

theorem at0 : ∀ t : Fin grid0.N, cc0_transform_0 (grid0.coords t) = ![t.val / 2, 0] := by decide +kernel
theorem at1 : ∀ t : Fin grid0.N, cc0_transform_1 (grid0.coords t) = ![0, t.val % 2] := by decide +kernel
theorem at3 : ∀ t : Fin grid0.N, cc0_transform_3 (grid0.coords t) = ![t.val / 2, t.val % 2] := by decide +kernel

/-- The weights at the region's entry are the argument without its leading axis. -/
theorem weights (c : Dev nD) : (V m c main_v0 : S2816x1024.Idx → EReal)
    = shapeCast S2816x1024 (m ((c : Thread nD τ).loc main_arg1) : S1x2816x1024.Idx → EReal) shapeCasts_S1x2816x1024_S2816x1024 := by
  show StableHlo.after hostOps0 _ (Proc.devRef .tc main_v0) = _
  after_results
  rfl

theorem block0 (c : Dev nD) (t : Fin cfg0.N) (r : Fin 512) (k : Fin 2816) (R : Fin 16384) (hR : R.val = t.val / 2 * 512 + r.val) :
    (iblk m c 0 t : S512x2816.Idx → EReal) (ix2 r k) = (m ((c : Thread nD τ).loc main_arg0) : S16384x2816.Idx → EReal) (ix2 R k) := by
  refine Eq.trans ?_ (congrFun (V_main_arg0 m c) _)
  refine congrArg (V m c main_arg0 : S16384x2816.Idx → EReal) (funext fun a => Fin.ext ?_)
  refine (Pipeline.Window.rect_emb_val (cfg0.win 0) t (ix2 r k) a rfl).trans ?_
  show cc0_transform_0 (grid0.coords t) a * _ + _ = _
  rw [at0]
  match a with
  | ⟨0, _⟩ => exact hR.symm
  | ⟨1, _⟩ => show 0 * 2816 + k.val = k.val; omega

theorem block1 (c : Dev nD) (t : Fin cfg0.N) (k : Fin 2816) (q : Fin 512) (C : Fin 1024) (hC : C.val = t.val % 2 * 512 + q.val) :
    (iblk m c 1 t : S2816x512.Idx → EReal) (ix2 k q) = (m ((c : Thread nD τ).loc main_arg1) : S1x2816x1024.Idx → EReal) (ix3 0 k C) := by
  have e : (iblk m c 1 t : S2816x512.Idx → EReal) (ix2 k q) = (V m c main_v0 : S2816x1024.Idx → EReal) (ix2 k C) := by
    refine congrArg (V m c main_v0 : S2816x1024.Idx → EReal) (funext fun a => Fin.ext ?_)
    refine (Pipeline.Window.rect_emb_val (cfg0.win 1) t (ix2 k q) a rfl).trans ?_
    show cc0_transform_1 (grid0.coords t) a * _ + _ = _
    rw [at1]
    match a with
    | ⟨0, _⟩ => show 0 * 2816 + k.val = k.val; omega
    | ⟨1, _⟩ => exact hC.symm
  rw [e, weights]
  exact drop_apply _ _ _

theorem block2 (c : Dev nD) (t : Fin cfg0.N) (r : Fin 512) (q : Fin 512) (R : Fin 16384) (C : Fin 1024) (hR : R.val = t.val / 2 * 512 + r.val) (hC : C.val = t.val % 2 * 512 + q.val) :
    (iblk m c 2 t : S512x512.Idx → EReal) (ix2 r q) = (m ((c : Thread nD τ).loc main_arg2) : S16384x1024.Idx → EReal) (ix2 R C) := by
  refine Eq.trans ?_ (congrFun (V_main_arg2 m c) _)
  refine congrArg (V m c main_arg2 : S16384x1024.Idx → EReal) (funext fun a => Fin.ext ?_)
  refine (Pipeline.Window.rect_emb_val (cfg0.win 2) t (ix2 r q) a rfl).trans ?_
  show cc0_transform_3 (grid0.coords t) a * _ + _ = _
  rw [at3]
  match a with
  | ⟨0, _⟩ => exact hR.symm
  | ⟨1, _⟩ => exact hC.symm

/-- The result, as the reference's last value of the three arguments. -/
def resultOf (c : Dev nD) : S16384x1024.Idx → EReal :=
  Cert.Reference6Ideal.Read.val_main_v3 (F := Ideal) (m ((c : Thread nD τ).loc main_arg0)) (m ((c : Thread nD τ).loc main_arg1)) (m ((c : Thread nD τ).loc main_arg2))

theorem final (c : Dev nD) : (dats m 0 c).arrAt 3 cfg0.N = resultOf m c := by
  refine (dats m 0 c).arrAt_eq_of_covers 3 (resultOf m c) (by decide +kernel) fun t hf y => ?_
  have hy0 : (y 0).val < 512 := (y 0).isLt
  have hy1 : (y 1).val < 512 := (y 1).isLt
  have ht : t.val < 64 := lt_of_lt_of_eq t.isLt N_0
  have hR : t.val / 2 * 512 + (y 0).val < 16384 := by omega
  have hC : t.val % 2 * 512 + (y 1).val < 1024 := by omega
  have ei : ((cfg0.win 3).blk t).view.emb y = ix2 (⟨_, hR⟩ : Fin 16384) (⟨_, hC⟩ : Fin 1024) := by
    refine funext fun a => Fin.ext ?_
    refine (Pipeline.Window.rect_emb_val (cfg0.win 3) t y a rfl).trans ?_
    show cc0_transform_3 (grid0.coords t) a * _ + _ = _
    rw [at3]
    match a with
    | ⟨0, _⟩ => rfl
    | ⟨1, _⟩ => rfl
  have ey : (cfg0.win 3).xinj (grid0.coords t) y = ix2 (⟨_, hy0⟩ : Fin 512) (⟨_, hy1⟩ : Fin 512) := by
    refine funext fun a => ?_
    match a with
    | ⟨0, _⟩ => rfl
    | ⟨1, _⟩ => rfl
  have ef : (dats m 0 c).after 3 t ((cfg0.win 3).xinj (grid0.coords t) y) = out0_3 (F := Ideal) (iblk m c 0 t) (iblk m c 1 t) (iblk m c 2 t) (ix2 (⟨_, hy0⟩ : Fin 512) (⟨_, hy1⟩ : Fin 512)) := by
    rw [after0_3, ey]
  refine Eq.trans ef (((out_apply _ _ _ _ _).trans ?_).trans (congrArg (resultOf m c) ei.symm))
  refine Eq.trans ?_ (ref_apply _ _ _ _ _).symm
  rw [add_comm]
  exact congrArg₂ (· + ·) (block2 m c t _ _ _ _ rfl rfl)
    (Finset.sum_congr rfl fun k _ => congrArg₂ (· * ·) (block0 m c t _ k _ rfl) (block1 m c t k _ _ rfl))

end Cert.Kernel6Ideal.Down

namespace Cert.Proof

open Idealize.ShloMosaic Idealize.ShloMosaic.TcCoe Idealize.SL.Sem

theorem down_algebraic : Cert.algebraic_Kernel6Ideal_Reference6Ideal := fun m g m' g' _ hagree => by
  refine ⟨fun c => Cert.Kernel6Ideal.Down.resultOf m c, ?_, ?_⟩
  · refine (θ_run _ _ _).mono (fun r hr c => ?_) (Cert.Kernel6Ideal.Value.run_blocks (F := Ideal) m g)
    exact ⟨(hr c).1.trans (Cert.Kernel6Ideal.Down.final m c), (hr c).2⟩
  · refine (θ_run _ _ _).mono (fun r hr c => ?_) (Cert.Reference6Ideal.Value.run (F := Ideal) m' g')
    obtain ⟨h0, h1, h2⟩ := hagree c
    obtain rfl : c = 0 := Subsingleton.elim _ _
    refine ⟨(hr 0).1.trans ?_, (hr 0).2⟩
    rw [h0, h1, h2]
    rfl

theorem down_ref_frame : Cert.quiescent_Reference6Ideal := fun m g _ =>
  (θ_run _ _ _).mono (fun r hr => ⟨fun c => (hr c).2, sem_eq_zero_of_no_sems (by decide) r.2⟩) (Cert.Reference6Ideal.Value.run (F := Ideal) m g)

end Cert.Proof

end
-- ==== Proof.ConvMath.lean ====
/- The depthwise convolution of a channel over thirty-one rows, the normalisation of a row of channels by its mean and variance,
   and the reference read in these words. -/
module

public import proofs.«01_k».proof.Proof.Gen.Reference12Ideal.Run
public import proofs.«01_k».proof.Proof.Gen.Reference12Ideal.Read
public import proofs.«01_k».proof.Proof.RowsMath
public import Idealize.ShloMosaic.Lib.Pointwise
public import Idealize.ShloMosaic.Lib.Claim

@[expose] public section

set_option maxRecDepth 16384

noncomputable section

namespace Cert.Conv

open Idealize.ShloMosaic Cert.Rows

/-- A sum of the first `n` values, the first one first. -/
def taps (f : ℕ → EReal) : ℕ → EReal
  | 0 => 0
  | n + 1 => taps f n + f n

theorem taps_congr (f g : ℕ → EReal) : ∀ n, (∀ k, k < n → f k = g k) → taps f n = taps g n
  | 0, _ => rfl
  | n + 1, h => congrArg₂ (· + ·) (taps_congr f g n fun k hk => h k (by omega)) (h n (by omega))

/-- A channel with thirty rows of zeros before it. -/
def padded (x : Fin 2048 → EReal) (n : ℕ) : EReal := if h : 30 ≤ n ∧ n - 30 < 2048 then x ⟨n - 30, h.2⟩ else 0

/-- A tap's weight. -/
def weight (w : Fin 31 → EReal) (k : ℕ) : EReal := if h : k < 31 then w ⟨k, h⟩ else 0

/-- The convolution of a channel at row `t`, with its bias. -/
def conv (x : Fin 2048 → EReal) (w : Fin 31 → EReal) (b : EReal) (t : ℕ) : EReal :=
  taps (fun k => padded x (t + k) * weight w k) 31 + b

/-- A row's mean. -/
def mean (v : Fin 1024 → EReal) : EReal := Ideal.div (∑ q, v q) (Ideal.ofBits FTy.f32 0x44800000#32)

/-- A row less its mean, over the root of its variance, scaled and shifted. -/
def lnorm (v g b : Fin 1024 → EReal) (k : Fin 1024) : EReal :=
  (v k - mean v) * Ideal.rsqrt (Ideal.div (∑ q, (v q - mean v) * (v q - mean v)) (Ideal.ofBits FTy.f32 0x44800000#32) + Ideal.ofBits FTy.f32 0x358637BD#32) * g k + b k

/-- A value times its logistic. -/
def swish (a : EReal) : EReal := a * sigm a

end Cert.Conv

namespace Cert.Reference12Ideal.Conv

open Cert.Reference12Ideal Cert.Reference12Ideal.Gen Cert.Reference12Ideal.Read Cert.Rows Cert.Conv
open Idealize.ShloMosaic Idealize.ShloMosaic.TcCoe Idealize.SL.Sem

/-- The rows with zeros before them, read at an element. -/
theorem full_apply (x : FVec Ideal S8x2048x1024 .f32) (b : Fin 8) (n : Fin 2078) (C : Fin 1024) :
    val_main_v1 (F := Ideal) x (ix3 b n C) = padded (fun s => x (ix3 b s C)) n.val := by
  have hn := n.isLt
  unfold val_main_v1 val_main_v0 val_main_cst padded
  pointwise
  split
  · rw [dif_neg (by omega)]
  · rw [dif_pos (by omega)]

/-- A tap's term. -/
theorem tap_apply (x : FVec Ideal S8x2048x1024 .f32) (w : FVec Ideal S1x31x1024 .f32) (b : Fin 8) (t : Fin 2048) (C : Fin 1024) (k : Fin 31) (hs hw) :
    mulf (F := Ideal) (φ := .f32) (extractStridedSlice S8x2048x1024 ![0, k.val, 0] (val_main_v1 (F := Ideal) x) hs)
      (broadcastInDim S8x2048x1024 ![0, 1, 2] bcast_S1x1x1024_S8x2048x1024_0_1_2 (broadcastInDim S1x1x1024 ![2] bcast_S1024_S1x1x1024_2 (shapeCast S1024 (extractStridedSlice S1x1x1024 ![0, k.val, 0] w hw) shapeCasts_S1x1x1024_S1024))) (ix3 b t C)
      = padded (fun s => x (ix3 b s C)) (t.val + k.val) * weight (fun q => w (ix3 0 q C)) k.val := by
  have hf := full_apply x b ⟨t.val + k.val, by omega⟩ C
  have hw' : weight (fun q => w (ix3 0 q C)) k.val = w (ix3 0 k C) := dif_pos k.isLt
  rw [hw', ← hf]
  generalize val_main_v1 (F := Ideal) x = y
  refine congrArg₂ (· * ·) ?_ ?_
  · refine extractStridedSlice_apply _ y hs _ _ fun a => ?_
    match a with
    | ⟨0, _⟩ => show b.val = 0 + b.val; omega
    | ⟨1, _⟩ => show t.val + k.val = k.val + t.val; omega
    | ⟨2, _⟩ => show C.val = 0 + C.val; omega
  · have e : (broadcastInDim S8x2048x1024 ![0, 1, 2] bcast_S1x1x1024_S8x2048x1024_0_1_2 (broadcastInDim S1x1x1024 ![2] bcast_S1024_S1x1x1024_2 (shapeCast S1024 (extractStridedSlice S1x1x1024 ![0, k.val, 0] w hw) shapeCasts_S1x1x1024_S1024))) (ix3 b t C)
        = extractStridedSlice S1x1x1024 ![0, k.val, 0] w hw (ix3 0 0 C) := by
      generalize extractStridedSlice S1x1x1024 ![0, k.val, 0] w hw = z
      pointwise
    refine e.trans ?_
    refine extractStridedSlice_apply _ w hw _ _ fun a => ?_
    match a with
    | ⟨0, _⟩ => rfl
    | ⟨1, _⟩ => rfl
    | ⟨2, _⟩ => show C.val = 0 + C.val; omega

/-- The zeros the sum starts from. -/
theorem start_apply (b : Fin 8) (t : Fin 2048) (C : Fin 1024) : val_main_v8 (F := Ideal) (ix3 b t C) = 0 := by
  unfold val_main_v8 val_main_cst_0
  pointwise

set_option maxHeartbeats 4000000 in
/-- The convolution, read at an element. -/
theorem conv_apply (x : FVec Ideal S8x2048x1024 .f32) (w : FVec Ideal S1x31x1024 .f32) (d : FVec Ideal S1x1024 .f32) (b : Fin 8) (t : Fin 2048) (C : Fin 1024) :
    val_main_v223 (F := Ideal) x w d (ix3 b t C) = conv (fun s => x (ix3 b s C)) (fun q => w (ix3 0 q C)) (d (ix2 0 C)) t.val := by
  have hb : val_main_v222 (F := Ideal) d (ix3 b t C) = d (ix2 0 C) := by
    unfold val_main_v222 val_main_v221 val_main_v220
    pointwise
  unfold conv
  refine congrArg₂ (· + ·) ?_ hb
  iterate 31 refine congrArg₂ (· + ·) ?_ (tap_apply x w b t C ⟨_, by decide⟩ _ _)
  exact start_apply b t C

/-- The normalised row of the convolution and its swish, from the convolution. -/
theorem tail_apply (y : FVec Ideal S8x2048x1024 .f32) (g e : FVec Ideal S1x1024 .f32) (b : Fin 8) (t : Fin 2048) (C : Fin 1024) (x : FVec Ideal S8x2048x1024 .f32) (w : FVec Ideal S1x31x1024 .f32) (d : FVec Ideal S1x1024 .f32) (hy : val_main_v223 (F := Ideal) x w d = y) :
    val_main_v249 (F := Ideal) x w d g e (ix3 b t C) = swish (lnorm (fun q => y (ix3 b t q)) (fun q => g (ix2 0 q)) (fun q => e (ix2 0 q)) C) := by
  unfold val_main_v249 val_main_v248 val_main_call0_v5 val_main_call0_v4 val_main_call0_cst_0 val_main_call0_v3 val_main_call0_v2 val_main_call0_cst val_main_call0_v1 val_main_call0_v0 val_main_v247 val_main_v246 val_main_v245 val_main_v244 val_main_v243 val_main_v242 val_main_v241 val_main_v240 val_main_v239 val_main_v238 val_main_v237 val_main_cst_5 val_main_v236 val_main_v235 val_main_cst_4 val_main_v234 val_main_v233 val_main_cst_3 val_main_v232 val_main_v231 val_main_v230 val_main_v229 val_main_v228 val_main_cst_2 val_main_v227 val_main_v226 val_main_cst_1 val_main_v225 val_main_v224
  rw [hy]
  unfold swish lnorm mean sigm
  pointwise

/-- The reference at an element. -/
theorem ref_apply (x : FVec Ideal S8x2048x1024 .f32) (w : FVec Ideal S1x31x1024 .f32) (d g e : FVec Ideal S1x1024 .f32) (b : Fin 8) (t : Fin 2048) (C : Fin 1024) :
    val_main_v249 (F := Ideal) x w d g e (ix3 b t C)
      = swish (lnorm (fun q => conv (fun s => x (ix3 b s q)) (fun k => w (ix3 0 k q)) (d (ix2 0 q)) t.val) (fun q => g (ix2 0 q)) (fun q => e (ix2 0 q)) C) := by
  rw [tail_apply _ g e b t C x w d rfl]
  rw [show (fun q => val_main_v223 (F := Ideal) x w d (ix3 b t q)) = _ from funext fun q => conv_apply x w d b t q]

end Cert.Reference12Ideal.Conv

end
-- ==== Proof.Conv.lean ====
/- The kernel of the depthwise convolution: a trip of its loop, the scratch it reads and the scratch it fills, the blocks of its
   result, and the value claim. -/
module

public import proofs.«01_k».proof.Proof.Gen.Kernel12Ideal.Value
public import proofs.«01_k».proof.Proof.ConvMath
public import proofs.«01_k».proof.Defs
public import Idealize.ShloMosaic.Lib.Pipeline.ValueKit
public import Idealize.ShloMosaic.Lib.Pipeline.ReadBack
public import Idealize.ShloMosaic.Lib.VecWindow
public import Idealize.ShloMosaic.Lib.Pointwise
public import Idealize.ShloMosaic.Lib.Claim

@[expose] public section

set_option maxRecDepth 16384

noncomputable section

namespace Cert.Kernel12Ideal.ConvP

open Cert.Kernel12Ideal Cert.Kernel12Ideal.Gen Cert.Rows Cert.Conv
open Idealize.ShloMosaic Idealize.ShloMosaic.TcCoe Idealize.ShloMosaic.Tactic Idealize.SL.Sem

/-- The window's rows by number: lane block, row, lane. -/
def win (f : S8x288x128.Idx → EReal) (c p l : ℕ) : EReal :=
  if h : c < 8 ∧ p < 288 ∧ l < 128 then f (ix3 (⟨c, h.1⟩ : Fin 8) (⟨p, h.2.1⟩ : Fin 288) (⟨l, h.2.2⟩ : Fin 128)) else 0

/-- The weights by number: tap, channel. -/
def wt (f : S31x1024.Idx → EReal) (k C : ℕ) : EReal :=
  if h : k < 31 ∧ C < 1024 then f (ix2 (⟨k, h.1⟩ : Fin 31) (⟨C, h.2⟩ : Fin 1024)) else 0

/-- A row of channels by number. -/
def lane (f : S1x1024.Idx → EReal) (C : ℕ) : EReal :=
  if h : C < 1024 then f (ix2 (0 : Fin 1) (⟨C, h⟩ : Fin 1024)) else 0

/-- The convolution at lane `l` of lane block `c` and row `n + j`, from the window, the weights and the biases. -/
def cell (f : S8x288x128.Idx → EReal) (w : S31x1024.Idx → EReal) (b : S1x1024.Idx → EReal) (c n j l : ℕ) : EReal :=
  taps (fun k => win f c (n + k + 2 + j) l * wt w k (c * 128 + l)) 31 + lane b (c * 128 + l)

theorem drop_apply (v : FVec Ideal S1x32x128 .f32) (h) (j : Fin 32) (l : Fin 128) : shapeCast S32x128 v h (ix2 j l) = v (ix3 0 j l) := by
  pointwise
theorem same_apply (v : FVec Ideal S32x128 .f32) (h) (j : Fin 32) (l : Fin 128) : shapeCast S32x128 v h (ix2 j l) = v (ix2 j l) := by
  pointwise
theorem spread_apply (v : FVec Ideal S1x128 .f32) (h h') (j : Fin 32) (l : Fin 128) : broadcastTo S32x128 (shapeCast S1x128 v h) h' (ix2 j l) = v (ix2 0 l) := by
  pointwise
theorem zero_apply (j : Fin 32) (l : Fin 128) : broadcast S32x128 (Scalar.ofBits (F := Ideal) .f32 0x00000000#32) (ix2 j l) = 0 := by
  pointwise

theorem add_at (a b : FVec Ideal S32x128 .f32) (y : S32x128.Idx) : addf a b y = (a y : EReal) + b y := rfl
theorem mul_at (a b : FVec Ideal S32x128 .f32) (y : S32x128.Idx) : mulf a b y = (a y : EReal) * b y := rfl

section Trip
variable (arg5 : Memref sig .tc .vmem S31x1024 .f32) (arg6 : Memref sig .tc .vmem S1x1024 .f32) (arg10 : Memref sig .tc .vmem S8x288x128 .f32)
  (X5 : BufTy.Contents (Elt Ideal) arg5.view.ty) (X6 : BufTy.Contents (Elt Ideal) arg6.view.ty) (X10 : BufTy.Contents (Elt Ideal) arg10.view.ty)

/-- A tap's term: a load of the window times a load of the weights. -/
theorem tap_apply (o : Fin 3 → ℕ) [ho : ClosedOff o] (c n k D : ℕ) (hf : ho.form = ![c, n + k + 2, 0]) (hD : D = c * 128) (hi) (hi') (j : Fin 32) (l : Fin 128) :
    (View.readAt (Elt Ideal) arg10.view (Rect.unit (s := S8x288x128) o S1x32x128.size hi).toLoadRect X10 (ix3 0 j l) : EReal)
      * View.readAt (Elt Ideal) arg5.view (Rect.unit (s := S31x1024) ![k, D] S1x128.size hi').toLoadRect X5 (ix2 0 l)
      = win (arg10.view.read (Elt Ideal) X10) c (n + k + 2 + j.val) l.val * wt (arg5.view.read (Elt Ideal) X5) k (c * 128 + l.val) := by
  have he : o = ![c, n + k + 2, 0] := ho.eq.trans hf
  clear hf
  subst he hD
  have b0 : c + 1 ≤ 8 := hi 0
  have b1 : n + k + 2 + 32 ≤ 288 := hi 1
  have b2 : k + 1 ≤ 31 := hi' 0
  refine congrArg₂ (· * ·) ?_ ?_
  · unfold win
    rw [dif_pos ⟨by omega, by omega, l.isLt⟩]
    refine congrArg (arg10.view.read (Elt Ideal) X10) (funext fun a => Fin.ext ?_)
    match a with
    | ⟨0, _⟩ => rfl
    | ⟨1, _⟩ => show n + k + 2 + 1 * j.val = n + k + 2 + j.val; omega
    | ⟨2, _⟩ => show 0 + 1 * l.val = l.val; omega
  · unfold wt
    rw [dif_pos ⟨by omega, by omega⟩]
    refine congrArg (arg5.view.read (Elt Ideal) X5) (funext fun a => Fin.ext ?_)
    match a with
    | ⟨0, _⟩ => rfl
    | ⟨1, _⟩ => show c * 128 + 1 * l.val = c * 128 + l.val; omega

/-- The biases' term. -/
theorem bias_apply (c D : ℕ) (hD : D = c * 128) (hi) (j : Fin 32) (l : Fin 128) :
    (View.readAt (Elt Ideal) arg6.view (Rect.unit (s := S1x1024) ![0, D] S1x128.size hi).toLoadRect X6 (ix2 0 l) : EReal)
      = lane (arg6.view.read (Elt Ideal) X6) (c * 128 + l.val) := by
  subst hD
  have b1 : c * 128 + 128 ≤ 1024 := hi 1
  unfold lane
  rw [dif_pos (by omega)]
  refine congrArg (arg6.view.read (Elt Ideal) X6) (funext fun a => Fin.ext ?_)
  match a with
  | ⟨0, _⟩ => rfl
  | ⟨1, _⟩ => show c * 128 + 1 * l.val = c * 128 + l.val; omega

end Trip

/-- The convolution as the scratch holds it. -/
def scratch (f : S8x288x128.Idx → EReal) (w : S31x1024.Idx → EReal) (b : S1x1024.Idx → EReal) : S256x1024.Idx → EReal :=
  fun y => cell f w b ((y 1).val / 128) 0 (y 0).val ((y 1).val % 128)

/-- A slab's lane block and row. -/
theorem scratch_at (f : S8x288x128.Idx → EReal) (w : S31x1024.Idx → EReal) (b : S1x1024.Idx → EReal) (o : Fin 2 → ℕ) [ho : ClosedOff o] (c n : ℕ) (hf : ho.form = ![n, c * 128]) (hi)
    (v : FVec Ideal S32x128 .f32) (h1) (hP : ∀ (j : Fin 32) (l : Fin 128), v (ix2 j l) = cell f w b c n j.val l.val) (x : S32x128.Idx) :
    shapeCast S32x128 v h1 x = scratch f w b ((Rect.unit (s := S256x1024) o S32x128.size hi).emb x) := by
  have he : o = ![n, c * 128] := ho.eq.trans hf
  clear hf
  subst he
  have h1 : (x 1).val < 128 := (x 1).isLt
  rw [show x = ix2 (x 0) (x 1) from funext fun a => by match a with | ⟨0, _⟩ => rfl | ⟨1, _⟩ => rfl]
  refine ((same_apply _ _ _ _).trans (hP _ _)).trans ?_
  show cell f w b c n (x 0).val (x 1).val = cell f w b ((c * 128 + 1 * (x 1).val) / 128) 0 (n + 1 * (x 0).val) ((c * 128 + 1 * (x 1).val) % 128)
  rw [show (c * 128 + 1 * (x 1).val) / 128 = c by omega, show (c * 128 + 1 * (x 1).val) % 128 = (x 1).val by omega]
  unfold cell
  refine congrArg (· + _) (taps_congr _ _ _ fun k _ => ?_)
  rw [show 0 + k + 2 + (n + 1 * (x 0).val) = n + k + 2 + (x 0).val by omega]

set_option maxHeartbeats 8000000 in
/-- A trip leaves the convolution in its slabs. -/
theorem trip_pieces (𝒱 : Variants) (c : Dev nD) (bd : Option 𝒱.V) (i : grid0.Coords) (arg2 harg2 arg3 harg3 arg4 harg4 arg5 harg5 arg6 harg6 arg7 harg7 arg8 harg8 arg9 harg9 arg10 harg10 arg11 harg11) (v101 : FVec Ideal S256x128 .f32) (X5) (X6) (X10) (k : Fin k0_t1_loop.trips) :
    View.PiecesOf (Val := Elt Ideal) (e := .f32) (scratch (arg10.view.read (Elt Ideal) X10) (arg5.view.read (Elt Ideal) X5) (arg6.view.read (Elt Ideal) X6))
      (tripL_k0_t1 (F := Ideal) 𝒱 c bd i arg2 harg2 arg3 harg3 arg4 harg4 arg5 harg5 arg6 harg6 arg7 harg7 arg8 harg8 arg9 harg9 arg10 harg10 arg11 harg11 v101 X5 X6 X10 k) := by
  unfold tripL_k0_t1 trip_k0_t1
  dsimp only [k0_pay129, k0_pay97, k0_pay82, k0_pay70, k0_pay55, k0_pay43, k0_pay28, k0_pay16]
  refine ⟨fun x => ?_, fun x => ?_, fun x => ?_, fun x => ?_, fun x => ?_, fun x => ?_, fun x => ?_, fun x => ?_, trivial⟩
  all_goals dsimp only
  on_goal 1 => refine scratch_at _ _ _ _ 7 (32 * k.val) rfl _ _ _ (fun j l => ?_) _
  on_goal 2 => refine scratch_at _ _ _ _ 6 (32 * k.val) rfl _ _ _ (fun j l => ?_) _
  on_goal 3 => refine scratch_at _ _ _ _ 5 (32 * k.val) rfl _ _ _ (fun j l => ?_) _
  on_goal 4 => refine scratch_at _ _ _ _ 4 (32 * k.val) rfl _ _ _ (fun j l => ?_) _
  on_goal 5 => refine scratch_at _ _ _ _ 3 (32 * k.val) rfl _ _ _ (fun j l => ?_) _
  on_goal 6 => refine scratch_at _ _ _ _ 2 (32 * k.val) rfl _ _ _ (fun j l => ?_) _
  on_goal 7 => refine scratch_at _ _ _ _ 1 (32 * k.val) rfl _ _ _ (fun j l => ?_) _
  on_goal 8 => refine scratch_at _ _ _ _ 0 (32 * k.val) rfl _ _ _ (fun j l => ?_) _
  all_goals
    dsimp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104, trip_k0_t1.sl.r_105, trip_k0_t1.sl.r_106, trip_k0_t1.sl.r_107, trip_k0_t1.sl.r_108, trip_k0_t1.sl.r_109, trip_k0_t1.sl.r_110, trip_k0_t1.sl.r_111, trip_k0_t1.sl.r_112, trip_k0_t1.sl.r_113, trip_k0_t1.sl.r_114, trip_k0_t1.sl.r_115, k0_pay2, k0_pay3, k0_pay4, k0_pay5, k0_pay6, k0_pay7, k0_pay8, k0_pay9, k0_pay10, k0_pay11, k0_pay12, k0_pay13, k0_pay14, k0_pay15, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay56, k0_pay57, k0_pay58, k0_pay59, k0_pay60, k0_pay61, k0_pay62, k0_pay63, k0_pay64, k0_pay65, k0_pay66, k0_pay67, k0_pay68, k0_pay69, k0_pay71, k0_pay72, k0_pay73, k0_pay74, k0_pay75, k0_pay76, k0_pay77, k0_pay78, k0_pay79, k0_pay80, k0_pay81, k0_pay83, k0_pay84, k0_pay85, k0_pay86, k0_pay87, k0_pay88, k0_pay89, k0_pay90, k0_pay91, k0_pay92, k0_pay93, k0_pay94, k0_pay95, k0_pay96, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123]
    simp only [add_at, mul_at, drop_apply, spread_apply, same_apply, zero_apply]
    unfold cell
    refine congrArg₂ (· + ·) ?_ (bias_apply arg6 X6 _ _ (by rfl) _ j l)
    iterate 31 refine congrArg₂ (· + ·) ?_ (tap_apply arg5 arg10 X5 X10 _ _ (32 * k.val) _ _ (by rfl) (by rfl) _ _ j l)
    rfl

end Cert.Kernel12Ideal.ConvP

end
-- ==== Proof.ConvRun.lean ====
/- A point of the depthwise convolution's grid: the window it gathers, the scratch its loop fills from the window, and what it
   leaves in its block of the result. -/
module

public import proofs.«01_k».proof.Proof.Conv

@[expose] public section

set_option maxRecDepth 16384

noncomputable section

namespace Cert.Kernel12Ideal.ConvP

open Cert.Kernel12Ideal Cert.Kernel12Ideal.Gen Cert.Rows Cert.Conv
open Idealize.ShloMosaic Idealize.ShloMosaic.TcCoe Idealize.ShloMosaic.Tactic Idealize.SL.Sem

/-- The window a point gathers: in each lane block thirty-two rows of the rows before it, or of zeros at the first point, then its own. -/
def held (v : BitVec 1) (x0 : S1x256x1024.Idx → EReal) (x1 x2 : S1x32x1024.Idx → EReal) : S8x288x128.Idx → EReal := fun y =>
  if h : (y 1).val < 32 then (if v = 1 then x2 else x1) (ix3 (0 : Fin 1) (⟨(y 1).val, h⟩ : Fin 32) (⟨(y 0).val * 128 + (y 2).val, by have h0 : (y 0).val < 8 := (y 0).isLt; have h2 : (y 2).val < 128 := (y 2).isLt; omega⟩ : Fin 1024))
  else x0 (ix3 (0 : Fin 1) (⟨(y 1).val - 32, by have h1 : (y 1).val < 288 := (y 1).isLt; omega⟩ : Fin 256) (⟨(y 0).val * 128 + (y 2).val, by have h0 : (y 0).val < 8 := (y 0).isLt; have h2 : (y 2).val < 128 := (y 2).isLt; omega⟩ : Fin 1024))

/-- A chosen slab, its leading extent dropped and restored. -/
theorem chosen_apply (v : BitVec 1) (a b : FVec Ideal S1x32x128 .f32) (h h' h'') (j : Fin 32) (l : Fin 128) :
    shapeCast S1x32x128 (Scalar.select v (shapeCast S32x128 a h) (shapeCast S32x128 b h')) h'' (ix3 0 j l) = (if v = 1 then a else b) (ix3 0 j l) := by
  unfold Scalar.select
  split
  · pointwise
  · pointwise

/-- A slab, its leading extent dropped and restored. -/
theorem whole_apply (a : FVec Ideal S1x256x128 .f32) (h h') (j : Fin 256) (l : Fin 128) :
    shapeCast S1x256x128 (shapeCast S256x128 a h) h' (ix3 0 j l) = a (ix3 0 j l) := by
  pointwise

section Window
variable (v : BitVec 1) (x0 : Vec Ideal S1x256x1024 .f32) (x1 x2 : Vec Ideal S1x32x1024 .f32)

/-- A load of a slab of thirty-two rows. -/
theorem load_apply (arg : Memref sig .tc .vmem S1x32x1024 .f32) (harg : arg.IsWhole) (x : Vec Ideal S1x32x1024 .f32) (k : ℕ) (hi) (j : Fin 32) (l : Fin 128) (C : Fin 1024) (hC : C.val = k * 128 + l.val) :
    (View.readAt (Elt Ideal) arg.view (Rect.unit (s := S1x32x1024) ![0, 0, k * 128] S1x32x128.size hi).toLoadRect (harg.unread x) (ix3 0 j l) : EReal) = x (ix3 0 j C) := by
  rw [View.readAt_apply, harg.read_unread]
  refine congrArg x (funext fun a => Fin.ext ?_)
  match a with
  | ⟨0, _⟩ => rfl
  | ⟨1, _⟩ => show 0 + 1 * j.val = j.val; omega
  | ⟨2, _⟩ => show k * 128 + 1 * l.val = C.val; omega

/-- The rows before a point's, as its window holds them. -/
theorem before_piece (arg3 : Memref sig .tc .vmem S1x32x1024 .f32) (harg3 : arg3.IsWhole) (arg4 : Memref sig .tc .vmem S1x32x1024 .f32) (harg4 : arg4.IsWhole)
    (k D : ℕ) (hD : D = k * 128) (hi hj hk) (h h' h'') (x : S1x32x128.Idx) :
    (shapeCast S1x32x128 (Scalar.select v (shapeCast S32x128 (View.readAt (Elt Ideal) arg4.view (Rect.unit (s := S1x32x1024) ![0, 0, D] S1x32x128.size hi).toLoadRect (harg4.unread x2) : FVec Ideal S1x32x128 .f32) h)
        (shapeCast S32x128 (View.readAt (Elt Ideal) arg3.view (Rect.unit (s := S1x32x1024) ![0, 0, D] S1x32x128.size hj).toLoadRect (harg3.unread x1) : FVec Ideal S1x32x128 .f32) h')) h'' : FVec Ideal S1x32x128 .f32) x
      = held v x0 x1 x2 ((Rect.unit (s := S8x288x128) ![k, 0, 0] S1x32x128.size hk).emb x) := by
  subst hD
  have hk0 : k + 1 ≤ 8 := hk 0
  have e0 : (x 0).val < 1 := (x 0).isLt
  have e1 : (x 1).val < 32 := (x 1).isLt
  have e2 : (x 2).val < 128 := (x 2).isLt
  have ex : x = ix3 (0 : Fin 1) (⟨(x 1).val, e1⟩ : Fin 32) (⟨(x 2).val, e2⟩ : Fin 128) := funext fun a => by
    match a with
    | ⟨0, _⟩ => exact Fin.ext (by show (x 0).val = 0; omega)
    | ⟨1, _⟩ => rfl
    | ⟨2, _⟩ => rfl
  rw [ex]
  refine (chosen_apply v _ _ _ _ _ _ _).trans ?_
  unfold held
  refine Eq.trans ?_ (dif_pos (show 0 + 1 * (x 1).val < 32 by omega)).symm
  have eC : ∀ h, (ix3 (0 : Fin 1) (⟨0 + 1 * (x 1).val, by omega⟩ : Fin 32) (⟨(k + 1 * 0) * 128 + (0 + 1 * (x 2).val), h⟩ : Fin 1024) : S1x32x1024.Idx) = ix3 (0 : Fin 1) (⟨(x 1).val, e1⟩ : Fin 32) (⟨k * 128 + (x 2).val, by omega⟩ : Fin 1024) := fun h => by
    refine funext fun a => Fin.ext ?_
    match a with
    | ⟨0, _⟩ => rfl
    | ⟨1, _⟩ => show 0 + 1 * (x 1).val = (x 1).val; omega
    | ⟨2, _⟩ => show (k + 1 * 0) * 128 + (0 + 1 * (x 2).val) = k * 128 + (x 2).val; omega
  refine Eq.trans ?_ (congrArg (if v = 1 then x2 else x1) (eC (by omega)).symm)
  split
  · exact load_apply arg4 harg4 x2 k hi _ _ _ rfl
  · exact load_apply arg3 harg3 x1 k hj _ _ _ rfl

/-- A point's own rows, as its window holds them. -/
theorem own_piece (arg2 : Memref sig .tc .vmem S1x256x1024 .f32) (harg2 : arg2.IsWhole) (k D : ℕ) (hD : D = k * 128) (hi hk) (h h') (x : S1x256x128.Idx) :
    (shapeCast S1x256x128 (shapeCast S256x128 (View.readAt (Elt Ideal) arg2.view (Rect.unit (s := S1x256x1024) ![0, 0, D] S1x256x128.size hi).toLoadRect (harg2.unread x0) : FVec Ideal S1x256x128 .f32) h) h' : FVec Ideal S1x256x128 .f32) x
      = held v x0 x1 x2 ((Rect.unit (s := S8x288x128) ![k, 32, 0] S1x256x128.size hk).emb x) := by
  subst hD
  have hk0 : k + 1 ≤ 8 := hk 0
  have e0 : (x 0).val < 1 := (x 0).isLt
  have e1 : (x 1).val < 256 := (x 1).isLt
  have e2 : (x 2).val < 128 := (x 2).isLt
  have ex : x = ix3 (0 : Fin 1) (⟨(x 1).val, e1⟩ : Fin 256) (⟨(x 2).val, e2⟩ : Fin 128) := funext fun a => by
    match a with
    | ⟨0, _⟩ => exact Fin.ext (by show (x 0).val = 0; omega)
    | ⟨1, _⟩ => rfl
    | ⟨2, _⟩ => rfl
  rw [ex]
  refine (whole_apply _ _ _ _ _).trans ?_
  unfold held
  refine Eq.trans ?_ (dif_neg (show ¬(32 + 1 * (x 1).val < 32) by omega)).symm
  rw [View.readAt_apply, harg2.read_unread]
  refine congrArg x0 (funext fun a => Fin.ext ?_)
  match a with
  | ⟨0, _⟩ => rfl
  | ⟨1, _⟩ => show 0 + 1 * (x 1).val = 32 + 1 * (x 1).val - 32; omega
  | ⟨2, _⟩ => show k * 128 + 1 * (x 2).val = (k + 1 * 0) * 128 + (0 + 1 * (x 2).val); omega

end Window

section Point
variable (c : Dev nD) (i : grid0.Coords) (arg2 : Memref sig .tc .vmem S1x256x1024 .f32) (harg2 : arg2.IsWhole) (arg3 : Memref sig .tc .vmem S1x32x1024 .f32) (harg3 : arg3.IsWhole) (arg4 : Memref sig .tc .vmem S1x32x1024 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S8x288x128 .f32) (harg10 : arg10.IsWhole) (arg11 : Memref sig .tc .vmem S256x1024 .f32) (harg11 : arg11.IsWhole)

/-- The stores of the window are its pieces. -/
theorem window_pieces (x0 : Vec Ideal S1x256x1024 .f32) (x1 x2 : Vec Ideal S1x32x1024 .f32) :
    View.PiecesOf (Val := Elt Ideal) (e := .f32) (held (kernelRun0_A.sl.v0 i) x0 x1 x2) (kernelRun0_A.sl.HS0_16 (F := Ideal) c i arg2 harg2 arg3 harg3 arg4 harg4 x0 x1 x2) := by
  unfold kernelRun0_A.sl.HS0_16
  dsimp only [kernelRun0_A.sl.r, kernelRun0_A.sl.r_1, kernelRun0_A.sl.r_2, kernelRun0_A.sl.r_3, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  all_goals dsimp only
  all_goals first
    | exact before_piece _ x0 x1 x2 arg3 harg3 arg4 harg4 _ _ (by rfl) _ _ _ _ _ _ x
    | exact own_piece _ x0 x1 x2 arg2 harg2 _ _ (by rfl) _ _ _ _ x

/-- The window after its stores. -/
theorem window_read (x0 : Vec Ideal S1x256x1024 .f32) (x1 x2 : Vec Ideal S1x32x1024 .f32) :
    arg10.view.read (Elt Ideal) (arg10.view.writes (Elt Ideal) arg10.view.junk (kernelRun0_A.sl.HS0_16 (F := Ideal) c i arg2 harg2 arg3 harg3 arg4 harg4 x0 x1 x2)) = held (kernelRun0_A.sl.v0 i) x0 x1 x2 := by
  rw [View.read_writes_junk_eq_canon]
  refine funext fun y => ?_
  exact View.canon_apply_of_pieces _ _ (window_pieces c i arg2 harg2 arg3 harg3 arg4 harg4 x0 x1 x2).mem y (View.cover_of_tiledBy _ ![1, 32, 128] (by sl_kernel_rfl) y)

variable (v101 : FVec Ideal S256x128 .f32) (X5 : BufTy.Contents (Elt Ideal) arg5.view.ty) (X6 : BufTy.Contents (Elt Ideal) arg6.view.ty) (X10 : BufTy.Contents (Elt Ideal) arg10.view.ty)

/-- The trips' stores are pieces of the convolution. -/
theorem loop_pieces : ∀ n : ℕ, ∀ p ∈ pb_k0_t1 (F := Ideal) Variants.none c none i arg2 harg2 arg3 harg3 arg4 harg4 arg5 harg5 arg6 harg6 arg7 harg7 arg8 harg8 arg9 harg9 arg10 harg10 arg11 harg11 v101 X5 X6 X10 n, ∀ x,
    p.2 x = scratch (arg10.view.read (Elt Ideal) X10) (arg5.view.read (Elt Ideal) X5) (arg6.view.read (Elt Ideal) X6) (p.1.emb x)
  | 0, p, hp, x => absurd hp List.not_mem_nil
  | n + 1, p, hp, x => by
    rw [pb_k0_t1.eq_2] at hp
    unfold pb_k0_t1Step at hp
    split at hp
    · rcases List.mem_append.mp hp with hp | hp
      · exact (trip_pieces Variants.none c none i arg2 harg2 arg3 harg3 arg4 harg4 arg5 harg5 arg6 harg6 arg7 harg7 arg8 harg8 arg9 harg9 arg10 harg10 arg11 harg11 v101 X5 X6 X10 _).mem p hp x
      · exact loop_pieces n p hp x
    · exact loop_pieces n p hp x

/-- The scratch after the loop. -/
theorem loop_read (h) :
    arg11.view.readCov (Val := Elt Ideal) (pb_k0_t1 (F := Ideal) Variants.none c none i arg2 harg2 arg3 harg3 arg4 harg4 arg5 harg5 arg6 harg6 arg7 harg7 arg8 harg8 arg9 harg9 arg10 harg10 arg11 harg11 v101 X5 X6 X10 (Scf.trips (0#32) (Scalar.addi 0#32 8#32) 1#32)) (Rect.unit (s := S256x1024) ![0, 0] S256x1024.size h).toLoadRect
      = scratch (arg10.view.read (Elt Ideal) X10) (arg5.view.read (Elt Ideal) X5) (arg6.view.read (Elt Ideal) X6) := by
  rw [View.readCov_eq_canon']
  refine funext fun y => ?_
  refine (View.canon_apply_of_pieces _ _ (loop_pieces c i arg2 harg2 arg3 harg3 arg4 harg4 arg5 harg5 arg6 harg6 arg7 harg7 arg8 harg8 arg9 harg9 arg10 harg10 arg11 harg11 v101 X5 X6 X10 _) _ (View.cover_of_tiledL _ ![32, 128] (by sl_kernel_rfl) _)).trans ?_
  refine congrArg (scratch _ _ _) (funext fun a => Fin.ext ?_)
  match a with
  | ⟨0, _⟩ => show 0 + 1 * (y 0).val = (y 0).val; omega
  | ⟨1, _⟩ => show 0 + 1 * (y 1).val = (y 1).val; omega

/-- What a point leaves: the normalised convolution of its window. -/
theorem out_A (x0 : Vec Ideal S1x256x1024 .f32) (x1 x2 : Vec Ideal S1x32x1024 .f32) (x3 : Vec Ideal S31x1024 .f32) (x4 x5 x6 : Vec Ideal S1x1024 .f32) :
    out0_A_7 (F := Ideal) c i arg2 harg2 arg3 harg3 arg4 harg4 arg5 harg5 arg6 harg6 arg7 harg7 arg8 harg8 arg9 harg9 arg10 harg10 arg11 harg11 x0 x1 x2 x3 x4 x5 x6 = k0_pay1 (F := Ideal) (k0_pay130 (F := Ideal) (scratch (held (kernelRun0_A.sl.v0 i) x0 x1 x2) x3 x4) x5 x6) := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 x0 x1 x2 x3 x4 x5 x6)]
  unfold kernelRun0_A
  dsimp only [kernelRun0_A.sl.r_4]
  rw [loop_read, window_read, harg5.read_unread, harg6.read_unread]
  frame_out

end Point

/-- A row of the normalised convolution. -/
theorem pay_apply (v : FVec Ideal S256x1024 .f32) (g b : FVec Ideal S1x1024 .f32) (r : Fin 256) (C : Fin 1024) :
    k0_pay1 (F := Ideal) (k0_pay130 (F := Ideal) v g b) (ix3 0 r C) = swish (lnorm (fun q => v (ix2 r q)) (fun q => g (ix2 0 q)) (fun q => b (ix2 0 q)) C) := by
  unfold k0_pay1 k0_pay130 swish lnorm mean sigm
  pointwise
  simp only [zero_sub]

end Cert.Kernel12Ideal.ConvP

end
-- ==== Proof.ConvValue.lean ====
/- The depthwise convolution of the prompt's gated product: the blocks of its result, and the value claim. -/
module

public import proofs.«01_k».proof.Proof.ConvRun

@[expose] public section

set_option maxRecDepth 16384

noncomputable section

namespace Cert.Kernel12Ideal.ConvP

open Cert.Kernel12Ideal Cert.Kernel12Ideal.Gen Cert.Rows Cert.Conv
open Idealize.ShloMosaic Idealize.ShloMosaic.TcCoe Idealize.SL.Sem

/-- The window's first thirty-two rows. -/
theorem held_before (v : BitVec 1) (x0 : S1x256x1024.Idx → EReal) (x1 x2 : S1x32x1024.Idx → EReal) (C : Fin 1024) (p : ℕ) (h : p < 32) :
    win (held v x0 x1 x2) (C.val / 128) p (C.val % 128) = (if v = 1 then x2 else x1) (ix3 (0 : Fin 1) (⟨p, h⟩ : Fin 32) C) := by
  unfold win
  rw [dif_pos ⟨by omega, by omega, by omega⟩]
  unfold held
  refine (dif_pos (show p < 32 from h)).trans ?_
  refine congrArg (if v = 1 then x2 else x1) (funext fun a => Fin.ext ?_)
  match a with
  | ⟨0, _⟩ => rfl
  | ⟨1, _⟩ => rfl
  | ⟨2, _⟩ => show C.val / 128 * 128 + C.val % 128 = C.val; omega

/-- The window's other rows. -/
theorem held_own (v : BitVec 1) (x0 : S1x256x1024.Idx → EReal) (x1 x2 : S1x32x1024.Idx → EReal) (C : Fin 1024) (p : ℕ) (h : ¬p < 32) (h' : p - 32 < 256) :
    win (held v x0 x1 x2) (C.val / 128) p (C.val % 128) = x0 (ix3 (0 : Fin 1) (⟨p - 32, h'⟩ : Fin 256) C) := by
  unfold win
  rw [dif_pos ⟨by omega, by omega, by omega⟩]
  unfold held
  refine (dif_neg (show ¬p < 32 from h)).trans ?_
  refine congrArg x0 (funext fun a => Fin.ext ?_)
  match a with
  | ⟨0, _⟩ => rfl
  | ⟨1, _⟩ => rfl
  | ⟨2, _⟩ => show C.val / 128 * 128 + C.val % 128 = C.val; omega

theorem lnorm_congr (v v' g g' b b' : Fin 1024 → EReal) (k : Fin 1024) (hv : ∀ q, v q = v' q) (hg : ∀ q, g q = g' q) (hb : ∀ q, b q = b' q) : lnorm v g b k = lnorm v' g' b' k := by
  rw [funext hv, funext hg, funext hb]

theorem ref_congr (x x' : FVec Ideal S8x2048x1024 .f32) (w w' : FVec Ideal S1x31x1024 .f32) (d d' g g' e e' : FVec Ideal S1x1024 .f32) (hx : x = x') (hw : w = w') (hd : d = d') (hg : g = g') (he : e = e') :
    Cert.Reference12Ideal.Read.val_main_v249 (F := Ideal) x w d g e = Cert.Reference12Ideal.Read.val_main_v249 (F := Ideal) x' w' d' g' e' := by
  rw [hx, hw, hd, hg, he]

theorem zeros_apply (j : Fin 32) (C : Fin 1024) :
    broadcastInDim S1x32x1024 ![] bcast_S_S1x32x1024 (constant (F := Ideal) S_ .f32 0x00000000#32) (ix3 0 j C) = 0 := by
  pointwise

theorem weights_apply (w : FVec Ideal S1x31x1024 .f32) (k : Fin 31) (C : Fin 1024) : shapeCast S31x1024 w shapeCasts_S1x31x1024_S31x1024 (ix2 k C) = w (ix3 0 k C) := by
  pointwise

theorem row_apply (b : FVec Ideal S1x1024 .f32) (C : Fin 1024) :
    shapeCast S1x1024 (shapeCast S1024 b shapeCasts_S1x1024_S1024) shapeCasts_S1024_S1x1024 (ix2 0 C) = b (ix2 0 C) := by
  pointwise

variable (m : (ℓ : Loc nD τ sig) → Buf (Elt Ideal) ℓ)

theorem at0 : ∀ t : Fin grid0.N, cc0_transform_0 (grid0.coords t) = ![t.val / 8, t.val % 8, 0] := by decide +kernel
theorem at1 : ∀ t : Fin grid0.N, cc0_transform_1 (grid0.coords t) = ![t.val / 8, t.val % 8 * 8 - 1, 0] := by decide +kernel
theorem at2 : ∀ t : Fin grid0.N, cc0_transform_2 (grid0.coords t) = ![0, 0, 0] := by decide +kernel
theorem at3 : ∀ t : Fin grid0.N, cc0_transform_3 (grid0.coords t) = ![0, 0] := by decide +kernel
theorem at4 : ∀ t : Fin grid0.N, cc0_transform_4 (grid0.coords t) = ![0, 0] := by decide +kernel
theorem at5 : ∀ t : Fin grid0.N, cc0_transform_5 (grid0.coords t) = ![0, 0] := by decide +kernel
theorem at6 : ∀ t : Fin grid0.N, cc0_transform_6 (grid0.coords t) = ![0, 0] := by decide +kernel
theorem at7 : ∀ t : Fin grid0.N, cc0_transform_7 (grid0.coords t) = ![t.val / 8, t.val % 8, 0] := by decide +kernel

/-- The first point of a prompt takes the zeros. -/
theorem first_at : ∀ t : Fin grid0.N, kernelRun0_A.sl.v0 (grid0.coords t) = if t.val % 8 = 0 then 1#1 else 0#1 := by decide +kernel

/-- The zeros, the weights and the rows at the region's entry. -/
theorem zeros_in (c : Dev nD) : (V m c main_v0 : S1x32x1024.Idx → EReal) = broadcastInDim S1x32x1024 ![] bcast_S_S1x32x1024 (constant (F := Ideal) S_ .f32 0x00000000#32) := by
  show StableHlo.after hostOps0 _ (Proc.devRef .tc main_v0) = _
  after_results
theorem weights_in (c : Dev nD) : (V m c main_v1 : S31x1024.Idx → EReal) = shapeCast S31x1024 (m ((c : Thread nD τ).loc main_arg1) : S1x31x1024.Idx → EReal) shapeCasts_S1x31x1024_S31x1024 := by
  show StableHlo.after hostOps0 _ (Proc.devRef .tc main_v1) = _
  after_results
  rfl
theorem bias_in (c : Dev nD) : (V m c main_v5 : S1x1024.Idx → EReal) = shapeCast S1x1024 (shapeCast S1024 (m ((c : Thread nD τ).loc main_arg2) : S1x1024.Idx → EReal) shapeCasts_S1x1024_S1024) shapeCasts_S1024_S1x1024 := by
  show StableHlo.after hostOps0 _ (Proc.devRef .tc main_v5) = _
  after_results
  rfl
theorem scale_in (c : Dev nD) : (V m c main_v6 : S1x1024.Idx → EReal) = shapeCast S1x1024 (shapeCast S1024 (m ((c : Thread nD τ).loc main_arg3) : S1x1024.Idx → EReal) shapeCasts_S1x1024_S1024) shapeCasts_S1024_S1x1024 := by
  show StableHlo.after hostOps0 _ (Proc.devRef .tc main_v6) = _
  after_results
  rfl
theorem shift_in (c : Dev nD) : (V m c main_v7 : S1x1024.Idx → EReal) = shapeCast S1x1024 (shapeCast S1024 (m ((c : Thread nD τ).loc main_arg4) : S1x1024.Idx → EReal) shapeCasts_S1x1024_S1024) shapeCasts_S1024_S1x1024 := by
  show StableHlo.after hostOps0 _ (Proc.devRef .tc main_v7) = _
  after_results
  rfl

theorem block0 (c : Dev nD) (t : Fin cfg0.N) (r : Fin 256) (C : Fin 1024) (b : Fin 8) (s : Fin 2048) (hb : b.val = t.val / 8) (hs : s.val = t.val % 8 * 256 + r.val) :
    (iblk m c 0 t : S1x256x1024.Idx → EReal) (ix3 0 r C) = (m ((c : Thread nD τ).loc main_arg0) : S8x2048x1024.Idx → EReal) (ix3 b s C) := by
  refine Eq.trans ?_ (congrFun (V_main_arg0 m c) _)
  refine congrArg (V m c main_arg0 : S8x2048x1024.Idx → EReal) (funext fun a => Fin.ext ?_)
  refine (Pipeline.Window.rect_emb_val (cfg0.win 0) t (ix3 0 r C) a rfl).trans ?_
  show cc0_transform_0 (grid0.coords t) a * _ + _ = _
  rw [at0]
  match a with
  | ⟨0, _⟩ => show t.val / 8 * 1 + 0 = b.val; omega
  | ⟨1, _⟩ => exact hs.symm
  | ⟨2, _⟩ => show 0 * 1024 + C.val = C.val; omega

theorem block1 (c : Dev nD) (t : Fin cfg0.N) (j : Fin 32) (C : Fin 1024) (b : Fin 8) (s : Fin 2048) (hb : b.val = t.val / 8) (hs : s.val = (t.val % 8 * 8 - 1) * 32 + j.val) :
    (iblk m c 1 t : S1x32x1024.Idx → EReal) (ix3 0 j C) = (m ((c : Thread nD τ).loc main_arg0) : S8x2048x1024.Idx → EReal) (ix3 b s C) := by
  refine Eq.trans ?_ (congrFun (V_main_arg0 m c) _)
  refine congrArg (V m c main_arg0 : S8x2048x1024.Idx → EReal) (funext fun a => Fin.ext ?_)
  refine (Pipeline.Window.rect_emb_val (cfg0.win 1) t (ix3 0 j C) a rfl).trans ?_
  show cc0_transform_1 (grid0.coords t) a * _ + _ = _
  rw [at1]
  match a with
  | ⟨0, _⟩ => show t.val / 8 * 1 + 0 = b.val; omega
  | ⟨1, _⟩ => exact hs.symm
  | ⟨2, _⟩ => show 0 * 1024 + C.val = C.val; omega

theorem block2 (c : Dev nD) (t : Fin cfg0.N) (j : Fin 32) (C : Fin 1024) : (iblk m c 2 t : S1x32x1024.Idx → EReal) (ix3 0 j C) = (0 : EReal) := by
  have e : (iblk m c 2 t : S1x32x1024.Idx → EReal) (ix3 0 j C) = (V m c main_v0 : S1x32x1024.Idx → EReal) (ix3 0 j C) := by
    refine congrArg (V m c main_v0 : S1x32x1024.Idx → EReal) (funext fun a => Fin.ext ?_)
    refine (Pipeline.Window.rect_emb_val (cfg0.win 2) t (ix3 0 j C) a rfl).trans ?_
    show cc0_transform_2 (grid0.coords t) a * _ + _ = _
    rw [at2]
    match a with
    | ⟨0, _⟩ => rfl
    | ⟨1, _⟩ => show 0 * 32 + j.val = j.val; omega
    | ⟨2, _⟩ => show 0 * 1024 + C.val = C.val; omega
  rw [e, zeros_in]
  exact zeros_apply _ _

theorem block3 (c : Dev nD) (t : Fin cfg0.N) (k : Fin 31) (C : Fin 1024) :
    (iblk m c 3 t : S31x1024.Idx → EReal) (ix2 k C) = (m ((c : Thread nD τ).loc main_arg1) : S1x31x1024.Idx → EReal) (ix3 0 k C) := by
  have e : (iblk m c 3 t : S31x1024.Idx → EReal) (ix2 k C) = (V m c main_v1 : S31x1024.Idx → EReal) (ix2 k C) := by
    refine congrArg (V m c main_v1 : S31x1024.Idx → EReal) (funext fun a => Fin.ext ?_)
    refine (Pipeline.Window.rect_emb_val (cfg0.win 3) t (ix2 k C) a rfl).trans ?_
    show cc0_transform_3 (grid0.coords t) a * _ + _ = _
    rw [at3]
    match a with
    | ⟨0, _⟩ => show 0 * 31 + k.val = k.val; omega
    | ⟨1, _⟩ => show 0 * 1024 + C.val = C.val; omega
  rw [e, weights_in]
  exact weights_apply _ _ _

theorem block4 (c : Dev nD) (t : Fin cfg0.N) (C : Fin 1024) :
    (iblk m c 4 t : S1x1024.Idx → EReal) (ix2 0 C) = (m ((c : Thread nD τ).loc main_arg2) : S1x1024.Idx → EReal) (ix2 0 C) := by
  have e : (iblk m c 4 t : S1x1024.Idx → EReal) (ix2 0 C) = (V m c main_v5 : S1x1024.Idx → EReal) (ix2 0 C) := by
    refine congrArg (V m c main_v5 : S1x1024.Idx → EReal) (funext fun a => Fin.ext ?_)
    refine (Pipeline.Window.rect_emb_val (cfg0.win 4) t (ix2 0 C) a rfl).trans ?_
    show cc0_transform_4 (grid0.coords t) a * _ + _ = _
    rw [at4]
    match a with
    | ⟨0, _⟩ => rfl
    | ⟨1, _⟩ => show 0 * 1024 + C.val = C.val; omega
  rw [e, bias_in]
  exact row_apply _ _

theorem block5 (c : Dev nD) (t : Fin cfg0.N) (C : Fin 1024) :
    (iblk m c 5 t : S1x1024.Idx → EReal) (ix2 0 C) = (m ((c : Thread nD τ).loc main_arg3) : S1x1024.Idx → EReal) (ix2 0 C) := by
  have e : (iblk m c 5 t : S1x1024.Idx → EReal) (ix2 0 C) = (V m c main_v6 : S1x1024.Idx → EReal) (ix2 0 C) := by
    refine congrArg (V m c main_v6 : S1x1024.Idx → EReal) (funext fun a => Fin.ext ?_)
    refine (Pipeline.Window.rect_emb_val (cfg0.win 5) t (ix2 0 C) a rfl).trans ?_
    show cc0_transform_5 (grid0.coords t) a * _ + _ = _
    rw [at5]
    match a with
    | ⟨0, _⟩ => rfl
    | ⟨1, _⟩ => show 0 * 1024 + C.val = C.val; omega
  rw [e, scale_in]
  exact row_apply _ _

theorem block6 (c : Dev nD) (t : Fin cfg0.N) (C : Fin 1024) :
    (iblk m c 6 t : S1x1024.Idx → EReal) (ix2 0 C) = (m ((c : Thread nD τ).loc main_arg4) : S1x1024.Idx → EReal) (ix2 0 C) := by
  have e : (iblk m c 6 t : S1x1024.Idx → EReal) (ix2 0 C) = (V m c main_v7 : S1x1024.Idx → EReal) (ix2 0 C) := by
    refine congrArg (V m c main_v7 : S1x1024.Idx → EReal) (funext fun a => Fin.ext ?_)
    refine (Pipeline.Window.rect_emb_val (cfg0.win 6) t (ix2 0 C) a rfl).trans ?_
    show cc0_transform_6 (grid0.coords t) a * _ + _ = _
    rw [at6]
    match a with
    | ⟨0, _⟩ => rfl
    | ⟨1, _⟩ => show 0 * 1024 + C.val = C.val; omega
  rw [e, shift_in]
  exact row_apply _ _

/-- The row of a point's window two after its `n`-th is the prompt's row thirty before the point's `n`-th, or zero before the prompt. -/
theorem window_row (c : Dev nD) (t : Fin cfg0.N) (b : Fin 8) (hb : b.val = t.val / 8) (C : Fin 1024) (n : ℕ) (hn : n < 286) :
    win (held (kernelRun0_A.sl.v0 (grid0.coords t)) (iblk m c 0 t) (iblk m c 1 t) (iblk m c 2 t)) (C.val / 128) (n + 2) (C.val % 128)
      = padded (fun s => (m ((c : Thread nD τ).loc main_arg0) : S8x2048x1024.Idx → EReal) (ix3 b s C)) (t.val % 8 * 256 + n) := by
  have ht : t.val < 64 := lt_of_lt_of_eq t.isLt N_0
  unfold padded
  by_cases h : n + 2 < 32
  · refine (held_before _ _ _ _ C (n + 2) h).trans ?_
    rw [first_at]
    by_cases h0 : t.val % 8 = 0
    · rw [if_pos h0, if_pos (by decide), dif_neg (by omega)]
      exact block2 m c t _ C
    · rw [if_neg h0, if_neg (by decide), dif_pos ⟨by omega, by omega⟩]
      exact block1 m c t _ C b _ hb (by show t.val % 8 * 256 + n - 30 = (t.val % 8 * 8 - 1) * 32 + (n + 2); omega)
  · refine (held_own _ _ _ _ C (n + 2) h (by omega)).trans ?_
    rw [dif_pos ⟨by omega, by omega⟩]
    exact block0 m c t _ C b _ hb (by show t.val % 8 * 256 + n - 30 = t.val % 8 * 256 + (n + 2 - 32); omega)

/-- The scratch at a point is the convolution of its rows. -/
theorem scratch_row (c : Dev nD) (t : Fin cfg0.N) (r : Fin 256) (q : Fin 1024) (b : Fin 8) (s : Fin 2048) (hb : b.val = t.val / 8) (hs : s.val = t.val % 8 * 256 + r.val) :
    scratch (held (kernelRun0_A.sl.v0 (grid0.coords t)) (iblk m c 0 t) (iblk m c 1 t) (iblk m c 2 t)) (iblk m c 3 t) (iblk m c 4 t) (ix2 r q)
      = conv (fun s => (m ((c : Thread nD τ).loc main_arg0) : S8x2048x1024.Idx → EReal) (ix3 b s q)) (fun k => (m ((c : Thread nD τ).loc main_arg1) : S1x31x1024.Idx → EReal) (ix3 0 k q)) ((m ((c : Thread nD τ).loc main_arg2) : S1x1024.Idx → EReal) (ix2 0 q)) s.val := by
  show cell _ _ _ (q.val / 128) 0 r.val (q.val % 128) = _
  unfold cell conv
  have eq : q.val / 128 * 128 + q.val % 128 = q.val := by omega
  rw [eq]
  refine congrArg₂ (· + ·) (taps_congr _ _ _ fun k hk => congrArg₂ (· * ·) ?_ ?_) ?_
  · rw [show 0 + k + 2 + r.val = r.val + k + 2 by omega, show s.val + k = t.val % 8 * 256 + (r.val + k) by omega]
    exact window_row m c t b hb q (r.val + k) (by omega)
  · unfold wt weight
    rw [dif_pos ⟨hk, q.isLt⟩, dif_pos hk]
    exact block3 m c t _ q
  · unfold lane
    rw [dif_pos q.isLt]
    exact block4 m c t q

/-- The result, as the reference's last value of the arguments. -/
def resultOf (c : Dev nD) : S8x2048x1024.Idx → EReal :=
  Cert.Reference12Ideal.Read.val_main_v249 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- What a point leaves is the reference's value of its block. -/
theorem left_at (c : Dev nD) (t : Fin cfg0.N) (r : Fin 256) (C : Fin 1024) (b : Fin 8) (s : Fin 2048) (hb : b.val = t.val / 8) (hs : s.val = t.val % 8 * 256 + r.val) :
    outsAt0 m c t (ix3 0 r C) = resultOf m c (ix3 b s C) := by
  unfold outsAt0
  rw [out_A]
  refine (pay_apply _ _ _ _ _).trans ?_
  refine Eq.trans ?_ (Cert.Reference12Ideal.Conv.ref_apply _ _ _ _ _ b s C).symm
  exact congrArg swish (lnorm_congr _ _ _ _ _ _ C (fun q => scratch_row m c t r q b s hb hs) (fun q => block5 m c t q) (fun q => block6 m c t q))

theorem final (c : Dev nD) : (dats m 0 c).arrAt 7 cfg0.N = resultOf m c := by
  refine (dats m 0 c).arrAt_eq_of_covers 7 (resultOf m c) (by decide +kernel) fun t hf y => ?_
  have hy0 : (y 0).val < 1 := (y 0).isLt
  have hy1 : (y 1).val < 256 := (y 1).isLt
  have hy2 : (y 2).val < 1024 := (y 2).isLt
  have ht : t.val < 64 := lt_of_lt_of_eq t.isLt N_0
  have hb : t.val / 8 * 1 + (y 0).val < 8 := by omega
  have hb' : t.val / 8 * 1 + (y 0).val = t.val / 8 := by omega
  have hs : t.val % 8 * 256 + (y 1).val < 2048 := by omega
  have ei : ((cfg0.win 7).blk t).view.emb y = ix3 (⟨_, hb⟩ : Fin 8) (⟨_, hs⟩ : Fin 2048) (⟨_, hy2⟩ : Fin 1024) := by
    refine funext fun a => Fin.ext ?_
    refine (Pipeline.Window.rect_emb_val (cfg0.win 7) t y a rfl).trans ?_
    show cc0_transform_7 (grid0.coords t) a * _ + _ = _
    rw [at7]
    match a with
    | ⟨0, _⟩ => rfl
    | ⟨1, _⟩ => rfl
    | ⟨2, _⟩ => show 0 * 1024 + (y 2).val = (y 2).val; omega
  have ey : (cfg0.win 7).xinj (grid0.coords t) y = ix3 (0 : Fin 1) (⟨_, hy1⟩ : Fin 256) (⟨_, hy2⟩ : Fin 1024) := by
    refine funext fun a => ?_
    match a with
    | ⟨0, _⟩ => exact Fin.ext (by show (y 0).val = 0; omega)
    | ⟨1, _⟩ => rfl
    | ⟨2, _⟩ => rfl
  have ef : (dats m 0 c).after 7 t ((cfg0.win 7).xinj (grid0.coords t) y) = outsAt0 m c t (ix3 (0 : Fin 1) (⟨_, hy1⟩ : Fin 256) (⟨_, hy2⟩ : Fin 1024)) := by
    rw [after0_7, ey]
  exact Eq.trans ef ((left_at m c t _ _ ⟨_, hb⟩ ⟨_, hs⟩ hb' rfl).trans (congrArg (resultOf m c) ei.symm))

end Cert.Kernel12Ideal.ConvP

namespace Cert.Proof

open Idealize.ShloMosaic Idealize.ShloMosaic.TcCoe Idealize.SL.Sem

theorem conv_algebraic : Cert.algebraic_Kernel12Ideal_Reference12Ideal := fun m g m' g' _ hagree => by
  refine ⟨fun c => Cert.Kernel12Ideal.ConvP.resultOf m c, ?_, ?_⟩
  · refine (θ_run _ _ _).mono (fun r hr c => ?_) (Cert.Kernel12Ideal.Value.run_blocks (F := Ideal) m g)
    exact ⟨(hr c).1.trans (Cert.Kernel12Ideal.ConvP.final m c), (hr c).2⟩
  · refine (θ_run _ _ _).mono (fun r hr c => ?_) (Cert.Reference12Ideal.Value.run (F := Ideal) m' g')
    obtain ⟨h0, h1, h2, h3, h4⟩ := hagree c
    obtain rfl : c = 0 := Subsingleton.elim _ _
    refine ⟨(hr 0).1.trans ?_, (hr 0).2⟩
    refine (Cert.Reference12Ideal.Read.val_main_v249_eq (F := Ideal) _).trans ?_
    exact Cert.Kernel12Ideal.ConvP.ref_congr _ _ _ _ _ _ _ _ _ _ h0 h1 h2 h3 h4

theorem conv_ref_frame : Cert.quiescent_Reference12Ideal := fun m g _ =>
  (θ_run _ _ _).mono (fun r hr => ⟨fun c => (hr c).2, sem_eq_zero_of_no_sems (by decide) r.2⟩) (Cert.Reference12Ideal.Value.run (F := Ideal) m g)

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Read
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Read
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Read
public import proofs.«01_k».proof.Proof.Gen.Reference6Ideal.Run
public import proofs.«01_k».proof.Proof.Gen.KernelIdeal.Value
public import proofs.«01_k».proof.Proof.Gen.ReferenceIdeal.Read
public import proofs.«01_k».proof.Proof.Tiles
public import proofs.«01_k».proof.Proof.TilesBits
public import Idealize.ShloMosaic.Adequacy
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Read
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Read
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Read
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Read
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Read
public import proofs.«01_k».proof.Proof.KvWin
public import proofs.«01_k».proof.Proof.KvPaged
public import proofs.«01_k».proof.Proof.Out2
public import proofs.«01_k».proof.Proof.Proj
public import proofs.«01_k».proof.Proof.Out1
public import proofs.«01_k».proof.Proof.GluNew
public import proofs.«01_k».proof.Proof.Glu
public import proofs.«01_k».proof.Proof.Up
public import proofs.«01_k».proof.Proof.Down
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Read
public import proofs.«01_k».proof.Proof.Gen.Reference12Ideal.Run
public import proofs.«01_k».proof.Proof.ConvValue
public import proofs.«01_k».proof.Proof.Gen.Reference11Ideal.Run
public import Idealize.ShloMosaic.Init

@[expose] public section

noncomputable section

namespace Cert.Proof

open Idealize.ShloMosaic Idealize.SL.Sem Cert.Kernel

theorem ref_frame : Cert.quiescent_ReferenceIdeal := fun m g _ =>
  (θ_run _ _ _).mono (fun r hr => ⟨fun c => (hr c).2, sem_eq_zero_of_no_sems (by decide) r.2⟩) (Cert.ReferenceIdeal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_tiles_in_range.Gen.facts,
  fun m g _ => Cert.Kernel.Gen.frame m g, fun m g _ => Cert.KernelIdeal.Gen.frame m g, ref_frame,
  Cert.Kernel2.Tiles.frame_claim, Cert.Kernel2Ideal.Tiles.frame_claim, tiles_ref_frame, tiles_ref_frame_pre,
  fun m g _ => Cert.Kernel3.Gen.frame m g, fun m g _ => Cert.Kernel3Ideal.Gen.frame m g, glu_ref_frame,
  fun m g _ => Cert.Kernel4.Gen.frame m g, fun m g _ => Cert.Kernel4Ideal.Gen.frame m g, gluNew_ref_frame,
  fun m g _ => Cert.Kernel5.Gen.frame m g, fun m g _ => Cert.Kernel5Ideal.Gen.frame m g, up_ref_frame,
  fun m g _ => Cert.Kernel6.Gen.frame m g, fun m g _ => Cert.Kernel6Ideal.Gen.frame m g, down_ref_frame,
  fun m g _ => Cert.Kernel7.Gen.frame m g, fun m g _ => Cert.Kernel7Ideal.Gen.frame m g, out1_ref_frame,
  fun m g _ => Cert.Kernel8.Gen.frame m g, fun m g _ => Cert.Kernel8Ideal.Gen.frame m g, proj_ref_frame,
  fun m g _ => Cert.Kernel9.Gen.frame m g, fun m g _ => Cert.Kernel9Ideal.Gen.frame m g, out2_ref_frame,
  fun m g _ => Cert.Kernel10.Gen.frame m g, fun m g _ => Cert.Kernel10Ideal.Gen.frame m g, kvPaged_ref_frame,
  fun m g _ => Cert.Kernel11.Gen.frame m g, fun m g _ => Cert.Kernel11Ideal.Gen.frame m g, kvWin_ref_frame,
  fun m g _ => Cert.Kernel12.Gen.frame m g, fun m g _ => Cert.Kernel12Ideal.Gen.frame m g, conv_ref_frame,
  trivial, trivial, tiles_algebraic,
  trivial, glu_algebraic, trivial, gluNew_algebraic, trivial, up_algebraic, trivial, down_algebraic, trivial, out1_algebraic, trivial, proj_algebraic, trivial, out2_algebraic, trivial, kvPaged_algebraic, trivial, kvWin_algebraic, trivial, conv_algebraic⟩

end Cert.Proof

end
